-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_at_least_minus_one [hPre_scores_at_least_minus_one : Cert.Pre_scores_at_least_minus_one.Facts] (m : (ℓ : Loc Cert.KernelIdeal.nD Cert.KernelIdeal.τ Cert.KernelIdeal.sig) → Buf (Elt Ideal) ℓ) : Prop :=
  ∀ c : Dev Cert.KernelIdeal.nD,
    (Cert.Pre_scores_at_least_minus_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_at_least_minus_one [hPre_scores_at_least_minus_one : Cert.Pre_scores_at_least_minus_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_at_least_minus_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scores_at_least_minus_one [hKernelIdeal : Cert.KernelIdeal.Facts] [hPre_scores_at_least_minus_one : Cert.Pre_scores_at_least_minus_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_at_least_minus_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scores_at_least_minus_one [hReferenceIdeal : Cert.ReferenceIdeal.Facts] [hPre_scores_at_least_minus_one : Cert.Pre_scores_at_least_minus_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_at_least_minus_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_scores_at_least_minus_one [hKernelIdeal : Cert.KernelIdeal.Facts] [hReferenceIdeal : Cert.ReferenceIdeal.Facts] [hPre_scores_at_least_minus_one : Cert.Pre_scores_at_least_minus_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_at_least_minus_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_scores_at_least_minus_one : Cert.Pre_scores_at_least_minus_one.Facts),
    quiescent_Kernel (hKernel := hKernel)
    ∧ quiescent_KernelIdeal (hKernelIdeal := hKernelIdeal)
    ∧ quiescent_KernelIdeal_pre_scores_at_least_minus_one (hKernelIdeal := hKernelIdeal) (hPre_scores_at_least_minus_one := hPre_scores_at_least_minus_one)
    ∧ quiescent_ReferenceIdeal (hReferenceIdeal := hReferenceIdeal)
    ∧ quiescent_ReferenceIdeal_pre_scores_at_least_minus_one (hReferenceIdeal := hReferenceIdeal) (hPre_scores_at_least_minus_one := hPre_scores_at_least_minus_one)
    ∧ preserves_Kernel_KernelIdeal
    ∧ algebraic_KernelIdeal_ReferenceIdeal_pre_scores_at_least_minus_one (hKernelIdeal := hKernelIdeal) (hReferenceIdeal := hReferenceIdeal) (hPre_scores_at_least_minus_one := hPre_scores_at_least_minus_one)
-- ==== Pre_scores_at_least_minus_one.lean ====
abbrev S16x31x31x36 : Shape := ⟨4, ![16, 31, 31, 36]⟩
abbrev S16x31x31x9 : Shape := ⟨4, ![16, 31, 31, 9]⟩
abbrev S16x15 : Shape := ⟨2, ![16, 15]⟩
abbrev S8649x4 : Shape := ⟨2, ![8649, 4]⟩
abbrev S_ : Shape := ⟨0, ![]⟩

class Facts : Prop where
  bcast_S_S16x31x31x9 : S_.BroadcastsInDim S16x31x31x9 (![] : Fin 0 → Fin S16x31x31x9.rank)
  reducesTo_S16x31x31x9_S_d0_1_2_3 : S16x31x31x9.ReducesTo [0, 1, 2, 3] S_
  h_S_ : 0 < S_.numel

variable [Facts]

def fn {F : FTy → Type} [FloatOps F] (main_arg0 : FVec F S16x31x31x36 .f32) (main_arg1 : FVec F S16x31x31x9 .f32) (main_arg2 : IVec S16x15 32) (main_arg3 : FVec F S8649x4 .f32) : IVec S_ 1 :=
  let main_cst : FVec F S_ .f32 := constant S_ .f32 0xBF800000#32
  let main_v0 : FVec F S16x31x31x9 .f32 := broadcastInDim S16x31x31x9 ![] bcast_S_S16x31x31x9 main_cst
  let main_v1 : IVec S16x31x31x9 1 := cmpf .oge main_arg1 main_v0
  let main_c : IVec S_ 1 := constantI S_ 1 1#1
  let main_v2 : IVec S_ 1 := (fun x v => Host.reduce IntOp.andi x v reducesTo_S16x31x31x9_S_d0_1_2_3 h_S_) main_v1 main_c
  main_v2
-- ==== Kernel.lean ====
abbrev S16x31x31x36 : Shape := ⟨4, ![16, 31, 31, 36]⟩
abbrev S16x31x31x9 : Shape := ⟨4, ![16, 31, 31, 9]⟩
abbrev S16x15 : Shape := ⟨2, ![16, 15]⟩
abbrev S8649x4 : Shape := ⟨2, ![8649, 4]⟩
abbrev S16x8649x4 : Shape := ⟨3, ![16, 8649, 4]⟩
abbrev S4x16x8649 : Shape := ⟨3, ![4, 16, 8649]⟩
abbrev S_ : Shape := ⟨0, ![]⟩
abbrev S4x16x16384 : Shape := ⟨3, ![4, 16, 16384]⟩
abbrev S16x8649 : Shape := ⟨2, ![16, 8649]⟩
abbrev S16x16384 : Shape := ⟨2, ![16, 16384]⟩
abbrev S4x8649 : Shape := ⟨2, ![4, 8649]⟩
abbrev S4x1x8649 : Shape := ⟨3, ![4, 1, 8649]⟩
abbrev S4x1x16384 : Shape := ⟨3, ![4, 1, 16384]⟩
abbrev S16x8x256 : Shape := ⟨3, ![16, 8, 256]⟩
abbrev S16x4x256 : Shape := ⟨3, ![16, 4, 256]⟩
abbrev S16x256x4 : Shape := ⟨3, ![16, 256, 4]⟩
abbrev S16x1x256 : Shape := ⟨3, ![16, 1, 256]⟩
abbrev S16x256 : Shape := ⟨2, ![16, 256]⟩
abbrev S5x16x16384 : Shape := ⟨3, ![5, 16, 16384]⟩
abbrev S7x8x16x128 : Shape := ⟨4, ![7, 8, 16, 128]⟩
abbrev S1x1x16384 : Shape := ⟨3, ![1, 1, 16384]⟩
abbrev S1x16384 : Shape := ⟨2, ![1, 16384]⟩
abbrev S1x16x16384 : Shape := ⟨3, ![1, 16, 16384]⟩
abbrev S16x1024 : Shape := ⟨2, ![16, 1024]⟩
abbrev S16x128 : Shape := ⟨2, ![16, 128]⟩
abbrev S1x1x16x128 : Shape := ⟨4, ![1, 1, 16, 128]⟩
abbrev S16x128x1 : Shape := ⟨3, ![16, 128, 1]⟩
abbrev S16x1x128 : Shape := ⟨3, ![16, 1, 128]⟩
abbrev S16x128x128 : Shape := ⟨3, ![16, 128, 128]⟩
abbrev S16 : Shape := ⟨1, ![16]⟩
abbrev S16x1 : Shape := ⟨2, ![16, 1]⟩
abbrev S16x128x256 : Shape := ⟨3, ![16, 128, 256]⟩
abbrev S16x3x128 : Shape := ⟨3, ![16, 3, 128]⟩
abbrev S16x8x128 : Shape := ⟨3, ![16, 8, 128]⟩

abbrev nBuf : Space → Nat
  | .hbm => 23
  | .vmem => 7
  | .smem => 0
  | _ => 0

abbrev bufTy : (tb : Table) → Fin (tcTables nBuf tb) → BufTy
  | .hbm, ⟨0, _⟩ => ⟨S16x31x31x36, .f32⟩
  | .hbm, ⟨1, _⟩ => ⟨S16x31x31x9, .f32⟩
  | .hbm, ⟨2, _⟩ => ⟨S16x15, .i32⟩
  | .hbm, ⟨3, _⟩ => ⟨S8649x4, .f32⟩
  | .hbm, ⟨4, _⟩ => ⟨S16x8649x4, .f32⟩
  | .hbm, ⟨5, _⟩ => ⟨S4x16x8649, .f32⟩
  | .hbm, ⟨6, _⟩ => ⟨S_, .i32⟩
  | .hbm, ⟨7, _⟩ => ⟨S_, .f32⟩
  | .hbm, ⟨8, _⟩ => ⟨S4x16x16384, .f32⟩
  | .hbm, ⟨9, _⟩ => ⟨S16x8649, .f32⟩
  | .hbm, ⟨10, _⟩ => ⟨S_, .f32⟩
  | .hbm, ⟨11, _⟩ => ⟨S_, .f32⟩
  | .hbm, ⟨12, _⟩ => ⟨S16x16384, .f32⟩
  | .hbm, ⟨13, _⟩ => ⟨S4x8649, .f32⟩
  | .hbm, ⟨14, _⟩ => ⟨S4x1x8649, .f32⟩
  | .hbm, ⟨15, _⟩ => ⟨S_, .i32⟩
  | .hbm, ⟨16, _⟩ => ⟨S_, .f32⟩
  | .hbm, ⟨17, _⟩ => ⟨S4x1x16384, .f32⟩
  | .hbm, ⟨18, _⟩ => ⟨S16x8x256, .f32⟩
  | .hbm, ⟨19, _⟩ => ⟨S16x4x256, .f32⟩
  | .hbm, ⟨20, _⟩ => ⟨S16x256x4, .f32⟩
  | .hbm, ⟨21, _⟩ => ⟨S16x1x256, .f32⟩
  | .hbm, ⟨22, _⟩ => ⟨S16x256, .f32⟩
  | .local _ .vmem, ⟨0, _⟩ => ⟨S4x16x16384, .f32⟩
  | .local _ .vmem, ⟨1, _⟩ => ⟨S16x16384, .f32⟩
  | .local _ .vmem, ⟨2, _⟩ => ⟨S4x1x16384, .f32⟩
  | .local _ .vmem, ⟨3, _⟩ => ⟨S16x8x256, .f32⟩
  | .local _ .vmem, ⟨4, _⟩ => ⟨S5x16x16384, .f32⟩
  | .local _ .vmem, ⟨5, _⟩ => ⟨S16x16384, .i32⟩
  | .local _ .vmem, ⟨6, _⟩ => ⟨S7x8x16x128, .f32⟩
  | _, _ => ⟨S16x31x31x36, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_c : Ref sig .tc := ⟨.hbm, 6, rfl⟩
abbrev main_call0_call0_v0 : Ref sig .tc := ⟨.hbm, 7, rfl⟩
abbrev main_call0_v2 : Ref sig .tc := ⟨.hbm, 8, rfl⟩
abbrev main_call0_v3 : Ref sig .tc := ⟨.hbm, 9, rfl⟩
abbrev main_call0_cst : Ref sig .tc := ⟨.hbm, 10, rfl⟩
abbrev main_call0_call1_v0 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_c_0 : Ref sig .tc := ⟨.hbm, 15, rfl⟩
abbrev main_call0_call2_v0 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_v0_0 : Ref sig .tc := ⟨.hbm, 20, rfl⟩
abbrev main_call0_v11 : Ref sig .tc := ⟨.hbm, 21, rfl⟩
abbrev main_v0_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c105_i32 : BitVec 32 := 105#32
  let v75 : BitVec 32 := Scalar.addi c0_i32 c105_i32
  let c1_i32_45 : BitVec 32 := 1#32
  ⟨c0_i32, v75, c1_i32_45⟩
@[reducible] def k0_t2_loop : Scf.Loop 32 :=
  let c0_i32_284 : BitVec 32 := 0#32
  let c8_i32 : BitVec 32 := 8#32
  let v329 : BitVec 32 := Scalar.addi c0_i32_284 c8_i32
  let c1_i32_285 : BitVec 32 := 1#32
  ⟨c0_i32_284, v329, c1_i32_285⟩
def k0_off1 (k0_t2 : Fin k0_t2_loop.trips) : Fin 4 → Nat :=
  let c0_523 : Index := 0#32
  let c0_i32_284 : BitVec 32 := 0#32
  let c1_i32_285 : BitVec 32 := 1#32
  let arg7 : BitVec 32 := Scf.iv c0_i32_284 c1_i32_285 k0_t2
  let v629 : Index := Scalar.indexCast arg7
  let c0_524 : Index := 0#32
  let c0_525 : Index := 0#32
  ![0, v629.toNat, 0, 0]
def k0_off2 (k0_t2 : Fin k0_t2_loop.trips) : Fin 4 → Nat :=
  let c1_526 : Index := 1#32
  let c0_i32_284 : BitVec 32 := 0#32
  let c1_i32_285 : BitVec 32 := 1#32
  let arg7 : BitVec 32 := Scf.iv c0_i32_284 c1_i32_285 k0_t2
  let v632 : Index := Scalar.indexCast arg7
  let c0_527 : Index := 0#32
  let c0_528 : Index := 0#32
  ![1, v632.toNat, 0, 0]
def k0_off3 (k0_t2 : Fin k0_t2_loop.trips) : Fin 4 → Nat :=
  let c2_529 : Index := 2#32
  let c0_i32_284 : BitVec 32 := 0#32
  let c1_i32_285 : BitVec 32 := 1#32
  let arg7 : BitVec 32 := Scf.iv c0_i32_284 c1_i32_285 k0_t2
  let v635 : Index := Scalar.indexCast arg7
  let c0_530 : Index := 0#32
  let c0_531 : Index := 0#32
  ![2, v635.toNat, 0, 0]
def k0_off4 (k0_t2 : Fin k0_t2_loop.trips) : Fin 4 → Nat :=
  let c3_532 : Index := 3#32
  let c0_i32_284 : BitVec 32 := 0#32
  let c1_i32_285 : BitVec 32 := 1#32
  let arg7 : BitVec 32 := Scf.iv c0_i32_284 c1_i32_285 k0_t2
  let v638 : Index := Scalar.indexCast arg7
  let c0_533 : Index := 0#32
  let c0_534 : Index := 0#32
  ![3, v638.toNat, 0, 0]
def k0_off5 (k0_t2 : Fin k0_t2_loop.trips) : Fin 4 → Nat :=
  let c6_535 : Index := 6#32
  let c0_i32_284 : BitVec 32 := 0#32
  let c1_i32_285 : BitVec 32 := 1#32
  let arg7 : BitVec 32 := Scf.iv c0_i32_284 c1_i32_285 k0_t2
  let v641 : Index := Scalar.indexCast arg7
  let c0_536 : Index := 0#32
  let c0_537 : Index := 0#32
  ![6, v641.toNat, 0, 0]
def k0_off6 (k0_t2 : Fin k0_t2_loop.trips) : Fin 4 → Nat :=
  let c5_538 : Index := 5#32
  let c0_i32_284 : BitVec 32 := 0#32
  let c1_i32_285 : BitVec 32 := 1#32
  let arg7 : BitVec 32 := Scf.iv c0_i32_284 c1_i32_285 k0_t2
  let v644 : Index := Scalar.indexCast arg7
  let c0_539 : Index := 0#32
  let c0_540 : Index := 0#32
  ![5, v644.toNat, 0, 0]
@[reducible] def k0_t3_loop (k0_t2 : Fin k0_t2_loop.trips) : Scf.Loop 32 :=
  let c0_i32_541 : BitVec 32 := 0#32
  let c0_i32_284 : BitVec 32 := 0#32
  let c1_i32_285 : BitVec 32 := 1#32
  let arg7 : BitVec 32 := Scf.iv c0_i32_284 c1_i32_285 k0_t2
  let v647 : BitVec 32 := Scalar.subi arg7 c0_i32_541
  let c1_i32_542 : BitVec 32 := 1#32
  let v649 : BitVec 32 := Scalar.divsi v647 c1_i32_542
  let v650 : BitVec 32 := Scalar.muli v649 c1_i32_542
  let v651 : BitVec 32 := Scalar.addi c0_i32_541 v650
  let c1_i32_543 : BitVec 32 := 1#32
  ⟨c0_i32_541, v651, c1_i32_543⟩
def k0_off7 (k0_t2 : Fin k0_t2_loop.trips) (k0_t3 : Fin (k0_t3_loop k0_t2).trips) : Fin 4 → Nat :=
  let c0_552 : Index := 0#32
  let c0_i32_541 : BitVec 32 := 0#32
  let c1_i32_543 : BitVec 32 := 1#32
  let arg8 : BitVec 32 := Scf.iv c0_i32_541 c1_i32_543 k0_t3
  let v660 : Index := Scalar.indexCast arg8
  let c0_553 : Index := 0#32
  let c0_554 : Index := 0#32
  ![0, v660.toNat, 0, 0]
def k0_off8 (k0_t2 : Fin k0_t2_loop.trips) (k0_t3 : Fin (k0_t3_loop k0_t2).trips) : Fin 4 → Nat :=
  let c1_555 : Index := 1#32
  let c0_i32_541 : BitVec 32 := 0#32
  let c1_i32_543 : BitVec 32 := 1#32
  let arg8 : BitVec 32 := Scf.iv c0_i32_541 c1_i32_543 k0_t3
  let v664 : Index := Scalar.indexCast arg8
  let c0_556 : Index := 0#32
  let c0_557 : Index := 0#32
  ![1, v664.toNat, 0, 0]
def k0_off9 (k0_t2 : Fin k0_t2_loop.trips) (k0_t3 : Fin (k0_t3_loop k0_t2).trips) : Fin 4 → Nat :=
  let c2_558 : Index := 2#32
  let c0_i32_541 : BitVec 32 := 0#32
  let c1_i32_543 : BitVec 32 := 1#32
  let arg8 : BitVec 32 := Scf.iv c0_i32_541 c1_i32_543 k0_t3
  let v668 : Index := Scalar.indexCast arg8
  let c0_559 : Index := 0#32
  let c0_560 : Index := 0#32
  ![2, v668.toNat, 0, 0]
def k0_off10 (k0_t2 : Fin k0_t2_loop.trips) (k0_t3 : Fin (k0_t3_loop k0_t2).trips) : Fin 4 → Nat :=
  let c3_561 : Index := 3#32
  let c0_i32_541 : BitVec 32 := 0#32
  let c1_i32_543 : BitVec 32 := 1#32
  let arg8 : BitVec 32 := Scf.iv c0_i32_541 c1_i32_543 k0_t3
  let v672 : Index := Scalar.indexCast arg8
  let c0_562 : Index := 0#32
  let c0_563 : Index := 0#32
  ![3, v672.toNat, 0, 0]
def k0_off11 (k0_t2 : Fin k0_t2_loop.trips) (k0_t3 : Fin (k0_t3_loop k0_t2).trips) : Fin 4 → Nat :=
  let c6_564 : Index := 6#32
  let c0_i32_541 : BitVec 32 := 0#32
  let c1_i32_543 : BitVec 32 := 1#32
  let arg8 : BitVec 32 := Scf.iv c0_i32_541 c1_i32_543 k0_t3
  let v676 : Index := Scalar.indexCast arg8
  let c0_565 : Index := 0#32
  let c0_566 : Index := 0#32
  ![6, v676.toNat, 0, 0]
def k0_off12 (k0_t2 : Fin k0_t2_loop.trips) (k0_t3 : Fin (k0_t3_loop k0_t2).trips) : Fin 4 → Nat :=
  let c5_567 : Index := 5#32
  let c0_i32_541 : BitVec 32 := 0#32
  let c1_i32_543 : BitVec 32 := 1#32
  let arg8 : BitVec 32 := Scf.iv c0_i32_541 c1_i32_543 k0_t3
  let v680 : Index := Scalar.indexCast arg8
  let c0_568 : Index := 0#32
  let c0_569 : Index := 0#32
  ![5, v680.toNat, 0, 0]
@[reducible] def k0_t4_loop (k0_t2 : Fin k0_t2_loop.trips) : Scf.Loop 32 :=
  let c0_i32_541 : BitVec 32 := 0#32
  let c0_i32_284 : BitVec 32 := 0#32
  let c1_i32_285 : BitVec 32 := 1#32
  let arg7 : BitVec 32 := Scf.iv c0_i32_284 c1_i32_285 k0_t2
  let v647 : BitVec 32 := Scalar.subi arg7 c0_i32_541
  let c1_i32_542 : BitVec 32 := 1#32
  let v649 : BitVec 32 := Scalar.divsi v647 c1_i32_542
  let v650 : BitVec 32 := Scalar.muli v649 c1_i32_542
  let v651 : BitVec 32 := Scalar.addi c0_i32_541 v650
  let v648 : BitVec 32 := Scalar.addi c0_i32_541 v647
  let c1_i32_544 : BitVec 32 := 1#32
  ⟨v651, v648, c1_i32_544⟩
def k0_off13 (k0_t2 : Fin k0_t2_loop.trips) (k0_t4 : Fin (k0_t4_loop k0_t2).trips) : Fin 4 → Nat :=
  let c0_552 : Index := 0#32
  let c0_i32_541 : BitVec 32 := 0#32
  let c0_i32_284 : BitVec 32 := 0#32
  let c1_i32_285 : BitVec 32 := 1#32
  let arg7 : BitVec 32 := Scf.iv c0_i32_284 c1_i32_285 k0_t2
  let v647 : BitVec 32 := Scalar.subi arg7 c0_i32_541
  let c1_i32_542 : BitVec 32 := 1#32
  let v649 : BitVec 32 := Scalar.divsi v647 c1_i32_542
  let v650 : BitVec 32 := Scalar.muli v649 c1_i32_542
  let v651 : BitVec 32 := Scalar.addi c0_i32_541 v650
  let c1_i32_544 : BitVec 32 := 1#32
  let arg8 : BitVec 32 := Scf.iv v651 c1_i32_544 k0_t4
  let v660 : Index := Scalar.indexCast arg8
  let c0_553 : Index := 0#32
  let c0_554 : Index := 0#32
  ![0, v660.toNat, 0, 0]
def k0_off14 (k0_t2 : Fin k0_t2_loop.trips) (k0_t4 : Fin (k0_t4_loop k0_t2).trips) : Fin 4 → Nat :=
  let c1_555 : Index := 1#32
  let c0_i32_541 : BitVec 32 := 0#32
  let c0_i32_284 : BitVec 32 := 0#32
  let c1_i32_285 : BitVec 32 := 1#32
  let arg7 : BitVec 32 := Scf.iv c0_i32_284 c1_i32_285 k0_t2
  let v647 : BitVec 32 := Scalar.subi arg7 c0_i32_541
  let c1_i32_542 : BitVec 32 := 1#32
  let v649 : BitVec 32 := Scalar.divsi v647 c1_i32_542
  let v650 : BitVec 32 := Scalar.muli v649 c1_i32_542
  let v651 : BitVec 32 := Scalar.addi c0_i32_541 v650
  let c1_i32_544 : BitVec 32 := 1#32
  let arg8 : BitVec 32 := Scf.iv v651 c1_i32_544 k0_t4
  let v664 : Index := Scalar.indexCast arg8
  let c0_556 : Index := 0#32
  let c0_557 : Index := 0#32
  ![1, v664.toNat, 0, 0]
def k0_off15 (k0_t2 : Fin k0_t2_loop.trips) (k0_t4 : Fin (k0_t4_loop k0_t2).trips) : Fin 4 → Nat :=
  let c2_558 : Index := 2#32
  let c0_i32_541 : BitVec 32 := 0#32
  let c0_i32_284 : BitVec 32 := 0#32
  let c1_i32_285 : BitVec 32 := 1#32
  let arg7 : BitVec 32 := Scf.iv c0_i32_284 c1_i32_285 k0_t2
  let v647 : BitVec 32 := Scalar.subi arg7 c0_i32_541
  let c1_i32_542 : BitVec 32 := 1#32
  let v649 : BitVec 32 := Scalar.divsi v647 c1_i32_542
  let v650 : BitVec 32 := Scalar.muli v649 c1_i32_542
  let v651 : BitVec 32 := Scalar.addi c0_i32_541 v650
  let c1_i32_544 : BitVec 32 := 1#32
  let arg8 : BitVec 32 := Scf.iv v651 c1_i32_544 k0_t4
  let v668 : Index := Scalar.indexCast arg8
  let c0_559 : Index := 0#32
  let c0_560 : Index := 0#32
  ![2, v668.toNat, 0, 0]
def k0_off16 (k0_t2 : Fin k0_t2_loop.trips) (k0_t4 : Fin (k0_t4_loop k0_t2).trips) : Fin 4 → Nat :=
  let c3_561 : Index := 3#32
  let c0_i32_541 : BitVec 32 := 0#32
  let c0_i32_284 : BitVec 32 := 0#32
  let c1_i32_285 : BitVec 32 := 1#32
  let arg7 : BitVec 32 := Scf.iv c0_i32_284 c1_i32_285 k0_t2
  let v647 : BitVec 32 := Scalar.subi arg7 c0_i32_541
  let c1_i32_542 : BitVec 32 := 1#32
  let v649 : BitVec 32 := Scalar.divsi v647 c1_i32_542
  let v650 : BitVec 32 := Scalar.muli v649 c1_i32_542
  let v651 : BitVec 32 := Scalar.addi c0_i32_541 v650
  let c1_i32_544 : BitVec 32 := 1#32
  let arg8 : BitVec 32 := Scf.iv v651 c1_i32_544 k0_t4
  let v672 : Index := Scalar.indexCast arg8
  let c0_562 : Index := 0#32
  let c0_563 : Index := 0#32
  ![3, v672.toNat, 0, 0]
def k0_off17 (k0_t2 : Fin k0_t2_loop.trips) (k0_t4 : Fin (k0_t4_loop k0_t2).trips) : Fin 4 → Nat :=
  let c6_564 : Index := 6#32
  let c0_i32_541 : BitVec 32 := 0#32
  let c0_i32_284 : BitVec 32 := 0#32
  let c1_i32_285 : BitVec 32 := 1#32
  let arg7 : BitVec 32 := Scf.iv c0_i32_284 c1_i32_285 k0_t2
  let v647 : BitVec 32 := Scalar.subi arg7 c0_i32_541
  let c1_i32_542 : BitVec 32 := 1#32
  let v649 : BitVec 32 := Scalar.divsi v647 c1_i32_542
  let v650 : BitVec 32 := Scalar.muli v649 c1_i32_542
  let v651 : BitVec 32 := Scalar.addi c0_i32_541 v650
  let c1_i32_544 : BitVec 32 := 1#32
  let arg8 : BitVec 32 := Scf.iv v651 c1_i32_544 k0_t4
  let v676 : Index := Scalar.indexCast arg8
  let c0_565 : Index := 0#32
  let c0_566 : Index := 0#32
  ![6, v676.toNat, 0, 0]
def k0_off18 (k0_t2 : Fin k0_t2_loop.trips) (k0_t4 : Fin (k0_t4_loop k0_t2).trips) : Fin 4 → Nat :=
  let c5_567 : Index := 5#32
  let c0_i32_541 : BitVec 32 := 0#32
  let c0_i32_284 : BitVec 32 := 0#32
  let c1_i32_285 : BitVec 32 := 1#32
  let arg7 : BitVec 32 := Scf.iv c0_i32_284 c1_i32_285 k0_t2
  let v647 : BitVec 32 := Scalar.subi arg7 c0_i32_541
  let c1_i32_542 : BitVec 32 := 1#32
  let v649 : BitVec 32 := Scalar.divsi v647 c1_i32_542
  let v650 : BitVec 32 := Scalar.muli v649 c1_i32_542
  let v651 : BitVec 32 := Scalar.addi c0_i32_541 v650
  let c1_i32_544 : BitVec 32 := 1#32
  let arg8 : BitVec 32 := Scf.iv v651 c1_i32_544 k0_t4
  let v680 : Index := Scalar.indexCast arg8
  let c0_568 : Index := 0#32
  let c0_569 : Index := 0#32
  ![5, v680.toNat, 0, 0]
@[reducible] def k0_t5_loop : Scf.Loop 32 :=
  let c0_i32_545 : BitVec 32 := 0#32
  let c128_i32_546 : BitVec 32 := 128#32
  let v654 : BitVec 32 := Scalar.addi c0_i32_545 c128_i32_546
  let c1_i32_547 : BitVec 32 := 1#32
  ⟨c0_i32_545, v654, c1_i32_547⟩
abbrev stage0_0 : Fin 1 → Memref sig .tc .vmem S4x16x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16x31x31x36 : Shape := ⟨4, ![16, 31, 31, 36]⟩
abbrev S16x31x31x9 : Shape := ⟨4, ![16, 31, 31, 9]⟩
abbrev S16x15 : Shape := ⟨2, ![16, 15]⟩
abbrev S8649x4 : Shape := ⟨2, ![8649, 4]⟩
abbrev S4 : Shape := ⟨1, ![4]⟩
abbrev S16x8649x4 : Shape := ⟨3, ![16, 8649, 4]⟩
abbrev S16x8649 : Shape := ⟨2, ![16, 8649]⟩
abbrev S1x1x4 : Shape := ⟨3, ![1, 1, 4]⟩
abbrev S8649x1 : Shape := ⟨2, ![8649, 1]⟩
abbrev S8649 : Shape := ⟨1, ![8649]⟩
abbrev S_ : Shape := ⟨0, ![]⟩
abbrev S16x8649x1 : Shape := ⟨3, ![16, 8649, 1]⟩
abbrev S1x8649 : Shape := ⟨2, ![1, 8649]⟩
abbrev S16x1000 : Shape := ⟨2, ![16, 1000]⟩
abbrev S16x1000x1 : Shape := ⟨3, ![16, 1000, 1]⟩
abbrev S16x1000x4 : Shape := ⟨3, ![16, 1000, 4]⟩
abbrev S16x1x4 : Shape := ⟨3, ![16, 1, 4]⟩
abbrev S16x1x1 : Shape := ⟨3, ![16, 1, 1]⟩
abbrev S16x1 : Shape := ⟨2, ![16, 1]⟩
abbrev S1000 : Shape := ⟨1, ![1000]⟩
abbrev S1x1000 : Shape := ⟨2, ![1, 1000]⟩
abbrev S16x256 : Shape := ⟨2, ![16, 256]⟩
abbrev S16x256x1 : Shape := ⟨3, ![16, 256, 1]⟩
abbrev S16x256x4 : Shape := ⟨3, ![16, 256, 4]⟩

abbrev nBuf : Space → Nat
  | .hbm => 263
  | .vmem => 0
  | .smem => 0
  | _ => 0

abbrev hbmTy0_0 (i : Nat) : BufTy := match i % 128 with
  | 0 => ⟨S16x31x31x36, .f32⟩
  | 1 => ⟨S16x31x31x9, .f32⟩
  | 2 => ⟨S16x15, .i32⟩
  | 3 => ⟨S8649x4, .f32⟩
  | 4 => ⟨S4, .f32⟩
  | 5 => ⟨S16x8649x4, .f32⟩
  | 6 => ⟨S16x8649, .f32⟩
  | 7 => ⟨S1x1x4, .f32⟩
  | 8 => ⟨S16x8649x4, .f32⟩
  | 9 => ⟨S16x8649x4, .f32⟩
  | 10 => ⟨S8649x1, .f32⟩
  | 11 => ⟨S8649, .f32⟩
  | 12 => ⟨S8649x1, .f32⟩
  | 13 => ⟨S8649, .f32⟩
  | 14 => ⟨S8649, .f32⟩
  | 15 => ⟨S8649x1, .f32⟩
  | 16 => ⟨S8649, .f32⟩
  | 17 => ⟨S8649x1, .f32⟩
  | 18 => ⟨S8649, .f32⟩
  | 19 => ⟨S8649, .f32⟩
  | 20 => ⟨S8649x1, .f32⟩
  | 21 => ⟨S8649, .f32⟩
  | 22 => ⟨S_, .f32⟩
  | 23 => ⟨S8649, .f32⟩
  | 24 => ⟨S8649, .f32⟩
  | 25 => ⟨S8649, .f32⟩
  | 26 => ⟨S8649x1, .f32⟩
  | 27 => ⟨S8649, .f32⟩
  | 28 => ⟨S_, .f32⟩
  | 29 => ⟨S8649, .f32⟩
  | 30 => ⟨S8649, .f32⟩
  | 31 => ⟨S8649, .f32⟩
  | 32 => ⟨S16x8649x1, .f32⟩
  | 33 => ⟨S16x8649, .f32⟩
  | 34 => ⟨S16x8649, .f32⟩
  | 35 => ⟨S1x8649, .f32⟩
  | 36 => ⟨S16x8649, .f32⟩
  | 37 => ⟨S16x8649, .f32⟩
  | 38 => ⟨S16x8649x1, .f32⟩
  | 39 => ⟨S16x8649, .f32⟩
  | 40 => ⟨S16x8649, .f32⟩
  | 41 => ⟨S1x8649, .f32⟩
  | 42 => ⟨S16x8649, .f32⟩
  | 43 => ⟨S16x8649, .f32⟩
  | 44 => ⟨S16x8649x1, .f32⟩
  | 45 => ⟨S16x8649, .f32⟩
  | 46 => ⟨S1x8649, .f32⟩
  | 47 => ⟨S16x8649, .f32⟩
  | 48 => ⟨S16x8649, .f32⟩
  | 49 => ⟨S1x8649, .f32⟩
  | 50 => ⟨S16x8649, .f32⟩
  | 51 => ⟨S16x8649, .f32⟩
  | 52 => ⟨S16x8649x1, .f32⟩
  | 53 => ⟨S16x8649, .f32⟩
  | 54 => ⟨S1x8649, .f32⟩
  | 55 => ⟨S16x8649, .f32⟩
  | 56 => ⟨S16x8649, .f32⟩
  | 57 => ⟨S1x8649, .f32⟩
  | 58 => ⟨S16x8649, .f32⟩
  | 59 => ⟨S16x8649, .f32⟩
  | 60 => ⟨S_, .f32⟩
  | 61 => ⟨S16x8649, .f32⟩
  | 62 => ⟨S16x8649, .f32⟩
  | 63 => ⟨S16x8649, .f32⟩
  | 64 => ⟨S_, .f32⟩
  | 65 => ⟨S16x8649, .f32⟩
  | 66 => ⟨S16x8649, .f32⟩
  | 67 => ⟨S16x8649, .f32⟩
  | 68 => ⟨S16x8649, .f32⟩
  | 69 => ⟨S16x8649, .f32⟩
  | 70 => ⟨S16x8649x1, .f32⟩
  | 71 => ⟨S16x8649x1, .f32⟩
  | 72 => ⟨S16x8649x1, .f32⟩
  | 73 => ⟨S16x8649x1, .f32⟩
  | 74 => ⟨S16x8649x4, .f32⟩
  | 75 => ⟨S16x1000, .f32⟩
  | 76 => ⟨S16x1000, .i32⟩
  | 77 => ⟨S16x1000x1, .i32⟩
  | 78 => ⟨S_, .i32⟩
  | 79 => ⟨S16x1000x1, .i32⟩
  | 80 => ⟨S16x1000x1, .i1⟩
  | 81 => ⟨S_, .i32⟩
  | 82 => ⟨S16x1000x1, .i32⟩
  | 83 => ⟨S16x1000x1, .i32⟩
  | 84 => ⟨S16x1000x1, .i32⟩
  | 85 => ⟨S16x1000x4, .f32⟩
  | 86 => ⟨S16x1000, .f32⟩
  | 87 => ⟨S16x1000, .i32⟩
  | 88 => ⟨S16x1000, .f32⟩
  | 89 => ⟨S16x1000, .i32⟩
  | 90 => ⟨S16x1000x1, .i32⟩
  | 91 => ⟨S_, .i32⟩
  | 92 => ⟨S16x1000x1, .i32⟩
  | 93 => ⟨S16x1000x1, .i1⟩
  | 94 => ⟨S_, .i32⟩
  | 95 => ⟨S16x1000x1, .i32⟩
  | 96 => ⟨S16x1000x1, .i32⟩
  | 97 => ⟨S16x1000x1, .i32⟩
  | 98 => ⟨S16x1000x4, .f32⟩
  | 99 => ⟨S_, .i32⟩
  | 100 => ⟨S16x1000, .i32⟩
  | 101 => ⟨S16x1000, .i1⟩
  | 102 => ⟨S_, .i32⟩
  | 103 => ⟨S16x1000, .i32⟩
  | 104 => ⟨S16x1000, .i32⟩
  | 105 => ⟨S16x1000, .i32⟩
  | 106 => ⟨S16x1000x1, .i32⟩
  | 107 => ⟨S16x1000, .f32⟩
  | 108 => ⟨S_, .i1⟩
  | 109 => ⟨S16x1000, .i1⟩
  | 110 => ⟨S_, .i32⟩
  | 111 => ⟨S_, .i32⟩
  | 112 => ⟨S16x1000x4, .f32⟩
  | 113 => ⟨S_, .i32⟩
  | 114 => ⟨S_, .i32⟩
  | 115 => ⟨S16x1000, .i1⟩
  | 116 => ⟨S_, .i32⟩
  | 117 => ⟨S_, .i1⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S16x31x31x36, .f32⟩

abbrev hbmTy0_1 (i : Nat) : BufTy := match i % 128 with
  | 0 => ⟨S16x1x4, .f32⟩
  | 1 => ⟨S16x1x1, .f32⟩
  | 2 => ⟨S16x1, .f32⟩
  | 3 => ⟨S16x1000x1, .f32⟩
  | 4 => ⟨S16x1000, .f32⟩
  | 5 => ⟨S16x1000, .f32⟩
  | 6 => ⟨S16x1000, .f32⟩
  | 7 => ⟨S16x1x1, .f32⟩
  | 8 => ⟨S16x1, .f32⟩
  | 9 => ⟨S16x1000x1, .f32⟩
  | 10 => ⟨S16x1000, .f32⟩
  | 11 => ⟨S16x1000, .f32⟩
  | 12 => ⟨S16x1000, .f32⟩
  | 13 => ⟨S16x1x1, .f32⟩
  | 14 => ⟨S16x1, .f32⟩
  | 15 => ⟨S16x1000x1, .f32⟩
  | 16 => ⟨S16x1000, .f32⟩
  | 17 => ⟨S16x1000, .f32⟩
  | 18 => ⟨S16x1000, .f32⟩
  | 19 => ⟨S16x1x1, .f32⟩
  | 20 => ⟨S16x1, .f32⟩
  | 21 => ⟨S16x1000x1, .f32⟩
  | 22 => ⟨S16x1000, .f32⟩
  | 23 => ⟨S16x1000, .f32⟩
  | 24 => ⟨S16x1000, .f32⟩
  | 25 => ⟨S16x1000, .f32⟩
  | 26 => ⟨S_, .f32⟩
  | 27 => ⟨S16x1000, .f32⟩
  | 28 => ⟨S16x1000, .f32⟩
  | 29 => ⟨S16x1000, .f32⟩
  | 30 => ⟨S_, .f32⟩
  | 31 => ⟨S16x1000, .f32⟩
  | 32 => ⟨S16x1000, .f32⟩
  | 33 => ⟨S16x1000, .f32⟩
  | 34 => ⟨S16x1x1, .f32⟩
  | 35 => ⟨S16x1, .f32⟩
  | 36 => ⟨S16x1x1, .f32⟩
  | 37 => ⟨S16x1, .f32⟩
  | 38 => ⟨S16x1, .f32⟩
  | 39 => ⟨S_, .f32⟩
  | 40 => ⟨S16x1, .f32⟩
  | 41 => ⟨S16x1, .f32⟩
  | 42 => ⟨S16x1x1, .f32⟩
  | 43 => ⟨S16x1, .f32⟩
  | 44 => ⟨S16x1x1, .f32⟩
  | 45 => ⟨S16x1, .f32⟩
  | 46 => ⟨S16x1, .f32⟩
  | 47 => ⟨S_, .f32⟩
  | 48 => ⟨S16x1, .f32⟩
  | 49 => ⟨S16x1, .f32⟩
  | 50 => ⟨S16x1, .f32⟩
  | 51 => ⟨S16x1000x1, .f32⟩
  | 52 => ⟨S16x1000, .f32⟩
  | 53 => ⟨S16x1000x1, .f32⟩
  | 54 => ⟨S16x1000, .f32⟩
  | 55 => ⟨S16x1000, .f32⟩
  | 56 => ⟨S_, .f32⟩
  | 57 => ⟨S16x1000, .f32⟩
  | 58 => ⟨S16x1000, .f32⟩
  | 59 => ⟨S16x1000x1, .f32⟩
  | 60 => ⟨S16x1000, .f32⟩
  | 61 => ⟨S16x1000x1, .f32⟩
  | 62 => ⟨S16x1000, .f32⟩
  | 63 => ⟨S16x1000, .f32⟩
  | 64 => ⟨S_, .f32⟩
  | 65 => ⟨S16x1000, .f32⟩
  | 66 => ⟨S16x1000, .f32⟩
  | 67 => ⟨S16x1000, .f32⟩
  | 68 => ⟨S16x1000, .f32⟩
  | 69 => ⟨S16x1000, .f32⟩
  | 70 => ⟨S16x1000, .f32⟩
  | 71 => ⟨S_, .f32⟩
  | 72 => ⟨S16x1000, .f32⟩
  | 73 => ⟨S16x1000, .f32⟩
  | 74 => ⟨S16x1000, .f32⟩
  | 75 => ⟨S_, .f32⟩
  | 76 => ⟨S16x1000, .f32⟩
  | 77 => ⟨S16x1000, .i1⟩
  | 78 => ⟨S1000, .i32⟩
  | 79 => ⟨S_, .i32⟩
  | 80 => ⟨S1000, .i32⟩
  | 81 => ⟨S1000, .i1⟩
  | 82 => ⟨S1x1000, .i1⟩
  | 83 => ⟨S16x1000, .i1⟩
  | 84 => ⟨S16x1000, .i1⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S_, .i32⟩
  | 92 => ⟨S16x1, .i1⟩
  | 93 => ⟨S16x1000, .i1⟩
  | 94 => ⟨S16x1000, .i1⟩
  | 95 => ⟨S16x1000, .i1⟩
  | 96 => ⟨S16x1000, .i1⟩
  | 97 => ⟨S_, .i32⟩
  | 98 => ⟨S_, .i32⟩
  | 99 => ⟨S_, .f32⟩
  | 100 => ⟨S_, .f32⟩
  | 101 => ⟨S16x1000, .f32⟩
  | 102 => ⟨S16x1000, .f32⟩
  | 103 => ⟨S16x256, .f32⟩
  | 104 => ⟨S16x256, .i32⟩
  | 105 => ⟨S16x256x1, .i32⟩
  | 106 => ⟨S_, .i32⟩
  | 107 => ⟨S16x256x1, .i32⟩
  | 108 => ⟨S16x256x1, .i1⟩
  | 109 => ⟨S_, .i32⟩
  | 110 => ⟨S16x256x1, .i32⟩
  | 111 => ⟨S16x256x1, .i32⟩
  | 112 => ⟨S16x256x1, .i32⟩
  | 113 => ⟨S16x256x4, .f32⟩
  | 114 => ⟨S_, .f32⟩
  | 115 => ⟨S16x256, .f32⟩
  | 116 => ⟨S16x256, .i1⟩
  | 117 => ⟨S_, .f32⟩
  | 118 => ⟨S_, .f32⟩
  | 119 => ⟨S16x256, .f32⟩
  | 120 => ⟨S16x256, .f32⟩
  | 121 => ⟨S16x256x1, .i1⟩
  | 122 => ⟨S_, .f32⟩
  | 123 => ⟨S_, .f32⟩
  | 124 => ⟨S_, .f32⟩
  | 125 => ⟨S16x256x4, .f32⟩
  | 126 => ⟨S16x256x4, .f32⟩
  | 127 => ⟨S_, .f32⟩
  | _ => ⟨S16x31x31x36, .f32⟩

abbrev hbmTy0_2 (i : Nat) : BufTy := match i % 128 with
  | 0 => ⟨S16x256x4, .f32⟩
  | 1 => ⟨S16x256x4, .f32⟩
  | 2 => ⟨S_, .f32⟩
  | 3 => ⟨S_, .f32⟩
  | 4 => ⟨S16x256x4, .i1⟩
  | 5 => ⟨S16x256x4, .f32⟩
  | 6 => ⟨S16x256x4, .f32⟩
  | _ => ⟨S16x31x31x36, .f32⟩

abbrev hbmTy (i : Nat) : BufTy := match i / 128 with
  | 0 => hbmTy0_0 i
  | 1 => hbmTy0_1 i
  | 2 => hbmTy0_2 i
  | _ => ⟨S16x31x31x36, .f32⟩

abbrev bufTy : (tb : Table) → Fin (tcTables nBuf tb) → BufTy
  | .hbm, ⟨i, _⟩ => hbmTy i
  | _, _ => ⟨S16x31x31x36, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_cst_2 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_cst_3 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_values : Ref sig .tc := ⟨.hbm, 75, rfl⟩
abbrev main_indices : Ref sig .tc := ⟨.hbm, 76, rfl⟩
abbrev main_v66 : Ref sig .tc := ⟨.hbm, 77, rfl⟩
abbrev main_call0_c : Ref sig .tc := ⟨.hbm, 78, rfl⟩
abbrev main_call0_v0 : Ref sig .tc := ⟨.hbm, 79, rfl⟩
abbrev main_call0_v1 : Ref sig .tc := ⟨.hbm, 80, rfl⟩
abbrev main_call0_c_0 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_v67 : Ref sig .tc := ⟨.hbm, 85, rfl⟩
abbrev main_v68 : Ref sig .tc := ⟨.hbm, 86, rfl⟩
abbrev main_call1_v0 : Ref sig .tc := ⟨.hbm, 87, rfl⟩
abbrev main_call1_v1_0 : Ref sig .tc := ⟨.hbm, 88, rfl⟩
abbrev main_v69 : Ref sig .tc := ⟨.hbm, 89, rfl⟩
abbrev main_v70 : Ref sig .tc := ⟨.hbm, 90, rfl⟩
abbrev main_call2_c : Ref sig .tc := ⟨.hbm, 91, rfl⟩
abbrev main_call2_v0 : Ref sig .tc := ⟨.hbm, 92, rfl⟩
abbrev main_call2_v1 : Ref sig .tc := ⟨.hbm, 93, rfl⟩
abbrev main_call2_c_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_v71 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_v72 : Ref sig .tc := ⟨.hbm, 107, rfl⟩
abbrev main_c : Ref sig .tc := ⟨.hbm, 108, rfl⟩
abbrev main_v73 : Ref sig .tc := ⟨.hbm, 109, rfl⟩
abbrev main_c_4 : Ref sig .tc := ⟨.hbm, 110, rfl⟩
abbrev main_c_5 : Ref sig .tc := ⟨.hbm, 111, rfl⟩
abbrev main_v74_0 : Ref sig .tc := ⟨.hbm, 112, rfl⟩
abbrev main_v74_1 : Ref sig .tc := ⟨.hbm, 113, rfl⟩
abbrev main_v74_2 : Ref sig .tc := ⟨.hbm, 114, rfl⟩
abbrev main_v74_3 : Ref sig .tc := ⟨.hbm, 115, rfl⟩
abbrev main_while0c_c_17 : Ref sig .tc := ⟨.hbm, 116, rfl⟩
abbrev main_while0c_v84 : Ref sig .tc := ⟨.hbm, 117, rfl⟩
abbrev main_while0b_c_17 : Ref sig .tc := ⟨.hbm, 118, rfl⟩
abbrev main_while0b_v84 : Ref sig .tc := ⟨.hbm, 119, rfl⟩
abbrev main_while0b_c_18 : Ref sig .tc := ⟨.hbm, 120, rfl⟩
abbrev main_while0b_v85 : Ref sig .tc := ⟨.hbm, 121, rfl⟩
abbrev main_while0b_v86 : Ref sig .tc := ⟨.hbm, 122, rfl⟩
abbrev main_while0b_c_19 : Ref sig .tc := ⟨.hbm, 123, rfl⟩
abbrev main_while0b_v87 : Ref sig .tc := ⟨.hbm, 124, rfl⟩
abbrev main_while0b_v88 : Ref sig .tc := ⟨.hbm, 125, rfl⟩
abbrev main_while0b_c_20 : Ref sig .tc := ⟨.hbm, 126, rfl⟩
abbrev main_while0b_c_21 : Ref sig .tc := ⟨.hbm, 127, rfl⟩
abbrev main_while0b_v89 : Ref sig .tc := ⟨.hbm, 128, rfl⟩
abbrev main_while0b_v90 : Ref sig .tc := ⟨.hbm, 129, rfl⟩
abbrev main_while0b_v91 : Ref sig .tc := ⟨.hbm, 130, rfl⟩
abbrev main_while0b_v92 : Ref sig .tc := ⟨.hbm, 131, rfl⟩
abbrev main_while0b_v93 : Ref sig .tc := ⟨.hbm, 132, rfl⟩
abbrev main_while0b_v94 : Ref sig .tc := ⟨.hbm, 133, rfl⟩
abbrev main_while0b_v95 : Ref sig .tc := ⟨.hbm, 134, rfl⟩
abbrev main_while0b_v96 : Ref sig .tc := ⟨.hbm, 135, rfl⟩
abbrev main_while0b_v97 : Ref sig .tc := ⟨.hbm, 136, rfl⟩
abbrev main_while0b_v98 : Ref sig .tc := ⟨.hbm, 137, rfl⟩
abbrev main_while0b_v99 : Ref sig .tc := ⟨.hbm, 138, rfl⟩
abbrev main_while0b_v100 : Ref sig .tc := ⟨.hbm, 139, rfl⟩
abbrev main_while0b_v101 : Ref sig .tc := ⟨.hbm, 140, rfl⟩
abbrev main_while0b_v102 : Ref sig .tc := ⟨.hbm, 141, rfl⟩
abbrev main_while0b_v103 : Ref sig .tc := ⟨.hbm, 142, rfl⟩
abbrev main_while0b_v104 : Ref sig .tc := ⟨.hbm, 143, rfl⟩
abbrev main_while0b_v105 : Ref sig .tc := ⟨.hbm, 144, rfl⟩
abbrev main_while0b_v106 : Ref sig .tc := ⟨.hbm, 145, rfl⟩
abbrev main_while0b_v107 : Ref sig .tc := ⟨.hbm, 146, rfl⟩
abbrev main_while0b_v108 : Ref sig .tc := ⟨.hbm, 147, rfl⟩
abbrev main_while0b_v109 : Ref sig .tc := ⟨.hbm, 148, rfl⟩
abbrev main_while0b_v110 : Ref sig .tc := ⟨.hbm, 149, rfl⟩
abbrev main_while0b_v111 : Ref sig .tc := ⟨.hbm, 150, rfl⟩
abbrev main_while0b_v112 : Ref sig .tc := ⟨.hbm, 151, rfl⟩
abbrev main_while0b_v113 : Ref sig .tc := ⟨.hbm, 152, rfl⟩
abbrev main_while0b_v114 : Ref sig .tc := ⟨.hbm, 153, rfl⟩
abbrev main_while0b_cst_22 : Ref sig .tc := ⟨.hbm, 154, rfl⟩
abbrev main_while0b_v115 : Ref sig .tc := ⟨.hbm, 155, rfl⟩
abbrev main_while0b_v116 : Ref sig .tc := ⟨.hbm, 156, rfl⟩
abbrev main_while0b_v117 : Ref sig .tc := ⟨.hbm, 157, rfl⟩
abbrev main_while0b_cst_23 : Ref sig .tc := ⟨.hbm, 158, rfl⟩
abbrev main_while0b_v118 : Ref sig .tc := ⟨.hbm, 159, rfl⟩
abbrev main_while0b_v119 : Ref sig .tc := ⟨.hbm, 160, rfl⟩
abbrev main_while0b_v120 : Ref sig .tc := ⟨.hbm, 161, rfl⟩
abbrev main_while0b_v121 : Ref sig .tc := ⟨.hbm, 162, rfl⟩
abbrev main_while0b_v122 : Ref sig .tc := ⟨.hbm, 163, rfl⟩
abbrev main_while0b_v123 : Ref sig .tc := ⟨.hbm, 164, rfl⟩
abbrev main_while0b_v124 : Ref sig .tc := ⟨.hbm, 165, rfl⟩
abbrev main_while0b_v125 : Ref sig .tc := ⟨.hbm, 166, rfl⟩
abbrev main_while0b_cst_24 : Ref sig .tc := ⟨.hbm, 167, rfl⟩
abbrev main_while0b_v126 : Ref sig .tc := ⟨.hbm, 168, rfl⟩
abbrev main_while0b_v127 : Ref sig .tc := ⟨.hbm, 169, rfl⟩
abbrev main_while0b_v128 : Ref sig .tc := ⟨.hbm, 170, rfl⟩
abbrev main_while0b_v129 : Ref sig .tc := ⟨.hbm, 171, rfl⟩
abbrev main_while0b_v130 : Ref sig .tc := ⟨.hbm, 172, rfl⟩
abbrev main_while0b_v131 : Ref sig .tc := ⟨.hbm, 173, rfl⟩
abbrev main_while0b_v132 : Ref sig .tc := ⟨.hbm, 174, rfl⟩
abbrev main_while0b_cst_25 : Ref sig .tc := ⟨.hbm, 175, rfl⟩
abbrev main_while0b_v133 : Ref sig .tc := ⟨.hbm, 176, rfl⟩
abbrev main_while0b_v134 : Ref sig .tc := ⟨.hbm, 177, rfl⟩
abbrev main_while0b_v135 : Ref sig .tc := ⟨.hbm, 178, rfl⟩
abbrev main_while0b_v136 : Ref sig .tc := ⟨.hbm, 179, rfl⟩
abbrev main_while0b_v137 : Ref sig .tc := ⟨.hbm, 180, rfl⟩
abbrev main_while0b_v138 : Ref sig .tc := ⟨.hbm, 181, rfl⟩
abbrev main_while0b_v139 : Ref sig .tc := ⟨.hbm, 182, rfl⟩
abbrev main_while0b_v140 : Ref sig .tc := ⟨.hbm, 183, rfl⟩
abbrev main_while0b_cst_26 : Ref sig .tc := ⟨.hbm, 184, rfl⟩
abbrev main_while0b_v141 : Ref sig .tc := ⟨.hbm, 185, rfl⟩
abbrev main_while0b_v142 : Ref sig .tc := ⟨.hbm, 186, rfl⟩
abbrev main_while0b_v143 : Ref sig .tc := ⟨.hbm, 187, rfl⟩
abbrev main_while0b_v144 : Ref sig .tc := ⟨.hbm, 188, rfl⟩
abbrev main_while0b_v145 : Ref sig .tc := ⟨.hbm, 189, rfl⟩
abbrev main_while0b_v146 : Ref sig .tc := ⟨.hbm, 190, rfl⟩
abbrev main_while0b_v147 : Ref sig .tc := ⟨.hbm, 191, rfl⟩
abbrev main_while0b_cst_27 : Ref sig .tc := ⟨.hbm, 192, rfl⟩
abbrev main_while0b_v148 : Ref sig .tc := ⟨.hbm, 193, rfl⟩
abbrev main_while0b_v149 : Ref sig .tc := ⟨.hbm, 194, rfl⟩
abbrev main_while0b_v150 : Ref sig .tc := ⟨.hbm, 195, rfl⟩
abbrev main_while0b_v151 : Ref sig .tc := ⟨.hbm, 196, rfl⟩
abbrev main_while0b_v152 : Ref sig .tc := ⟨.hbm, 197, rfl⟩
abbrev main_while0b_v153 : Ref sig .tc := ⟨.hbm, 198, rfl⟩
abbrev main_while0b_cst_28 : Ref sig .tc := ⟨.hbm, 199, rfl⟩
abbrev main_while0b_v154 : Ref sig .tc := ⟨.hbm, 200, rfl⟩
abbrev main_while0b_v155 : Ref sig .tc := ⟨.hbm, 201, rfl⟩
abbrev main_while0b_v156 : Ref sig .tc := ⟨.hbm, 202, rfl⟩
abbrev main_while0b_cst_29 : Ref sig .tc := ⟨.hbm, 203, rfl⟩
abbrev main_while0b_v157 : Ref sig .tc := ⟨.hbm, 204, rfl⟩
abbrev main_while0b_v158 : Ref sig .tc := ⟨.hbm, 205, rfl⟩
abbrev main_while0b_v159 : Ref sig .tc := ⟨.hbm, 206, rfl⟩
abbrev main_while0b_v160 : Ref sig .tc := ⟨.hbm, 207, rfl⟩
abbrev main_while0b_v161 : Ref sig .tc := ⟨.hbm, 208, rfl⟩
abbrev main_while0b_v162 : Ref sig .tc := ⟨.hbm, 209, rfl⟩
abbrev main_while0b_v163 : Ref sig .tc := ⟨.hbm, 210, rfl⟩
abbrev main_while0b_v164 : Ref sig .tc := ⟨.hbm, 211, rfl⟩
abbrev main_while0b_v165 : Ref sig .tc := ⟨.hbm, 212, rfl⟩
abbrev main_while0b_c_30 : Ref sig .tc := ⟨.hbm, 213, rfl⟩
abbrev main_while0b_v166 : Ref sig .tc := ⟨.hbm, 214, rfl⟩
abbrev main_while0b_v167 : Ref sig .tc := ⟨.hbm, 215, rfl⟩
abbrev main_while0b_c_31 : Ref sig .tc := ⟨.hbm, 216, rfl⟩
abbrev main_while0b_v168 : Ref sig .tc := ⟨.hbm, 217, rfl⟩
abbrev main_while0b_v169 : Ref sig .tc := ⟨.hbm, 218, rfl⟩
abbrev main_while0b_c_32 : Ref sig .tc := ⟨.hbm, 219, rfl⟩
abbrev main_while0b_v170 : Ref sig .tc := ⟨.hbm, 220, rfl⟩
abbrev main_while0b_v171 : Ref sig .tc := ⟨.hbm, 221, rfl⟩
abbrev main_while0b_v172 : Ref sig .tc := ⟨.hbm, 222, rfl⟩
abbrev main_while0b_v173 : Ref sig .tc := ⟨.hbm, 223, rfl⟩
abbrev main_while0b_v174 : Ref sig .tc := ⟨.hbm, 224, rfl⟩
abbrev main_while0b_c_33 : Ref sig .tc := ⟨.hbm, 225, rfl⟩
abbrev main_while0b_v175 : Ref sig .tc := ⟨.hbm, 226, rfl⟩
abbrev main_cst_6 : Ref sig .tc := ⟨.hbm, 227, rfl⟩
abbrev main_call4_v0 : Ref sig .tc := ⟨.hbm, 228, rfl⟩
abbrev main_call4_v1 : Ref sig .tc := ⟨.hbm, 229, rfl⟩
abbrev main_v75 : Ref sig .tc := ⟨.hbm, 230, rfl⟩
abbrev main_values_7 : Ref sig .tc := ⟨.hbm, 231, rfl⟩
abbrev main_indices_8 : Ref sig .tc := ⟨.hbm, 232, rfl⟩
abbrev main_v76 : Ref sig .tc := ⟨.hbm, 233, rfl⟩
abbrev main_call5_c : Ref sig .tc := ⟨.hbm, 234, rfl⟩
abbrev main_call5_v0 : Ref sig .tc := ⟨.hbm, 235, rfl⟩
abbrev main_call5_v1 : Ref sig .tc := ⟨.hbm, 236, rfl⟩
abbrev main_call5_c_0 : Ref sig .tc := ⟨.hbm, 237, rfl⟩
abbrev main_call5_v2 : Ref sig .tc := ⟨.hbm, 238, rfl⟩
abbrev main_call5_v3 : Ref sig .tc := ⟨.hbm, 239, rfl⟩
abbrev main_call5_v4 : Ref sig .tc := ⟨.hbm, 240, rfl⟩
abbrev main_v77 : Ref sig .tc := ⟨.hbm, 241, rfl⟩
abbrev main_cst_9 : Ref sig .tc := ⟨.hbm, 242, rfl⟩
abbrev main_v78 : Ref sig .tc := ⟨.hbm, 243, rfl⟩
abbrev main_v79 : Ref sig .tc := ⟨.hbm, 244, rfl⟩
abbrev main_cst_10 : Ref sig .tc := ⟨.hbm, 245, rfl⟩
abbrev main_call6_v0 : Ref sig .tc := ⟨.hbm, 246, rfl⟩
abbrev main_call6_v1 : Ref sig .tc := ⟨.hbm, 247, rfl⟩
abbrev main_v80 : Ref sig .tc := ⟨.hbm, 248, rfl⟩
abbrev main_v81 : Ref sig .tc := ⟨.hbm, 249, rfl⟩
abbrev main_cst_11 : Ref sig .tc := ⟨.hbm, 250, rfl⟩
abbrev main_cst_12 : Ref sig .tc := ⟨.hbm, 251, rfl⟩
abbrev main_call7_v0 : Ref sig .tc := ⟨.hbm, 252, rfl⟩
abbrev main_call7_v1 : Ref sig .tc := ⟨.hbm, 253, rfl⟩
abbrev main_call7_v2 : Ref sig .tc := ⟨.hbm, 254, rfl⟩
abbrev main_call7_v3 : Ref sig .tc := ⟨.hbm, 255, rfl⟩
abbrev main_call7_v4 : Ref sig .tc := ⟨.hbm, 256, rfl⟩
abbrev main_v82 : Ref sig .tc := ⟨.hbm, 257, rfl⟩
abbrev main_cst_13 : Ref sig .tc := ⟨.hbm, 258, rfl⟩
abbrev main_call8_v0 : Ref sig .tc := ⟨.hbm, 259, rfl⟩
abbrev main_call8_v1 : Ref sig .tc := ⟨.hbm, 260, rfl⟩
abbrev main_call8_v2 : Ref sig .tc := ⟨.hbm, 261, rfl⟩
abbrev main_v83 : Ref sig .tc := ⟨.hbm, 262, rfl⟩

abbrev nD : Nat := 1
abbrev τ : Topo := Topo.v7x

variable {F : FTy → Type} [FloatOps F]

abbrev main_while0_count : Scf.Loop 32 := ⟨0#32, 1000#32, 1#32⟩
-- ==== Proof.IdealRun.lean ====
/- The run of the kernel body of `KernelIdeal`: one trip of the suppression loop over blocks, its invariant, and the
   body's triple. What each trip and the body write is found by the run itself, as functions of the contents. -/
module

public import proofs.«01_k».proof.Proof.Gen.KernelIdeal.Frame
public import proofs.«01_k».proof.Proof.Gen.KernelIdeal.Loops

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The inner suppression loop: nothing but its carried value -/

/-- One inner trip: the keep row after lane `k` of the block has suppressed the later ones. -/
def innerStep (v328 : IVec S16x128 32) (v630 v633 v636 v639 v642 : Vec F S1x1x16x128 .f32) (k : Fin k0_t5_loop.trips)
    (acc : FVec F S16x128 .f32) : FVec F S16x128 .f32 :=
  k0_pay39 acc (k0_pay29 v328 0#32 1#32 k acc)
    (k0_pay30 v328 (k0_pay31 v630) (k0_pay32 v633) (k0_pay33 v636) (k0_pay34 v639) (k0_pay35 v642) 0#32 1#32 k)

/-- The keep row before inner trip `k`. -/
def innerAt (v328 : IVec S16x128 32) (v630 v633 v636 v639 v642 : Vec F S1x1x16x128 .f32) (init : FVec F S16x128 .f32) :
    ℕ → FVec F S16x128 .f32
  | 0 => init
  | k + 1 => if h : k < k0_t5_loop.trips then
      innerStep v328 v630 v633 v636 v639 v642 ⟨k, h⟩ (innerAt v328 v630 v633 v636 v639 v642 init k)
    else innerAt v328 v630 v633 v636 v639 v642 init k

theorem innerAt_succ (v328 : IVec S16x128 32) (v630 v633 v636 v639 v642 : Vec F S1x1x16x128 .f32)
    (init : FVec F S16x128 .f32) (k : Fin k0_t5_loop.trips) :
    innerAt v328 v630 v633 v636 v639 v642 init (k.val + 1)
      = innerStep v328 v630 v633 v636 v639 v642 k (innerAt v328 v630 v633 v636 v639 v642 init k.val) := by
  rw [innerAt]; exact dif_pos k.isLt

set_option warn.classDefReducibility false in
/-- The inner loop by its invariant: the carried row is `innerAt`. -/
@[sl_loop] def loopInv_k0_t5 (c : Dev nD) (arg0 : Memref sig .tc .vmem S4x16x16384 .f32) (harg0 : arg0.IsWhole) (arg1 : Memref sig .tc .vmem S16x16384 .f32) (harg1 : arg1.IsWhole) (arg2 : Memref sig .tc .vmem S4x1x16384 .f32) (harg2 : arg2.IsWhole) (arg3 : Memref sig .tc .vmem S16x8x256 .f32) (harg3 : arg3.IsWhole) (arg4 : Memref sig .tc .vmem S5x16x16384 .f32) (harg4 : arg4.IsWhole) (arg5 : Memref sig .tc .vmem S16x16384 .i32) (harg5 : arg5.IsWhole) (arg6 : Memref sig .tc .vmem S7x8x16x128 .f32) (harg6 : arg6.IsWhole) (v328 : IVec S16x128 32) (c0_i32_284 : BitVec 32) (c1_i32_285 : BitVec 32) (k0_t2 : Fin k0_t2_loop.trips) (v630 : Vec F S1x1x16x128 .f32) (v633 : Vec F S1x1x16x128 .f32) (v636 : Vec F S1x1x16x128 .f32) (v639 : Vec F S1x1x16x128 .f32) (v642 : Vec F S1x1x16x128 .f32) (init : FVec F S16x128 .f32) :
    LoopInvTy_k0_t5 (F := F) Unit ℕ (UR sig nD τ) ℕ Variants.none c none Set.univ arg0 harg0 arg1 harg1 arg2 harg2 arg3 harg3 arg4 harg4 arg5 harg5 arg6 harg6 v328 c0_i32_284 c1_i32_285 k0_t2 v630 v633 v636 v639 v642 init where
  inv k acc := iprop(⌜acc = innerAt v328 v630 v633 v636 v639 v642 init k⌝)
  step k acc := by
    iintro %h_acc
    subst h_acc
    unfold k0_t5_body
    sl_exec
    sl_step
    ipureintro
    rw [innerAt_succ]; rfl

/-! ## One block of the suppression loop -/

/-- One trip of the loop over blocks: the pieces it writes into the scratch, as a function of what it finds there. -/
@[irreducible] def tripBlock (c : Dev nD) (arg0 : Memref sig .tc .vmem S4x16x16384 .f32) (harg0 : arg0.IsWhole) (arg1 : Memref sig .tc .vmem S16x16384 .f32) (harg1 : arg1.IsWhole) (arg2 : Memref sig .tc .vmem S4x1x16384 .f32) (harg2 : arg2.IsWhole) (arg3 : Memref sig .tc .vmem S16x8x256 .f32) (harg3 : arg3.IsWhole) (arg4 : Memref sig .tc .vmem S5x16x16384 .f32) (harg4 : arg4.IsWhole) (arg5 : Memref sig .tc .vmem S16x16384 .i32) (harg5 : arg5.IsWhole) (arg6 : Memref sig .tc .vmem S7x8x16x128 .f32) (harg6 : arg6.IsWhole) (v81 : FVec F S16x1024 .f32) (v100 : FVec F S16x1024 .f32) (v103 : FVec F S16x1024 .f32) (v315 : FVec F S1x1x16x128 .f32) (v328 : IVec S16x128 32) (k : Fin k0_t2_loop.trips) :
    { L : BufTy.Contents (Elt F) arg6.view.ty → List (View.Piece (Elt F) S7x8x16x128 .f32) //
      ∀ (f : BufTy.Contents (Elt F) arg6.view.ty),
      ((arg6.view.loc (c : Thread nD τ) ↦[arg6.view.set]{fullShare} f) : sProp 𝕄)
      ⊢ wp frame (wpE (defs₀ (F := F)) Variants.none (c : Thread nD τ) none) Set.univ
          (k0_t2_body (F := F) arg0 harg0 arg1 harg1 arg2 harg2 arg3 harg3 arg4 harg4 arg5 harg5 arg6 harg6 v81 v100 v103 v315 v328 k ())
          (fun _ => (arg6.view.loc (c : Thread nD τ) ↦[arg6.view.set]{fullShare} (arg6.view.writes (Elt F) f (L f)))) } := by
  refine ⟨?_, fun f => ?run⟩
  case run =>
    unfold k0_t2_body
    iintro H6
    sl_exec
    sl_step
    sl_close

/-- The scratch's contents before block trip `k`. -/
def blockAt (c : Dev nD) (arg0 : Memref sig .tc .vmem S4x16x16384 .f32) (harg0 : arg0.IsWhole) (arg1 : Memref sig .tc .vmem S16x16384 .f32) (harg1 : arg1.IsWhole) (arg2 : Memref sig .tc .vmem S4x1x16384 .f32) (harg2 : arg2.IsWhole) (arg3 : Memref sig .tc .vmem S16x8x256 .f32) (harg3 : arg3.IsWhole) (arg4 : Memref sig .tc .vmem S5x16x16384 .f32) (harg4 : arg4.IsWhole) (arg5 : Memref sig .tc .vmem S16x16384 .i32) (harg5 : arg5.IsWhole) (arg6 : Memref sig .tc .vmem S7x8x16x128 .f32) (harg6 : arg6.IsWhole) (v81 : FVec F S16x1024 .f32) (v100 : FVec F S16x1024 .f32) (v103 : FVec F S16x1024 .f32) (v315 : FVec F S1x1x16x128 .f32) (v328 : IVec S16x128 32) (f : BufTy.Contents (Elt F) arg6.view.ty) : ℕ → BufTy.Contents (Elt F) arg6.view.ty
  | 0 => f
  | k + 1 => if h : k < k0_t2_loop.trips then
      arg6.view.writes (Elt F) (blockAt c arg0 harg0 arg1 harg1 arg2 harg2 arg3 harg3 arg4 harg4 arg5 harg5 arg6 harg6 v81 v100 v103 v315 v328 f k)
        ((tripBlock c arg0 harg0 arg1 harg1 arg2 harg2 arg3 harg3 arg4 harg4 arg5 harg5 arg6 harg6 v81 v100 v103 v315 v328 ⟨k, h⟩).1 (blockAt c arg0 harg0 arg1 harg1 arg2 harg2 arg3 harg3 arg4 harg4 arg5 harg5 arg6 harg6 v81 v100 v103 v315 v328 f k))
    else blockAt c arg0 harg0 arg1 harg1 arg2 harg2 arg3 harg3 arg4 harg4 arg5 harg5 arg6 harg6 v81 v100 v103 v315 v328 f k

theorem blockAt_succ (c : Dev nD) (arg0 : Memref sig .tc .vmem S4x16x16384 .f32) (harg0 : arg0.IsWhole) (arg1 : Memref sig .tc .vmem S16x16384 .f32) (harg1 : arg1.IsWhole) (arg2 : Memref sig .tc .vmem S4x1x16384 .f32) (harg2 : arg2.IsWhole) (arg3 : Memref sig .tc .vmem S16x8x256 .f32) (harg3 : arg3.IsWhole) (arg4 : Memref sig .tc .vmem S5x16x16384 .f32) (harg4 : arg4.IsWhole) (arg5 : Memref sig .tc .vmem S16x16384 .i32) (harg5 : arg5.IsWhole) (arg6 : Memref sig .tc .vmem S7x8x16x128 .f32) (harg6 : arg6.IsWhole) (v81 : FVec F S16x1024 .f32) (v100 : FVec F S16x1024 .f32) (v103 : FVec F S16x1024 .f32) (v315 : FVec F S1x1x16x128 .f32) (v328 : IVec S16x128 32) (f : BufTy.Contents (Elt F) arg6.view.ty) (k : Fin k0_t2_loop.trips) :
    blockAt c arg0 harg0 arg1 harg1 arg2 harg2 arg3 harg3 arg4 harg4 arg5 harg5 arg6 harg6 v81 v100 v103 v315 v328 f (k.val + 1) = arg6.view.writes (Elt F) (blockAt c arg0 harg0 arg1 harg1 arg2 harg2 arg3 harg3 arg4 harg4 arg5 harg5 arg6 harg6 v81 v100 v103 v315 v328 f k.val)
        ((tripBlock c arg0 harg0 arg1 harg1 arg2 harg2 arg3 harg3 arg4 harg4 arg5 harg5 arg6 harg6 v81 v100 v103 v315 v328 k).1 (blockAt c arg0 harg0 arg1 harg1 arg2 harg2 arg3 harg3 arg4 harg4 arg5 harg5 arg6 harg6 v81 v100 v103 v315 v328 f k.val)) := by
  rw [blockAt]; exact dif_pos k.isLt

set_option warn.classDefReducibility false in
/-- The loop over blocks by its invariant: the scratch holds `blockAt`. -/
@[sl_loop] def loopInv_k0_t2 (c : Dev nD) (arg0 : Memref sig .tc .vmem S4x16x16384 .f32) (harg0 : arg0.IsWhole) (arg1 : Memref sig .tc .vmem S16x16384 .f32) (harg1 : arg1.IsWhole) (arg2 : Memref sig .tc .vmem S4x1x16384 .f32) (harg2 : arg2.IsWhole) (arg3 : Memref sig .tc .vmem S16x8x256 .f32) (harg3 : arg3.IsWhole) (arg4 : Memref sig .tc .vmem S5x16x16384 .f32) (harg4 : arg4.IsWhole) (arg5 : Memref sig .tc .vmem S16x16384 .i32) (harg5 : arg5.IsWhole) (arg6 : Memref sig .tc .vmem S7x8x16x128 .f32) (harg6 : arg6.IsWhole) (v81 : FVec F S16x1024 .f32) (v100 : FVec F S16x1024 .f32) (v103 : FVec F S16x1024 .f32) (v315 : FVec F S1x1x16x128 .f32) (v328 : IVec S16x128 32) (f6 : BufTy.Contents (Elt F) arg6.view.ty) :
    LoopInvTy_k0_t2 (F := F) Unit ℕ (UR sig nD τ) ℕ Variants.none c none Set.univ arg0 harg0 arg1 harg1 arg2 harg2 arg3 harg3 arg4 harg4 arg5 harg5 arg6 harg6 v81 v100 v103 v315 v328 where
  inv k _ := iprop(∃ f, (arg6.view.loc (c : Thread nD τ) ↦[arg6.view.set]{fullShare} f) ∗ ⌜f = blockAt c arg0 harg0 arg1 harg1 arg2 harg2 arg3 harg3 arg4 harg4 arg5 harg5 arg6 harg6 v81 v100 v103 v315 v328 f6 k⌝)
  step k acc := by
    iintro ⟨%f, H6, %hf⟩
    subst hf
    iapply (wp_wand_r Idealize.ShloMosaic.frame (wpE (defs₀ (F := F)) Variants.none (c : Thread nD τ) none) Set.univ)
    isplitl [H6]
    · iapply ((tripBlock c arg0 harg0 arg1 harg1 arg2 harg2 arg3 harg3 arg4 harg4 arg5 harg5 arg6 harg6 v81 v100 v103 v315 v328 k).2 (blockAt c arg0 harg0 arg1 harg1 arg2 harg2 arg3 harg3 arg4 harg4 arg5 harg5 arg6 harg6 v81 v100 v103 v315 v328 f6 k))
      iexact H6
    · iintro %yld H6
      iexists _; isplitl [H6]; · iexact H6
      ipureintro; rw [blockAt_succ]

/-! ## The body -/

set_option maxHeartbeats 40000000 in
/-- The body's triple: from the three inputs' staging buffers, the result's at some contents and the scratch at some
    contents, to the inputs unchanged and the result's buffer holding the pieces found by the run. -/
def bodyRun (c : Dev nD) (arg0 : Memref sig .tc .vmem S4x16x16384 .f32) (harg0 : arg0.IsWhole) (arg1 : Memref sig .tc .vmem S16x16384 .f32) (harg1 : arg1.IsWhole) (arg2 : Memref sig .tc .vmem S4x1x16384 .f32) (harg2 : arg2.IsWhole) (arg3 : Memref sig .tc .vmem S16x8x256 .f32) (harg3 : arg3.IsWhole) (arg4 : Memref sig .tc .vmem S5x16x16384 .f32) (harg4 : arg4.IsWhole) (arg5 : Memref sig .tc .vmem S16x16384 .i32) (harg5 : arg5.IsWhole) (arg6 : Memref sig .tc .vmem S7x8x16x128 .f32) (harg6 : arg6.IsWhole) (x0 : BufTy.Contents (Elt F) arg0.view.ty) (x1 : BufTy.Contents (Elt F) arg1.view.ty)
    (x2 : BufTy.Contents (Elt F) arg2.view.ty) :
    { L : BufTy.Contents (Elt F) arg4.view.ty → BufTy.Contents (Elt F) arg5.view.ty → BufTy.Contents (Elt F) arg6.view.ty →
        List (View.Piece (Elt F) S16x8x256 .f32) //
      ∀ (f3 : BufTy.Contents (Elt F) arg3.view.ty) (f4 : BufTy.Contents (Elt F) arg4.view.ty)
        (f5 : BufTy.Contents (Elt F) arg5.view.ty) (f6 : BufTy.Contents (Elt F) arg6.view.ty),
      (iprop((arg0.view.loc (c : Thread nD τ) ↦[arg0.view.set]{fullShare} x0) ∗ (arg1.view.loc (c : Thread nD τ) ↦[arg1.view.set]{fullShare} x1)
        ∗ (arg2.view.loc (c : Thread nD τ) ↦[arg2.view.set]{fullShare} x2) ∗ (arg3.view.loc (c : Thread nD τ) ↦[arg3.view.set]{fullShare} f3)
        ∗ (arg4.view.loc (c : Thread nD τ) ↦[arg4.view.set]{fullShare} f4) ∗ (arg5.view.loc (c : Thread nD τ) ↦[arg5.view.set]{fullShare} f5)
        ∗ (arg6.view.loc (c : Thread nD τ) ↦[arg6.view.set]{fullShare} f6)) : sProp 𝕄)
      ⊢ wp frame (wpE (defs₀ (F := F)) Variants.none (c : Thread nD τ) none) Set.univ
          (cc0__kernel (F := F) arg0 harg0 arg1 harg1 arg2 harg2 arg3 harg3 arg4 harg4 arg5 harg5 arg6 harg6)
          (fun _ => iprop((arg0.view.loc (c : Thread nD τ) ↦[arg0.view.set]{fullShare} x0) ∗ (arg1.view.loc (c : Thread nD τ) ↦[arg1.view.set]{fullShare} x1)
        ∗ (arg2.view.loc (c : Thread nD τ) ↦[arg2.view.set]{fullShare} x2)
        ∗ (arg3.view.loc (c : Thread nD τ) ↦[arg3.view.set]{fullShare} (arg3.view.writes (Elt F) f3 (L f4 f5 f6)))
        ∗ (∃ f, (arg4.view.loc (c : Thread nD τ) ↦[arg4.view.set]{fullShare} f)) ∗ (∃ f, (arg5.view.loc (c : Thread nD τ) ↦[arg5.view.set]{fullShare} f))
        ∗ (∃ f, (arg6.view.loc (c : Thread nD τ) ↦[arg6.view.set]{fullShare} f)))) } := by
  refine ⟨?_, fun f3 f4 f5 f6 => ?run⟩
  case run =>
    sl_unfold [cc0__kernel]
    iintro ⟨H0, H1, H2, H3, H4, H5, H6⟩
    sl_exec
    sl_step
    sl_close

end Cert.KernelIdeal.Run

end
-- ==== Proof.IdealFrame.lean ====
/- The frame of `KernelIdeal`: the launch around the body's run, the result's staging buffer at some contents. -/
module

public import proofs.«01_k».proof.Proof.IdealRun

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The window whose contents the frame leaves unnamed: the result's. -/
abbrev fgt0 : Fin cfg0.W → Bool := fun w => match w with | 3 => true | _ => false

/-- The buffers the host writes after the region. -/
def tailBufs : Finset (Ref sig .tc) := {main_call0_v9, main_v0_0, main_call0_v11, main_v0_1}

/-- The proof data of the frame. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun _ => FloatOps.ofBits .f32 0#32
  Φ _ := Pipeline.ΦA spec0 c
  q _ := fullShare
  owed _ := 0

theorem datsF_A (c : Dev nD) (w : Fin cfg0.W) : (datsF m 0 c).A w = V m c (Pipeline.arrRef spec0 w) := by
  dsimp only [datsF]
theorem datsF_after0 (c : Dev nD) (t : Fin cfg0.N) : (datsF m 0 c).after 0 t = iblk m c 0 t := by dsimp only [datsF]
theorem datsF_after1 (c : Dev nD) (t : Fin cfg0.N) : (datsF m 0 c).after 1 t = iblk m c 1 t := by dsimp only [datsF]
theorem datsF_after2 (c : Dev nD) (t : Fin cfg0.N) : (datsF m 0 c).after 2 t = iblk m c 2 t := by dsimp only [datsF]

/-- What the body is handed. -/
def preF (c : Dev nD) (t : Fin cfg0.N) : sProp 𝕄 :=
  iprop((datsF m 0 c).Φ t.castSucc ∗ (datsF m 0 c).owesAt () t.castSucc
    ∗ (∃ d, owns (c : Thread nD τ) (win0_0.stage (cfg0.slots t 0)) fullShare ((datsF m 0 c).before 0 t d))
    ∗ (∃ d, owns (c : Thread nD τ) (win0_1.stage (cfg0.slots t 1)) fullShare ((datsF m 0 c).before 1 t d))
    ∗ (∃ d, owns (c : Thread nD τ) (win0_2.stage (cfg0.slots t 2)) fullShare ((datsF m 0 c).before 2 t d))
    ∗ (∃ d, owns (c : Thread nD τ) (win0_3.stage (cfg0.slots t 3)) fullShare d))
/-- What it leaves. -/
def postF (c : Dev nD) (t : Fin cfg0.N) : sProp 𝕄 :=
  iprop((datsF m 0 c).Φ t.succ ∗ (datsF m 0 c).owesAt () t.succ
    ∗ owns (c : Thread nD τ) (win0_0.stage (cfg0.slots t 0)) fullShare ((datsF m 0 c).after 0 t)
    ∗ owns (c : Thread nD τ) (win0_1.stage (cfg0.slots t 1)) fullShare ((datsF m 0 c).after 1 t)
    ∗ owns (c : Thread nD τ) (win0_2.stage (cfg0.slots t 2)) fullShare ((datsF m 0 c).after 2 t)
    ∗ (∃ d, owns (c : Thread nD τ) (win0_3.stage (cfg0.slots t 3)) fullShare d))

/-- A whole buffer's points-to in the two spellings. -/
theorem pt_whole (c : Dev nD) (b : Ref sig .tc) (f : b.ty.Contents (Elt F)) :
    ((View.loc (c : Thread nD τ) (View.whole b) ↦[(View.whole b).set]{fullShare} f : sProp 𝕄))
      = ((c : Thread nD τ).loc b ↦{fullShare} f) := by
  simp only [View.set_whole]

set_option maxHeartbeats 1000000 in
theorem soundF (c : Dev nD) (t : Fin cfg0.N) :
    preF m c t ⊢ wp frame (wpE (defs₀ (F := F)) Variants.none c none) Set.univ (bodyAt0 t) (fun _ => postF m c t) := by
  unfold preF postF bodyAt0
  rw [show (datsF m 0 c).Φ t.succ = (datsF m 0 c).Φ t.castSucc from rfl, datsF_after0, datsF_after1, datsF_after2]
  rw [show (datsF m 0 c).owesAt () t.succ = (datsF m 0 c).owesAt () t.castSucc from rfl]
  rw [show (datsF m 0 c).Φ t.castSucc = Pipeline.ΦA spec0 c from rfl]
  unfold Pipeline.ΦA
  rw [scopedRest0_eq]
  have hb0 := fun d => before0_0_of m (datsF m 0 c) (datsF_A m c 0) (datsF_after0 m c) t d
  have hb1 := fun d => before0_1_of m (datsF m 0 c) (datsF_A m c 1) (datsF_after1 m c) t d
  have hb2 := fun d => before0_2_of m (datsF m 0 c) (datsF_A m c 2) (datsF_after2 m c) t d
  simp only [hb0, hb1, hb2]
  unfold owns
  iintro ⟨⟨⟨⟨%f4, H4⟩, ⟨%f5, H5⟩, ⟨%f6, H6⟩⟩, Hg⟩, HW, ⟨%d0, ⟨%x0, %hx0, H0⟩⟩, ⟨%d1, ⟨%x1, %hx1, H1⟩⟩, ⟨%d2, ⟨%x2, %hx2, H2⟩⟩, ⟨%d3, ⟨%x3, %hx3, H3⟩⟩⟩
  obtain ⟨L, hL⟩ := bodyRun c _ (hstage0_0 0) _ (hstage0_1 0) _ (hstage0_2 0) _ (hstage0_3 0) _ (Memref.isWhole_whole cc0_scratch0) _ (Memref.isWhole_whole cc0_scratch1) _ (Memref.isWhole_whole cc0_scratch2) x0 x1 x2
  have hL' := hL x3 f4 f5 f6
  clear hL
  simp only [Memref.view_whole, pt_whole c cc0_scratch0, pt_whole c cc0_scratch1, pt_whole c cc0_scratch2] at hL'
  iapply (wp_wand_r Idealize.ShloMosaic.frame (wpE (defs₀ (F := F)) Variants.none (c : Thread nD τ) none) Set.univ)
  isplitl [H0 H1 H2 H3 H4 H5 H6]
  · iapply hL'
    isplitl [H0]; · iexact H0
    isplitl [H1]; · iexact H1
    isplitl [H2]; · iexact H2
    isplitl [H3]; · iexact H3
    isplitl [H4]; · iexact H4
    isplitl [H5]; · iexact H5
    iexact H6
  iintro %u ⟨H0, H1, H2, H3, ⟨%g4, H4⟩, ⟨%g5, H5⟩, ⟨%g6, H6⟩⟩
  isplitl [H4 H5 H6 Hg]
  · isplitl [H4 H5 H6]
    · isplitl [H4]; · iexists g4; iexact H4
      isplitl [H5]; · iexists g5; iexact H5
      iexists g6; iexact H6
    iexact Hg
  isplitl [HW]; · iexact HW
  isplitl [H0]; · iexists x0; isplitr; swap; · iexact H0
                  ipureintro; exact hx0
  isplitl [H1]; · iexists x1; isplitr; swap; · iexact H1
                  ipureintro; exact hx1
  isplitl [H2]; · iexists x2; isplitr; swap; · iexact H2
                  ipureintro; exact hx2
  iexists _; iexists _; isplitr; swap; · iexact H3
  ipureintro; rfl

theorem defs₀_row (t : Fin cfg0.N) :
    defs₀ (F := F) .tc cfg0.body (cfg0.bodyArgs t (cfg0.slots t)) = bodyAt0 t := by
  unfold defs₀; rw [Defs.onTc_tc]

theorem obligationF (c : Dev nD) :
    Pipeline.BodyObligationLoose (datsF (F := F) m 0 c) (defs₀ (F := F)) Variants.none () Set.univ fgt0 := fun t => by
  rw [bigSep_W0, bigSep_W0, defs₀_row]
  exact triple_restated (soundF m c t) rfl .rfl fun _ => .rfl

theorem tail_sub : ∀ ops ∈ ([hostOps1] : List (List (HloOp τ sig (Elt F)))), ∀ op ∈ ops, ∀ b : Ref sig .tc,
    Proc.devRef .tc b ∈ op.writes → b ∈ tailBufs := by
  intro ops hops op hop
  simp only [List.mem_cons, List.mem_nil_iff, or_false] at hops
  rcases hops with rfl
  simp only [hostOps1, List.mem_cons, List.mem_nil_iff, or_false] at hop
  rcases hop with rfl | rfl | rfl | rfl
  all_goals
    intro b hb
    simp only [StableHlo.nullary_writes, StableHlo.unary_writes, StableHlo.binary_writes, StableHlo.reshape_writes,
      Finset.mem_singleton] at hb
    have hb' := Proc.devRef_injective _ hb
    subst hb'; decide

/-- The run, the results unnamed: every buffer outside the region's arrays and the later host lines as at entry. -/
theorem runF : θ_run defs (onTc (τ := τ) (main (F := F))) (s₀ m ρ)
    (fun r => Pipeline.RDat.FramePostR (cfgs 0) (fun c => (datsF m 0 c).toRForget fgt0) tailBufs (V m) r ∧ r.2.sem = fun _ => 0) :=
  Pipeline.θ_run_frame_around_T_forget (Q' := _) cfgs (datsF m) 0 launch0 defs₀ Variants.none fgt0 tailBufs m ρ main
    (hbody := obligationF m) (hshare := fun c => (datsF m 0 c).share_full fun _ => rfl) (howed := fun _ _ => rfl)
    (V₀ := V0 m) (opss := [hostOps1]) (hsub := sfx_sub) (hfresh := sfx_fresh) (hkeep := sfx_keeps) (hT := tail_sub)
    (hmain := hmain m Variants.none) (hA := datsF_A m) (hΦ := fun _ _ => rfl)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).2 main_arg0 (Finset.mem_sdiff.mpr ⟨Pipeline.mem_restRefs_of main_arg0 (by decide) (by decide), by decide⟩)).trans (V_main_arg0 m c),
       ((h.1 c).2 main_arg1 (Finset.mem_sdiff.mpr ⟨Pipeline.mem_restRefs_of main_arg1 (by decide) (by decide), by decide⟩)).trans (V_main_arg1 m c),
       ((h.1 c).2 main_arg2 (Finset.mem_sdiff.mpr ⟨Pipeline.mem_restRefs_of main_arg2 (by decide) (by decide), by decide⟩)).trans (V_main_arg2 m c),
       ((h.1 c).2 main_arg3 (Finset.mem_sdiff.mpr ⟨Pipeline.mem_restRefs_of main_arg3 (by decide) (by decide), by decide⟩)).trans (V_main_arg3 m c)⟩, h.2⟩)
    (runF m ρ)

end Cert.KernelIdeal.Run

end
-- ==== Proof.RefFrame.lean ====
/- The frame of `ReferenceIdeal`: no operation writes an argument, and the program declares no semaphore. -/
module

public import proofs.«01_k».proof.Proof.Gen.ReferenceIdeal.Run

@[expose] public section

set_option maxRecDepth 8192

noncomputable section

namespace Cert.ReferenceIdeal.Run

open Cert.ReferenceIdeal Cert.ReferenceIdeal.Gen Cert.ReferenceIdeal.Value
open Idealize.ShloMosaic Idealize.ShloMosaic.TcCoe
open Idealize.ShloMosaic.StableHlo
open Idealize.SL Idealize.SL.Sem

variable {F : FTy → Type} [FloatOps F]

/-- What each later stretch writes, in order. -/
abbrev w8 : List (Ref sig .tc) := [main_cst_6]
abbrev w9 : List (Ref sig .tc) := [main_call4_v0, main_call4_v1, main_v75]
abbrev w10 : List (Ref sig .tc) := [main_values_7, main_indices_8, main_v76]
abbrev w11 : List (Ref sig .tc) :=
  [main_call5_c, main_call5_v0, main_call5_v1, main_call5_c_0, main_call5_v2, main_call5_v3, main_call5_v4, main_v77]
abbrev w12 : List (Ref sig .tc) := [main_cst_9, main_v78, main_v79, main_cst_10]
abbrev w13 : List (Ref sig .tc) := [main_call6_v0, main_call6_v1, main_v80]
abbrev w14 : List (Ref sig .tc) := [main_v81, main_cst_11, main_cst_12]
abbrev w15 : List (Ref sig .tc) := [main_call7_v0, main_call7_v1, main_call7_v2, main_call7_v3, main_call7_v4, main_v82]
abbrev w16 : List (Ref sig .tc) := [main_cst_13]
abbrev w17 : List (Ref sig .tc) := [main_call8_v0, main_call8_v1, main_call8_v2, main_v83]

theorem hostOps0_8_writes : (hostOps0_8 : List (HloOp τ sig (Elt F))).Forall fun op => op.writes ⊆ (w8.map (Proc.devRef (τ := τ) .tc)).toFinset := forall_writes_sub_of_map rfl
theorem hostOps0_9_writes : (hostOps0_9 : List (HloOp τ sig (Elt F))).Forall fun op => op.writes ⊆ (w9.map (Proc.devRef (τ := τ) .tc)).toFinset := forall_writes_sub_of_map rfl
theorem hostOps0_10_writes : (hostOps0_10 : List (HloOp τ sig (Elt F))).Forall fun op => op.writes ⊆ (w10.map (Proc.devRef (τ := τ) .tc)).toFinset := forall_writes_sub_of_map rfl
theorem hostOps0_11_writes : (hostOps0_11 : List (HloOp τ sig (Elt F))).Forall fun op => op.writes ⊆ (w11.map (Proc.devRef (τ := τ) .tc)).toFinset := forall_writes_sub_of_map rfl
theorem hostOps0_12_writes : (hostOps0_12 : List (HloOp τ sig (Elt F))).Forall fun op => op.writes ⊆ (w12.map (Proc.devRef (τ := τ) .tc)).toFinset := forall_writes_sub_of_map rfl
theorem hostOps0_13_writes : (hostOps0_13 : List (HloOp τ sig (Elt F))).Forall fun op => op.writes ⊆ (w13.map (Proc.devRef (τ := τ) .tc)).toFinset := forall_writes_sub_of_map rfl
theorem hostOps0_14_writes : (hostOps0_14 : List (HloOp τ sig (Elt F))).Forall fun op => op.writes ⊆ (w14.map (Proc.devRef (τ := τ) .tc)).toFinset := forall_writes_sub_of_map rfl
theorem hostOps0_15_writes : (hostOps0_15 : List (HloOp τ sig (Elt F))).Forall fun op => op.writes ⊆ (w15.map (Proc.devRef (τ := τ) .tc)).toFinset := forall_writes_sub_of_map rfl
theorem hostOps0_16_writes : (hostOps0_16 : List (HloOp τ sig (Elt F))).Forall fun op => op.writes ⊆ (w16.map (Proc.devRef (τ := τ) .tc)).toFinset := forall_writes_sub_of_map rfl
theorem hostOps0_17_writes : (hostOps0_17 : List (HloOp τ sig (Elt F))).Forall fun op => op.writes ⊆ (w17.map (Proc.devRef (τ := τ) .tc)).toFinset := forall_writes_sub_of_map rfl

variable (m : (ℓ : Loc nD τ sig) → Buf (Elt F) ℓ) (ρ : Dev nD → PrngReg)

/-- A buffer that neither the loop's condition nor its body writes is as at the loop's entry. -/
theorem atK_keep (c : Dev nD) (b : Ref sig .tc) (h0 : b ∉ condOps_W) (h1 : b ∉ while0Ops0_W) : ∀ k,
    atK m k c (Proc.devRef .tc b) = entryContents preI m c (Proc.devRef .tc b)
  | 0 => rfl
  | k + 1 => by
    rw [show atK m (k+1) c = afterL bodyI (after condOps (atK m k c)) from rfl, afterL_cons, afterL_nil,
      after_of_writes_sub _ _ while0Ops0_writes h1, after_of_writes_sub _ _ condOps_writes h0]
    exact atK_keep c b h0 h1 k

/-- A buffer that no stretch before the loop writes enters it as launched. -/
theorem entry_keep (c : Dev nD) (b : Ref sig .tc)
    (h0 : b ∉ hostOps0_W) (h1 : b ∉ hostOps0_1_W) (h2 : b ∉ hostOps0_2_W) (h3 : b ∉ hostOps0_3_W)
    (h4 : b ∉ hostOps0_4_W) (h5 : b ∉ hostOps0_5_W) (h6 : b ∉ hostOps0_6_W) (h7 : b ∉ hostOps0_7_W) :
    entryContents preI m c (Proc.devRef .tc b) = m ((c.tc : Thread nD τ).loc b) := by
  unfold entryContents
  simp only [afterL_cons, afterL_nil]
  rw [after_of_writes_sub _ _ hostOps0_7_writes h7, after_of_writes_sub _ _ hostOps0_6_writes h6,
    after_of_writes_sub _ _ hostOps0_5_writes h5, after_of_writes_sub _ _ hostOps0_4_writes h4,
    after_of_writes_sub _ _ hostOps0_3_writes h3, after_of_writes_sub _ _ hostOps0_2_writes h2,
    after_of_writes_sub _ _ hostOps0_1_writes h1, after_of_writes_sub _ _ hostOps0_writes h0]

/-- A buffer that no stretch after the loop writes ends as the loop left it. -/
theorem post_keep (V : Valuation τ sig (Elt F)) (b : Ref sig .tc)
    (h8 : b ∉ w8) (h9 : b ∉ w9) (h10 : b ∉ w10) (h11 : b ∉ w11) (h12 : b ∉ w12) (h13 : b ∉ w13) (h14 : b ∉ w14)
    (h15 : b ∉ w15) (h16 : b ∉ w16) (h17 : b ∉ w17) : afterL postI V (Proc.devRef .tc b) = V (Proc.devRef .tc b) := by
  simp only [afterL_cons, afterL_nil]
  rw [after_of_writes_sub _ _ hostOps0_17_writes h17, after_of_writes_sub _ _ hostOps0_16_writes h16,
    after_of_writes_sub _ _ hostOps0_15_writes h15, after_of_writes_sub _ _ hostOps0_14_writes h14,
    after_of_writes_sub _ _ hostOps0_13_writes h13, after_of_writes_sub _ _ hostOps0_12_writes h12,
    after_of_writes_sub _ _ hostOps0_11_writes h11, after_of_writes_sub _ _ hostOps0_10_writes h10,
    after_of_writes_sub _ _ hostOps0_9_writes h9, after_of_writes_sub _ _ hostOps0_8_writes h8]

theorem arg_keep (c : Dev nD) (b : Ref sig .tc)
    (h0 : b ∉ hostOps0_W) (h1 : b ∉ hostOps0_1_W) (h2 : b ∉ hostOps0_2_W) (h3 : b ∉ hostOps0_3_W)
    (h4 : b ∉ hostOps0_4_W) (h5 : b ∉ hostOps0_5_W) (h6 : b ∉ hostOps0_6_W) (h7 : b ∉ hostOps0_7_W)
    (hc : b ∉ condOps_W) (hw : b ∉ while0Ops0_W)
    (h8 : b ∉ w8) (h9 : b ∉ w9) (h10 : b ∉ w10) (h11 : b ∉ w11) (h12 : b ∉ w12) (h13 : b ∉ w13) (h14 : b ∉ w14)
    (h15 : b ∉ w15) (h16 : b ∉ w16) (h17 : b ∉ w17) :
    finalContents condOps preI bodyI postI 1000 m c (Proc.devRef .tc b) = m ((c.tc : Thread nD τ).loc b) := by
  unfold finalContents
  rw [post_keep _ b h8 h9 h10 h11 h12 h13 h14 h15 h16 h17, after_of_writes_sub _ _ condOps_writes hc]
  exact (atK_keep m c b hc hw 1000).trans (entry_keep m c b h0 h1 h2 h3 h4 h5 h6 h7)

theorem noSem (s : GSem nD τ sig → ℤ) : s = fun _ => 0 := by
  funext g
  rcases g with ⟨t, l⟩
  cases l with
  | reg s => exact s.elim0
  | dma s => exact s.elim0

theorem arg0_keep (c : Dev nD) : finalContents condOps preI bodyI postI 1000 m c (Proc.devRef .tc main_arg0) = m ((c.tc : Thread nD τ).loc main_arg0) := by
  apply arg_keep <;> decide
theorem arg1_keep (c : Dev nD) : finalContents condOps preI bodyI postI 1000 m c (Proc.devRef .tc main_arg1) = m ((c.tc : Thread nD τ).loc main_arg1) := by
  apply arg_keep <;> decide
theorem arg2_keep (c : Dev nD) : finalContents condOps preI bodyI postI 1000 m c (Proc.devRef .tc main_arg2) = m ((c.tc : Thread nD τ).loc main_arg2) := by
  apply arg_keep <;> decide
theorem arg3_keep (c : Dev nD) : finalContents condOps preI bodyI postI 1000 m c (Proc.devRef .tc main_arg3) = m ((c.tc : Thread nD τ).loc main_arg3) := by
  apply arg_keep <;> decide

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨(h c main_arg0 (by decide)).trans (arg0_keep m c), (h c main_arg1 (by decide)).trans (arg1_keep m c),
       (h c main_arg2 (by decide)).trans (arg2_keep m c), (h c main_arg3 (by decide)).trans (arg3_keep m c)⟩, noSem _⟩)
    (run_fold m ρ)

end Cert.ReferenceIdeal.Run

end
-- ==== Proof.PureSort.lean ====
/- Sorting by a score and then a position: the stable sort of a host program as the sort by the pair, and the state of
   the bitonic network after each of its passes as a rearrangement of the positions. -/
module

public import Idealize.ShloMosaic.Lib.SortNet.Sorts
public import Idealize.ShloMosaic.Lib.SortPrefix
public import Mathlib.Data.EReal.Basic
public import Mathlib.Data.Prod.Lex

@[expose] public section

set_option maxRecDepth 16384

noncomputable section

namespace Cert.Pure

open Idealize.ShloMosaic Idealize.ShloMosaic.SortNet
open Classical

/-- `a` comes before `b`: its score is greater, or the scores are equal and its position is earlier. -/
def bef {n : ℕ} (s : Fin n → EReal) (a b : Fin n) : Bool := decide (s b < s a) || (decide (s a = s b) && decide (a < b))

theorem bef_iff {n : ℕ} (s : Fin n → EReal) (a b : Fin n) : bef s a b = true ↔ s b < s a ∨ (s a = s b ∧ a < b) := by
  simp [bef]

theorem bef_strict {n : ℕ} (s : Fin n → EReal) : StrictTotalBefore (bef s) where
  irrefl k := by simp [bef]
  trans a b c hab hbc := by
    rw [bef_iff] at *
    rcases hab with hab | ⟨eab, lab⟩ <;> rcases hbc with hbc | ⟨ebc, lbc⟩
    · exact Or.inl (lt_trans hbc hab)
    · exact Or.inl (ebc ▸ hab)
    · exact Or.inl (eab ▸ hbc)
    · exact Or.inr ⟨eab.trans ebc, lt_trans lab lbc⟩
  total a b hne := by
    rw [bef_iff, bef_iff]
    rcases lt_trichotomy (s a) (s b) with h | h | h
    · exact Or.inr (Or.inl h)
    · rcases lt_or_gt_of_ne hne with hlt | hgt
      · exact Or.inl (Or.inr ⟨h, hlt⟩)
      · exact Or.inr (Or.inr ⟨h.symm, hgt⟩)
    · exact Or.inl (Or.inl h)

theorem bef_asymm {n : ℕ} {s : Fin n → EReal} {a b : Fin n} (h : bef s a b = true) : bef s b a = false := by
  by_contra hc
  have hc' : bef s b a = true := by simpa using hc
  have := (bef_strict s).trans _ _ _ h hc'
  rw [(bef_strict s).irrefl] at this
  exact absurd this (by decide)

theorem bef_not {n : ℕ} {s : Fin n → EReal} {a b : Fin n} (h : a ≠ b) : bef s a b = !bef s b a := by
  rcases (bef_strict s).total a b h with h | h
  · rw [h, bef_asymm h]; rfl
  · rw [h, bef_asymm h]; rfl

/-- A stable sort by the score of positions in order is the sort by the score and then the position. -/
theorem stableSort_tie {n : ℕ} (s : Fin n → EReal) (R : Fin n → Fin n → Bool) (hR : ∀ a b, R a b = true ↔ s b < s a) :
    ∀ l : List (Fin n), l.Pairwise (· < ·) → stableSort R l = stableSort (bef s) l
  | [], _ => rfl
  | a :: l, h => by
    rw [List.pairwise_cons] at h
    unfold stableSort
    rw [stableSort_tie s R hR l h.2]
    refine insertBefore_congr _ _ _ _ fun b hb => ?_
    have hb' : a < b := h.1 b ((perm_stableSort _ l).mem_iff.mp hb)
    rw [Bool.eq_iff_iff, hR, bef_iff]
    exact ⟨Or.inl, fun h => h.elim id fun h => absurd h.2 (lt_asymm hb')⟩

theorem sortedFrom_tie {n : ℕ} (s : Fin n → EReal) (R : Fin n → Fin n → Bool) (hR : ∀ a b, R a b = true ↔ s b < s a) :
    sortedFrom R = sortedFrom (bef s) := by
  funext k
  unfold sortedFrom
  have h : sortPositions n R = sortPositions n (bef s) := stableSort_tie s R hR _ (List.pairwise_lt_finRange n)
  rw [List.get_of_eq h]
  rfl

/-- The sorted positions are in order. -/
theorem sortedFrom_bef {n : ℕ} (s : Fin n → EReal) (i j : Fin n) (hij : i < j) :
    bef s (sortedFrom (bef s) i) (sortedFrom (bef s) j) = true := by
  have hp : ∀ a b : Fin (sortPositions n (bef s)).length, a < b →
      bef s ((sortPositions n (bef s)).get b) ((sortPositions n (bef s)).get a) = false :=
    List.pairwise_iff_get.mp ((bef_strict s).sorted_stableSort (List.finRange n))
  have h : bef s (sortedFrom (bef s) j) (sortedFrom (bef s) i) = false := hp _ _ hij
  have hne : sortedFrom (bef s) i ≠ sortedFrom (bef s) j := fun h => (ne_of_lt hij) (sortedFrom_injective _ h)
  rw [bef_not hne, h]; rfl

/-! ## The passes of the network -/

/-- Level and distance exponent of pass `t`. -/
def lv : ℕ → ℕ × ℕ
  | 0 => (0, 0)
  | t + 1 => if (lv t).2 = 0 then ((lv t).1 + 1, (lv t).1 + 1) else ((lv t).1, (lv t).2 - 1)

theorem lv_all : (List.range 105).map lv = (List.range 14).flatMap fun l => (List.range (l + 1)).reverse.map fun s => (l, s) := by
  decide +kernel

theorem lv_lt : ∀ t : Fin 105, (lv t).1 < 14 ∧ (lv t).2 ≤ (lv t).1 := by decide +kernel

/-- The stage of one pass. -/
def passNet (q : ℕ × ℕ) : Network (2 ^ 14) := stage 14 q.2 fun i => (decide (i.val &&& 2 ^ (q.1 + 1) = 0)) == true

/-- The first `t` passes. -/
def net (t : ℕ) : Network (2 ^ 14) := (List.range t).flatMap fun t => passNet (lv t)

theorem net_succ (t : ℕ) : net (t + 1) = net t ++ passNet (lv t) := by
  unfold net
  rw [List.range_succ, List.flatMap_append, List.flatMap_singleton]

theorem flat_all {α : Type} (f : ℕ × ℕ → List α) : ((List.range 105).flatMap fun t => f (lv t))
    = (List.range 14).flatMap fun l => (List.range (l + 1)).reverse.flatMap fun s => f (l, s) := by
  have h : ((List.range 105).map lv).flatMap f
      = ((List.range 14).flatMap fun l => (List.range (l + 1)).reverse.map fun s => (l, s)).flatMap f := by
    rw [lv_all]
  rw [List.flatMap_map] at h
  rw [h, List.flatMap_assoc]
  refine congrArg (fun g => List.flatMap g (List.range 14)) (funext fun l => ?_)
  rw [List.flatMap_map]

theorem net_all : net 105 = sortNet 14 true := flat_all passNet

/-- The entry at a position: its score, then its position, the earlier the greater. -/
def ent (p : Fin (2 ^ 14) → EReal) (i : Fin (2 ^ 14)) : EReal ×ₗ (Fin (2 ^ 14))ᵒᵈ := toLex (p i, OrderDual.toDual i)

/-- The source of position `i` before pass `t`. -/
def src (p : Fin (2 ^ 14) → EReal) (t : ℕ) (i : Fin (2 ^ 14)) : Fin (2 ^ 14) :=
  OrderDual.ofDual (ofLex (Network.apply (net t) (ent p) i)).2

theorem src_perm (p : Fin (2 ^ 14) → EReal) (t : ℕ) :
    ∃ σ : Equiv.Perm (Fin (2 ^ 14)), (∀ i, src p t i = σ i) ∧ ∀ i, Network.apply (net t) (ent p) i = ent p (σ i) := by
  obtain ⟨σ, h⟩ := Network.exists_perm (net t) (ent p)
  refine ⟨σ, fun i => ?_, fun i => congrFun h i⟩
  unfold src
  rw [h]
  rfl

theorem src_ent (p : Fin (2 ^ 14) → EReal) (t : ℕ) (i : Fin (2 ^ 14)) :
    Network.apply (net t) (ent p) i = ent p (src p t i) := by
  obtain ⟨σ, h, h'⟩ := src_perm p t
  rw [h', h]

theorem src_bij (p : Fin (2 ^ 14) → EReal) (t : ℕ) : Function.Bijective (src p t) := by
  obtain ⟨σ, h, h'⟩ := src_perm p t
  rw [show src p t = σ from funext h]
  exact σ.bijective

theorem src_zero (p : Fin (2 ^ 14) → EReal) (i : Fin (2 ^ 14)) : src p 0 i = i := rfl

theorem ent_lt (p : Fin (2 ^ 14) → EReal) (a b : Fin (2 ^ 14)) : ent p a < ent p b ↔ bef p b a = true := by
  rw [bef_iff]
  unfold ent
  rw [Prod.Lex.toLex_lt_toLex]
  constructor
  · rintro (h | ⟨h, h'⟩)
    · exact Or.inl h
    · exact Or.inr ⟨h.symm, h'⟩
  · rintro (h | ⟨h, h'⟩)
    · exact Or.inl h
    · exact Or.inr ⟨h.symm, h'⟩

theorem testBit_partner {q : ℕ} (hq : q < 14) (i : Fin (2 ^ 14)) (b : ℕ) :
    (partner 14 q i).val.testBit b = xor (i.val.testBit b) (decide (b = q)) := by
  rw [partner_val hq, Nat.testBit_xor, Nat.testBit_two_pow]
  congr 1
  simp [eq_comm]

theorem and_ne (x q : ℕ) : decide (x &&& 2 ^ q ≠ 0) = x.testBit q := by
  have := and_two_pow_eq_zero_iff_testBit x q
  cases h : x.testBit q <;> simp [this, h]

theorem and_eq (x q : ℕ) : decide (x &&& 2 ^ q = 0) = !x.testBit q := by
  have := and_two_pow_eq_zero_iff_testBit x q
  cases h : x.testBit q <;> simp [this, h]

theorem ent_inj (p : Fin (2 ^ 14) → EReal) (a b : Fin (2 ^ 14)) (h : ent p a = ent p b) : a = b :=
  congrArg (fun q : EReal ×ₗ (Fin (2 ^ 14))ᵒᵈ => OrderDual.ofDual (ofLex q).2) h

/-- One pass on the sources. -/
theorem src_succ (p : Fin (2 ^ 14) → EReal) (t : ℕ) (ht : t < 105) (i : Fin (2 ^ 14)) :
    src p (t + 1) i
      = if bef p (src p t (partner 14 (lv t).2 i)) (src p t i)
            = xor (decide (i.val &&& 2 ^ ((lv t).1 + 1) = 0)) (decide (i.val &&& 2 ^ (lv t).2 ≠ 0))
        then src p t (partner 14 (lv t).2 i) else src p t i := by
  obtain ⟨hl, hs⟩ := lv_lt ⟨t, ht⟩
  simp only at hl hs
  have key : ∀ j : Fin (2 ^ 14), Network.apply (passNet (lv t)) (Network.apply (net t) (ent p)) j = ent p (src p (t + 1) j) := by
    intro j
    rw [← Network.apply_append, ← net_succ, src_ent]
  have inj := ent_inj p
  rcases hq : lv t with ⟨l, q⟩
  rw [hq] at hl hs key
  simp only at hl hs ⊢
  have hlt : q < 14 := lt_of_le_of_lt hs hl
  let keep : Fin (2 ^ 14) → Bool := fun j => xor (!j.val.testBit (l + 1)) (j.val.testBit q)
  have hkeep : ∀ j, keep (partner 14 q j) = !keep j := by
    intro j
    simp only [keep, testBit_partner hlt]
    have h1 : (l + 1 = q) = False := by simp; omega
    simp only [h1, decide_false, decide_true]
    cases j.val.testBit (l + 1) <;> cases j.val.testBit q <;> rfl
  have hst : passNet (l, q) = stage 14 q keep := by
    unfold passNet
    refine stage_congr fun j hj => ?_
    rw [and_two_pow_eq_zero_iff_testBit] at hj
    simp only [keep, hj, and_eq]
    cases j.val.testBit (l + 1) <;> rfl
  refine inj _ _ ?_
  rw [← key, hst, apply_stage_select hlt keep hkeep, src_ent, src_ent, and_eq, and_ne]
  have hne : src p t (partner 14 q i) ≠ src p t i := fun h => by
    have h2 := (src_bij p t).1 h
    have h3 := congrArg (fun x : Fin (2 ^ 14) => x.val.testBit q) h2
    simp only [testBit_partner hlt] at h3
    cases h4 : i.val.testBit q <;> simp [h4] at h3
  have hd : decide (ent p (src p t (partner 14 q i)) < ent p (src p t i)) = !bef p (src p t (partner 14 q i)) (src p t i) := by
    rw [← bef_not hne.symm, Bool.eq_iff_iff, decide_eq_true_eq, ent_lt]
  rw [hd]
  show (if (!bef p _ _) = keep i then _ else _) = _
  change _ = ent p (if bef p _ _ = keep i then _ else _)
  cases bef p (src p t (partner 14 q i)) (src p t i) <;> cases keep i <;> simp

/-- After all passes the positions are in order. -/
theorem src_sorted (p : Fin (2 ^ 14) → EReal) (i j : Fin (2 ^ 14)) (hij : i < j) : bef p (src p 105 i) (src p 105 j) = true := by
  have h : ent p (src p 105 j) ≤ ent p (src p 105 i) := by
    have h := sortNet_apply_antitone 14 (ent p) (le_of_lt hij)
    rw [← net_all] at h
    rwa [src_ent, src_ent] at h
  rcases lt_or_eq_of_le h with h | h
  · exact (ent_lt p _ _).mp h
  · have h2 : src p 105 j = src p 105 i := ent_inj p _ _ h
    have h3 : j = i := (src_bij p 105).1 h2
    exact absurd h3 (ne_of_gt hij)

/-- Of a row `p` of `M` scores that continues the `R` scores `s` by a value none of them is below, sorted by `σ`: the first
    `k` positions are those of the sort of `s`. -/
theorem prefix_real {M R k : ℕ} (hR : R ≤ M) (hk : k ≤ R) (lo : EReal) (s : Fin R → EReal) (hs : ∀ i, lo ≤ s i)
    (p : Fin M → EReal) (hp : ∀ i : Fin M, p i = if h : i.val < R then s ⟨i.val, h⟩ else lo)
    (σ : Fin M → Fin M) (hb : Function.Bijective σ) (hσ : ∀ i j, i < j → bef p (σ i) (σ j) = true) (i : Fin k) :
    (σ (i.castLE (hk.trans hR))).val = (sortedFrom (bef s) (i.castLE hk)).val := by
  have hreal : ∀ i : Fin k, (σ (i.castLE (hk.trans hR))).val < R := by
    intro i
    by_contra hc
    have hc' := not_lt.mp hc
    choose g hg using hb.2
    have hlt : ∀ x : Fin R, (g (x.castLE hR)).val < i.val := by
      intro x
      by_contra hx
      have hx' := not_lt.mp hx
      have h2 : bef p (x.castLE hR) (σ (i.castLE (hk.trans hR))) = true := by
        rw [bef_iff, hp, hp, dif_neg (not_lt.mpr hc'), dif_pos (show ((x.castLE hR : Fin M).val < R) from x.isLt)]
        rcases lt_or_eq_of_le (hs x) with h | h
        · exact Or.inl h
        · exact Or.inr ⟨h.symm, Fin.lt_def.mpr (lt_of_lt_of_le x.isLt hc')⟩
      rcases lt_or_eq_of_le hx' with hx'' | hx''
      · have h1 := hσ (i.castLE (hk.trans hR)) (g (x.castLE hR)) hx''
        rw [hg, bef_asymm h2] at h1
        exact absurd h1 (by decide)
      · have h3 : (i.castLE (hk.trans hR)) = g (x.castLE hR) := Fin.ext hx''
        rw [h3, hg, (bef_strict p).irrefl] at h2
        exact absurd h2 (by decide)
    have hinj : Function.Injective fun x : Fin R => (⟨_, hlt x⟩ : Fin i.val) := by
      intro x y hxy
      have h1 : g (x.castLE hR) = g (y.castLE hR) := Fin.ext (congrArg (fun z : Fin i.val => z.val) hxy)
      have h2 := congrArg σ h1
      rw [hg, hg] at h2
      exact Fin.ext (congrArg (fun z : Fin M => z.val) h2)
    have := Fintype.card_le_of_injective _ hinj
    simp only [Fintype.card_fin] at this
    have := i.isLt
    omega
  have hps : ∀ a b : Fin M, (ha : a.val < R) → (hb : b.val < R) → bef s ⟨a, ha⟩ ⟨b, hb⟩ = bef p a b := by
    intro a b ha hb
    rw [Bool.eq_iff_iff, bef_iff, bef_iff, hp, hp, dif_pos ha, dif_pos hb]
    rfl
  have h := (bef_strict s).sortedFrom_eq_of_prefix (k := k) hk
    (fun i : Fin k => (⟨_, hreal i⟩ : Fin R))
    (fun x y hxy => by
      have := hb.1 (Fin.ext (congrArg (fun z : Fin R => z.val) hxy))
      exact Fin.ext (congrArg (fun z : Fin M => z.val) this))
    (fun i j hij => by
      rw [hps]
      exact bef_asymm (hσ _ _ hij))
    (fun i q hq => by
      obtain ⟨j, hj⟩ := hb.2 (q.castLE hR)
      have hj1 : k ≤ j.val := by
        by_contra hc
        exact hq ⟨j.val, not_le.mp hc⟩ (Fin.ext (congrArg (fun z : Fin M => z.val) hj))
      have h1 := hσ (i.castLE (hk.trans hR)) j (Fin.lt_def.mpr (lt_of_lt_of_le i.isLt hj1))
      rw [hj] at h1
      have := hps (q.castLE hR) (σ (i.castLE (hk.trans hR))) q.isLt (hreal i)
      exact this.trans (bef_asymm h1)) i
  rw [h]

/-- Positions already in order are their own sort. -/
theorem sortedFrom_id {n : ℕ} (s : Fin n → EReal) (hs : ∀ i j, i < j → s j ≤ s i) (i : Fin n) : sortedFrom (bef s) i = i := by
  have h := (bef_strict s).sortedFrom_eq_of_prefix (k := n) le_rfl id (fun _ _ h => h)
    (fun i j hij => bef_asymm ((bef_iff s i j).mpr (by
      rcases lt_or_eq_of_le (hs i j hij) with h | h
      · exact Or.inl h
      · exact Or.inr ⟨h.symm, hij⟩)))
    (fun i p hp => absurd rfl (hp p)) i
  exact h

end Cert.Pure
-- ==== Proof.SortVal.lean ====
/- The sort loop of the kernel body read as a rearrangement of the lanes: what one pass writes, and the state before
   every pass. -/
module

public import proofs.«01_k».proof.Proof.IdealRun
public import proofs.«01_k».proof.Proof.PureSort
public import Idealize.ShloMosaic.Lib.Pointwise
public import Idealize.ShloMosaic.Lib.Pipeline.ValueKit
public import Idealize.ShloMosaic.Lib.WritesUnit

@[expose] public section

set_option maxRecDepth 16384
set_option maxHeartbeats 4000000

noncomputable section

namespace Cert.KernelIdeal.Run

open Cert.KernelIdeal Cert.KernelIdeal.Gen Cert.Pure
open Idealize.ShloMosaic Idealize.ShloMosaic.TcCoe Idealize.ShloMosaic.Tactic
open Idealize.ShloMosaic.SortNet

/-- The lane a pass at distance `2 ^ q` pairs with lane `i`. -/
abbrev par (q : ℕ) (i : Fin 16384) : Fin 16384 := partner 14 q i

/-- The lane numbers. -/
abbrev lanes : IVec S16x16384 32 := iota .tc S16x16384 32 [1] (by decide)

theorem par_val_clear {q : ℕ} (hq : q < 14) (i : Fin 16384) (h : i.val.testBit q = false) : (par q i).val = i.val + 2 ^ q :=
  partner_val_of_clear (p := 14) hq i ((and_two_pow_eq_zero_iff_testBit _ _).mpr h)

theorem par_val_set {q : ℕ} (hq : q < 14) (i : Fin 16384) (h : i.val.testBit q = true) : (par q i).val = i.val - 2 ^ q := by
  have := partner_val_of_set (p := 14) hq i (fun h' => by
    rw [(and_two_pow_eq_zero_iff_testBit _ _).mp h'] at h; exact absurd h (by decide))
  exact this.2

theorem bit_word {q : ℕ} (hq : q < 15) (i : Fin 16384) :
    (BitVec.ofNat 32 i.val &&& BitVec.ofNat 32 (2 ^ q) = 0#32) ↔ i.val.testBit q = false := by
  rw [← and_two_pow_eq_zero_iff_testBit, ← BitVec.ofNat_and]
  constructor
  · intro h
    have h := congrArg BitVec.toNat h
    rw [BitVec.toNat_ofNat] at h
    have h1 : i.val &&& 2 ^ q ≤ i.val := Nat.and_le_left
    have := i.isLt
    rw [Nat.mod_eq_of_lt (by omega)] at h
    simpa using h
  · intro h
    rw [h]

theorem bit_ne {q : ℕ} (hq : q < 15) (i : Fin 16384) :
    IntOp.cmpi CmpIPredicate.ne (IntOp.andi (BitVec.ofNat 32 i.val) (BitVec.ofNat 32 (2 ^ q))) 0#32
      = BitVec.ofBool (i.val.testBit q) := by
  have h := bit_word hq i
  show BitVec.ofBool (BitVec.ofNat 32 i.val &&& BitVec.ofNat 32 (2 ^ q) != 0#32) = _
  congr 1
  cases hb : i.val.testBit q
  · rw [h.mpr hb]; rfl
  · rw [hb] at h
    simp only [Bool.true_eq_false, iff_false] at h
    simpa using h

theorem bit_eq {q : ℕ} (hq : q < 15) (i : Fin 16384) :
    IntOp.cmpi CmpIPredicate.eq (IntOp.andi (BitVec.ofNat 32 i.val) (BitVec.ofNat 32 (2 ^ q))) 0#32
      = BitVec.ofBool (!i.val.testBit q) := by
  have h := bit_word hq i
  show BitVec.ofBool (BitVec.ofNat 32 i.val &&& BitVec.ofNat 32 (2 ^ q) == 0#32) = _
  congr 1
  cases hb : i.val.testBit q
  · rw [h.mpr hb]; rfl
  · rw [hb] at h
    simp only [Bool.true_eq_false, iff_false] at h
    simpa using h

theorem pow_word {q : ℕ} (hq : q < 15) : (BitVec.ofNat 32 (2 ^ q)).toNat = 2 ^ q := by
  rw [BitVec.toNat_ofNat, Nat.mod_eq_of_lt]
  exact Nat.pow_lt_pow_right (by decide) (by omega)

theorem pow_le {q : ℕ} (hq : q < 14) : 2 ^ q ≤ 8192 :=
  (Nat.pow_le_pow_right (by decide) (by omega : q ≤ 13)).trans (by decide)

/-- The two rotations and the choice by the lane's bit bring the partner's element. -/
theorem rot_select {α : Type} (x : S16x16384.Idx → α) (q : ℕ) (hq : q < 14) (b : Fin 16) (i : Fin 16384) :
    select (k0_pay3 lanes (BitVec.ofNat 32 (2 ^ q))) (dynamicRotate 1 (BitVec.ofNat 32 (2 ^ q)) none x rotates_S16x16384_d1)
      (dynamicRotate 1 (Scalar.subi 0#32 (BitVec.ofNat 32 (2 ^ q))) none x rotates_S16x16384_d1) (ix2 b i) = x (ix2 b (par q i)) := by
  unfold lanes
  pointwise [k0_pay3]
  have hp := pow_le hq
  have hpos : 0 < 2 ^ q := Nat.two_pow_pos q
  have hi := i.isLt
  rw [bit_ne (by omega)]
  cases hb : i.val.testBit q
  · show x _ = x _
    congr 2
    refine Fin.ext ?_
    rw [par_val_clear hq i hb]
    have hlt := (par q i).isLt
    rw [par_val_clear hq i hb] at hlt
    show (i.val + 16384 - (Scalar.subi (0#32) (BitVec.ofNat 32 (2 ^ q))).toNat % 16384) % 16384 = _
    have h1 : (Scalar.subi (0#32) (BitVec.ofNat 32 (2 ^ q))).toNat = 4294967296 - 2 ^ q := by
      show (0#32 - BitVec.ofNat 32 (2 ^ q)).toNat = _
      rw [BitVec.toNat_sub, pow_word (by omega)]
      simp only [BitVec.toNat_ofNat]
      omega
    rw [h1]
    omega
  · show x _ = x _
    congr 2
    refine Fin.ext ?_
    rw [par_val_set hq i hb]
    have hle : 2 ^ q ≤ i.val := Nat.ge_two_pow_of_testBit hb
    show (i.val + 16384 - (BitVec.ofNat 32 (2 ^ q)).toNat % 16384) % 16384 = _
    rw [pow_word (by omega)]
    omega

/-- Whether a lane takes its partner's element, with the lanes' sources at hand. -/
def takes (O0 : Fin 16384 → EReal) (l q : ℕ) (σ : Fin 16384 → Fin 16384) (i : Fin 16384) : Prop :=
  bef O0 (σ (par q i)) (σ i) = xor (decide (i.val &&& 2 ^ (l + 1) = 0)) (decide (i.val &&& 2 ^ q ≠ 0))

instance (O0 : Fin 16384 → EReal) (l q : ℕ) (σ : Fin 16384 → Fin 16384) (i : Fin 16384) : Decidable (takes O0 l q σ i) := by
  unfold takes; infer_instance

theorem ofNat_slt (a b : Fin 16384) : IntOp.cmpi .slt (BitVec.ofNat 32 a.val) (BitVec.ofNat 32 b.val) = BitVec.ofBool (decide (a < b)) := by
  show BitVec.ofBool ((BitVec.ofNat 32 a.val).slt (BitVec.ofNat 32 b.val)) = _
  congr 1
  have ha := a.isLt
  have hb := b.isLt
  have h : ∀ x : ℕ, x < 16384 → (BitVec.ofNat 32 x).toInt = x := by
    intro x hx
    rw [BitVec.toInt_eq_toNat_of_lt] <;> rw [BitVec.toNat_ofNat, Nat.mod_eq_of_lt] <;> omega
  rw [BitVec.slt_eq_decide, h _ ha, h _ hb]
  rw [Bool.eq_iff_iff, decide_eq_true_eq, decide_eq_true_eq, Fin.lt_def]
  omega

/-- The mask of one pass. -/
theorem take_mask (O0 : Fin 16 → Fin 16384 → EReal) (l q : ℕ) (hl : l < 14) (hq : q ≤ l) (σ : Fin 16 → Fin 16384 → Fin 16384)
    (a : Vec Ideal S1x16x16384 .f32) (w : Vec Ideal S16x16384 .i32)
    (ha : ∀ b i, a (ix3 0 b i) = O0 b (σ b i)) (hw : ∀ b i, w (ix2 b i) = BitVec.ofNat 32 (σ b i).val) (b : Fin 16) (i : Fin 16384) :
    k0_pay6 lanes (BitVec.ofNat 32 (2 ^ (l + 1))) (BitVec.ofNat 32 (2 ^ q)) a w (ix2 b i)
      = BitVec.ofBool (decide (takes (O0 b) l q (σ b) i)) := by
  have h4 : k0_pay4 lanes (BitVec.ofNat 32 (2 ^ q)) a (ix2 b i) = O0 b (σ b (par q i)) := by
    show select _ _ _ _ = _
    rw [rot_select _ q (by omega)]
    unfold k0_pay2
    pointwise []
    exact ha _ _
  have h2 : k0_pay2 a (ix2 b i) = O0 b (σ b i) := by
    unfold k0_pay2
    pointwise []
    exact ha _ _
  have h5 : k0_pay5 lanes (BitVec.ofNat 32 (2 ^ q)) w (ix2 b i) = BitVec.ofNat 32 (σ b (par q i)).val := by
    show select _ _ _ _ = _
    rw [rot_select _ q (by omega)]
    exact hw _ _
  have h3 : k0_pay3 lanes (BitVec.ofNat 32 (2 ^ q)) (ix2 b i) = BitVec.ofBool (i.val.testBit q) := by
    unfold lanes
    pointwise [k0_pay3]
    exact bit_ne (by omega) i
  unfold k0_pay6
  unfold lanes at *
  pointwise []
  rw [h4, h2, h5, h3, hw, ofNat_slt, bit_eq (by omega)]
  unfold takes bef
  simp only [and_eq, and_ne]
  generalize decide (O0 b (σ b i) < O0 b (σ b (par q i))) = A
  generalize decide (O0 b (σ b (par q i)) = O0 b (σ b i)) = B
  generalize decide (σ b (par q i) < σ b i) = C
  generalize i.val.testBit q = D
  generalize i.val.testBit (l + 1) = E
  revert A B C D E
  decide

/-- The rows of the sorted boxes and scores, and of the lanes' sources: what the two buffers hold of a rearrangement. -/
structure Holds (v4 : S5x16x16384.Idx → Ideal .f32) (v5 : S16x16384.Idx → BitVec 32) (O : Fin 5 → Fin 16 → Fin 16384 → EReal)
    (σ : Fin 16 → Fin 16384 → Fin 16384) : Prop where
  val : ∀ ch b i, v4 (ix3 ch b i) = O ch b (σ b i)
  ix : ∀ b i, v5 (ix2 b i) = BitVec.ofNat 32 (σ b i).val

/-- The sources after one pass. -/
def pass (O0 : Fin 16 → Fin 16384 → EReal) (l q : ℕ) (σ : Fin 16 → Fin 16384 → Fin 16384) (b : Fin 16) (i : Fin 16384) : Fin 16384 :=
  if takes (O0 b) l q (σ b) i then σ b (par q i) else σ b i

variable (c : Dev nD) (arg0 : Memref sig .tc .vmem S4x16x16384 .f32) (harg0 : arg0.IsWhole) (arg1 : Memref sig .tc .vmem S16x16384 .f32) (harg1 : arg1.IsWhole) (arg2 : Memref sig .tc .vmem S4x1x16384 .f32) (harg2 : arg2.IsWhole) (arg3 : Memref sig .tc .vmem S16x8x256 .f32) (harg3 : arg3.IsWhole) (arg4 : Memref sig .tc .vmem S5x16x16384 .f32) (harg4 : arg4.IsWhole) (arg5 : Memref sig .tc .vmem S16x16384 .i32) (harg5 : arg5.IsWhole) (arg6 : Memref sig .tc .vmem S7x8x16x128 .f32) (harg6 : arg6.IsWhole)

theorem cast_row (X : Vec Ideal S1x16x16384 .f32) (b : Fin 16) (i : Fin 16384) :
    shapeCast S16x16384 X shapeCasts_S1x16x16384_S16x16384 (ix2 b i) = X (ix3 0 b i) := by
  pointwise []

/-- One pass rearranges what the buffers hold. -/
theorem trip1_holds (v68 : FVec Ideal S16x16384 .f32) (k : Fin k0_t1_loop.trips) (l q : ℕ) (hl : l < 14) (hq : q ≤ l)
    (f4 : BufTy.Contents (Elt Ideal) arg4.view.ty) (f5 : BufTy.Contents (Elt Ideal) arg5.view.ty)
    (O : Fin 5 → Fin 16 → Fin 16384 → EReal) (σ : Fin 16 → Fin 16384 → Fin 16384)
    (h : Holds (arg4.view.read (Elt Ideal) f4) (arg5.view.read (Elt Ideal) f5) O σ) :
    Holds
      (arg4.view.read (Elt Ideal) (arg4.view.writes (Elt Ideal) f4 ((trip_k0_t1 (F := Ideal) Variants.none c none arg0 harg0 arg1 harg1 arg2 harg2 arg3 harg3 arg4 harg4 arg5 harg5 arg6 harg6 lanes v68 k).2.1
        (BitVec.ofNat 32 (2 ^ (l + 1)), BitVec.ofNat 32 (2 ^ q)) f4 f5)))
      (arg5.view.read (Elt Ideal) (arg5.view.writes (Elt Ideal) f5 ((trip_k0_t1 (F := Ideal) Variants.none c none arg0 harg0 arg1 harg1 arg2 harg2 arg3 harg3 arg4 harg4 arg5 harg5 arg6 harg6 lanes v68 k).2.2.1
        (BitVec.ofNat 32 (2 ^ (l + 1)), BitVec.ofNat 32 (2 ^ q)) f4 f5)))
      O (pass (O 0) l q σ) := by
  have hrow : ∀ (ch : Fin 5) (inb : ∀ a, (![ch.val, 0, 0] : Fin 3 → ℕ) a + S1x16x16384.size a ≤ S5x16x16384.size a) (b : Fin 16) (i : Fin 16384),
      View.readAt (Elt Ideal) arg4.view (Rect.unit (s := S5x16x16384) ![ch.val, 0, 0] S1x16x16384.size inb).toLoadRect f4 (ix3 0 b i) = O ch b (σ b i) := by
    intro ch inb b i
    rw [View.readAt_apply, ← h.val]
    congr 1
    pointwise []
  have hix : ∀ (inb : ∀ a, (![0, 0] : Fin 2 → ℕ) a + S16x16384.size a ≤ S16x16384.size a) (b : Fin 16) (i : Fin 16384),
      View.readAt (Elt Ideal) arg5.view (Rect.unit (s := S16x16384) ![0, 0] S16x16384.size inb).toLoadRect f5 (ix2 b i) = BitVec.ofNat 32 (σ b i).val := by
    intro inb b i
    rw [View.readAt_apply, ← h.ix]
    congr 1
    pointwise []
  have hmask : ∀ inb inb' b i, k0_pay6 lanes (BitVec.ofNat 32 (2 ^ (l + 1))) (BitVec.ofNat 32 (2 ^ q))
          (View.readAt (Elt Ideal) arg4.view (Rect.unit (s := S5x16x16384) ![0, 0, 0] S1x16x16384.size inb).toLoadRect f4)
          (View.readAt (Elt Ideal) arg5.view (Rect.unit (s := S16x16384) ![0, 0] S16x16384.size inb').toLoadRect f5) (ix2 b i) = BitVec.ofBool (decide (takes (O 0 b) l q (σ b) i)) :=
    fun inb inb' => take_mask (O 0) l q hl hq σ _ _ (hrow 0 inb) (hix inb')
  have fin : ∀ (ch : Fin 5) (inb inb' inb'') (b : Fin 16) (i : Fin 16384) ,
      select (k0_pay6 lanes (BitVec.ofNat 32 (2 ^ (l + 1))) (BitVec.ofNat 32 (2 ^ q))
          (View.readAt (Elt Ideal) arg4.view (Rect.unit (s := S5x16x16384) ![0, 0, 0] S1x16x16384.size inb).toLoadRect f4)
          (View.readAt (Elt Ideal) arg5.view (Rect.unit (s := S16x16384) ![0, 0] S16x16384.size inb').toLoadRect f5))
        (select (k0_pay3 lanes (BitVec.ofNat 32 (2 ^ q)))
          (dynamicRotate 1 (BitVec.ofNat 32 (2 ^ q)) none (shapeCast S16x16384 (View.readAt (Elt Ideal) arg4.view (Rect.unit (s := S5x16x16384) ![ch.val, 0, 0] S1x16x16384.size inb'').toLoadRect f4) shapeCasts_S1x16x16384_S16x16384) rotates_S16x16384_d1)
          (dynamicRotate 1 (Scalar.subi 0#32 (BitVec.ofNat 32 (2 ^ q))) none (shapeCast S16x16384 (View.readAt (Elt Ideal) arg4.view (Rect.unit (s := S5x16x16384) ![ch.val, 0, 0] S1x16x16384.size inb'').toLoadRect f4) shapeCasts_S1x16x16384_S16x16384) rotates_S16x16384_d1))
        (shapeCast S16x16384 (View.readAt (Elt Ideal) arg4.view (Rect.unit (s := S5x16x16384) ![ch.val, 0, 0] S1x16x16384.size inb'').toLoadRect f4) shapeCasts_S1x16x16384_S16x16384) (ix2 b i)
      = O ch b (pass (O 0) l q σ b i) := by
    intro ch inb inb' inb'' b i
    have hs : ∀ b i, shapeCast S16x16384 (View.readAt (Elt Ideal) arg4.view (Rect.unit (s := S5x16x16384) ![ch.val, 0, 0] S1x16x16384.size inb'').toLoadRect f4) shapeCasts_S1x16x16384_S16x16384 (ix2 b i) = O ch b (σ b i) := by
      intro b i
      exact (cast_row _ b i).trans (hrow ch inb'' b i)
    show Scalar.select (k0_pay6 _ _ _ _ _ (ix2 b i)) (select _ _ _ (ix2 b i)) (shapeCast _ _ _ (ix2 b i)) = _
    rw [hmask inb inb', rot_select _ q (by omega), hs, hs]
    unfold pass
    by_cases ht : takes (O 0 b) l q (σ b) i
    · rw [if_pos ht, decide_eq_true ht]; rfl
    · rw [if_neg ht, decide_eq_false ht]; rfl
  have drop : ∀ (v : FVec Ideal S16x16384 .f32) (b : Fin 16) (i : Fin 16384),
      shapeCast S1x16x16384 v shapeCasts_S16x16384_S1x16x16384 (ix3 0 b i) = v (ix2 b i) := by
    intro v b i
    pointwise []
  constructor
  · intro ch b i
    unfold trip_k0_t1
    dsimp only
    sl_unfold_words
    fin_cases ch
    · refine (View.read_writes_cons_unit_of_not_mem _ _ _ _ _ _ rfl 0 (by left; show (0 : ℕ) < 4; decide)).trans ?_
      refine (View.read_writes_cons_unit_of_not_mem _ _ _ _ _ _ rfl 0 (by left; show (0 : ℕ) < 3; decide)).trans ?_
      refine (View.read_writes_cons_unit_of_not_mem _ _ _ _ _ _ rfl 0 (by left; show (0 : ℕ) < 2; decide)).trans ?_
      refine (View.read_writes_cons_unit_of_not_mem _ _ _ _ _ _ rfl 0 (by left; show (0 : ℕ) < 1; decide)).trans ?_
      refine (View.read_writes_cons_unit_of_mem _ _ _ _ _ _ (ix3 0 b i) rfl (by intro a; fin_cases a <;> simp)).trans ?_
      exact (drop _ b i).trans (fin 0 _ _ _ b i)
    · refine (View.read_writes_cons_unit_of_not_mem _ _ _ _ _ _ rfl 0 (by left; show (1 : ℕ) < 4; decide)).trans ?_
      refine (View.read_writes_cons_unit_of_not_mem _ _ _ _ _ _ rfl 0 (by left; show (1 : ℕ) < 3; decide)).trans ?_
      refine (View.read_writes_cons_unit_of_not_mem _ _ _ _ _ _ rfl 0 (by left; show (1 : ℕ) < 2; decide)).trans ?_
      refine (View.read_writes_cons_unit_of_mem _ _ _ _ _ _ (ix3 0 b i) rfl (by intro a; fin_cases a <;> simp)).trans ?_
      exact (drop _ b i).trans (fin 1 _ _ _ b i)
    · refine (View.read_writes_cons_unit_of_not_mem _ _ _ _ _ _ rfl 0 (by left; show (2 : ℕ) < 4; decide)).trans ?_
      refine (View.read_writes_cons_unit_of_not_mem _ _ _ _ _ _ rfl 0 (by left; show (2 : ℕ) < 3; decide)).trans ?_
      refine (View.read_writes_cons_unit_of_mem _ _ _ _ _ _ (ix3 0 b i) rfl (by intro a; fin_cases a <;> simp)).trans ?_
      exact (drop _ b i).trans (fin 2 _ _ _ b i)
    · refine (View.read_writes_cons_unit_of_not_mem _ _ _ _ _ _ rfl 0 (by left; show (3 : ℕ) < 4; decide)).trans ?_
      refine (View.read_writes_cons_unit_of_mem _ _ _ _ _ _ (ix3 0 b i) rfl (by intro a; fin_cases a <;> simp)).trans ?_
      exact (drop _ b i).trans (fin 3 _ _ _ b i)
    · refine (View.read_writes_cons_unit_of_mem _ _ _ _ _ _ (ix3 0 b i) rfl (by intro a; fin_cases a <;> simp)).trans ?_
      exact (drop _ b i).trans (fin 4 _ _ _ b i)
  · intro b i
    unfold trip_k0_t1
    dsimp only
    sl_unfold_words
    refine (View.read_writes_cons_unit_of_mem _ _ _ _ _ _ (ix2 b i) rfl (by intro a; fin_cases a <;> simp)).trans ?_
    have h8 : ∀ (a : Vec Ideal S1x16x16384 .f32) (w : Vec Ideal S16x16384 .i32),
        k0_pay8 lanes (BitVec.ofNat 32 (2 ^ (l + 1))) (BitVec.ofNat 32 (2 ^ q)) a w (ix2 b i)
          = Scalar.select (k0_pay6 lanes (BitVec.ofNat 32 (2 ^ (l + 1))) (BitVec.ofNat 32 (2 ^ q)) a w (ix2 b i)) (w (ix2 b (par q i))) (w (ix2 b i)) := by
      intro a w
      rw [← rot_select w q (by omega) b i]
      unfold k0_pay8
      rw [shapeCast_self]
      rfl
    refine (h8 _ _).trans ?_
    rw [hmask, hix, hix]
    unfold pass
    by_cases ht : takes (O 0 b) l q (σ b) i
    · rw [if_pos ht, decide_eq_true ht]; rfl
    · rw [if_neg ht, decide_eq_false ht]; rfl

theorem pass_src (O0 : Fin 16 → Fin 16384 → EReal) (t : ℕ) (ht : t < 105) :
    pass O0 (lv t).1 (lv t).2 (fun b => src (O0 b) t) = fun b => src (O0 b) (t + 1) := by
  funext b i
  exact (src_succ (O0 b) t ht i).symm

theorem trips1 : k0_t1_loop.trips = 105 := by decide +kernel

/-- The pair of words a pass carries on. -/
theorem carry_words : ∀ t : Fin 105,
    (Scalar.select (Scalar.cmpi CmpIPredicate.eq (BitVec.ofNat 32 (2 ^ (lv t).2)) 1#32) (Scalar.muli (BitVec.ofNat 32 (2 ^ ((lv t).1 + 1))) 2#32) (BitVec.ofNat 32 (2 ^ ((lv t).1 + 1))),
      Scalar.select (Scalar.cmpi CmpIPredicate.eq (BitVec.ofNat 32 (2 ^ (lv t).2)) 1#32) (BitVec.ofNat 32 (2 ^ ((lv t).1 + 1)))
        (Scalar.select
          (Scalar.andi
            (Scalar.cmpi CmpIPredicate.ne
              (Scalar.subi (Scalar.extui (Scalar.cmpi CmpIPredicate.sgt (BitVec.ofNat 32 (2 ^ (lv t).2)) 0#32))
                (Scalar.extui (Scalar.cmpi CmpIPredicate.slt (BitVec.ofNat 32 (2 ^ (lv t).2)) 0#32)))
              1#32)
            (Scalar.cmpi CmpIPredicate.ne (Scalar.remsi (BitVec.ofNat 32 (2 ^ (lv t).2)) 2#32) 0#32))
          (Scalar.subi (Scalar.divsi (BitVec.ofNat 32 (2 ^ (lv t).2)) 2#32) 1#32) (Scalar.divsi (BitVec.ofNat 32 (2 ^ (lv t).2)) 2#32)))
      = (BitVec.ofNat 32 (2 ^ ((lv (t + 1)).1 + 1)), BitVec.ofNat 32 (2 ^ (lv (t + 1)).2)) := by
  decide +kernel

/-- The state before pass `t`. -/
theorem sort_state (v68 : FVec Ideal S16x16384 .f32) (G4 : BufTy.Contents (Elt Ideal) arg4.view.ty) (G5 : BufTy.Contents (Elt Ideal) arg5.view.ty)
    (O : Fin 5 → Fin 16 → Fin 16384 → EReal)
    (h0 : Holds (arg4.view.read (Elt Ideal) G4) (arg5.view.read (Elt Ideal) G5) O (fun _ i => i)) (t : ℕ) (ht : t ≤ 105) :
    (st_k0_t1 (F := Ideal) Variants.none c none arg0 harg0 arg1 harg1 arg2 harg2 arg3 harg3 arg4 harg4 arg5 harg5 arg6 harg6 lanes v68 G4 G5 (2#32, 1#32) t).1
        = (BitVec.ofNat 32 (2 ^ ((lv t).1 + 1)), BitVec.ofNat 32 (2 ^ (lv t).2)) ∧
      Holds
        (arg4.view.read (Elt Ideal) (arg4.view.writes (Elt Ideal) G4 (st_k0_t1 (F := Ideal) Variants.none c none arg0 harg0 arg1 harg1 arg2 harg2 arg3 harg3 arg4 harg4 arg5 harg5 arg6 harg6 lanes v68 G4 G5 (2#32, 1#32) t).2.1))
        (arg5.view.read (Elt Ideal) (arg5.view.writes (Elt Ideal) G5 (st_k0_t1 (F := Ideal) Variants.none c none arg0 harg0 arg1 harg1 arg2 harg2 arg3 harg3 arg4 harg4 arg5 harg5 arg6 harg6 lanes v68 G4 G5 (2#32, 1#32) t).2.2))
        O (fun b => src (O 0 b) t) := by
  induction t with
  | zero => exact ⟨rfl, h0⟩
  | succ t ih =>
    obtain ⟨ihc, ihh⟩ := ih (by omega)
    have hs := st_k0_t1_succ (F := Ideal) Variants.none c none arg0 harg0 arg1 harg1 arg2 harg2 arg3 harg3 arg4 harg4 arg5 harg5 arg6 harg6 lanes v68 G4 G5 (2#32, 1#32) ⟨t, by rw [trips1]; omega⟩
    rw [hs]
    simp only [ihc]
    obtain ⟨hl, hq⟩ := lv_lt ⟨t, by omega⟩
    constructor
    · refine Eq.trans ?_ (carry_words ⟨t, by omega⟩)
      show (trip_k0_t1 (F := Ideal) _ _ _ _ _ _ _ _ _ _ _ _ _ _ _ _ _ _ _ _).1 _ _ _ = _
      unfold trip_k0_t1
      rfl
    · have h := trip1_holds c arg0 harg0 arg1 harg1 arg2 harg2 arg3 harg3 arg4 harg4 arg5 harg5 arg6 harg6 v68 ⟨t, by rw [trips1]; omega⟩ (lv t).1 (lv t).2 hl hq _ _ O _ ihh
      rw [pass_src _ _ (by omega)] at h
      rw [View.writes_append, View.writes_append]
      exact h

end Cert.KernelIdeal.Run
-- ==== Proof.SortRows.lean ====
/- What the sorted rows hold that the kernel body goes on with: the decoded boxes and the scores at the lanes' sources. -/
module

public import proofs.«01_k».proof.Proof.SortVal
public import Idealize.ShloMosaic.Lib.VecWindow

@[expose] public section

set_option maxRecDepth 16384
set_option maxHeartbeats 4000000

noncomputable section

namespace Cert.KernelIdeal.Run

open Cert.KernelIdeal Cert.KernelIdeal.Gen Cert.Pure
open Idealize.ShloMosaic Idealize.ShloMosaic.TcCoe Idealize.ShloMosaic.Tactic
open Idealize.ShloMosaic.SortNet

/-- The lower corner of a decoded box along one axis. -/
def lowC (a0 a2 d0 d2 : EReal) : EReal :=
  (d0 * Ideal.ofBits .f32 0x3DCCCCCD#32 * (a2 - a0) + (a0 + Ideal.ofBits .f32 0x3F000000#32 * (a2 - a0)))
    - Ideal.ofBits .f32 0x3F000000#32 * (Ideal.exp (d2 * Ideal.ofBits .f32 0x3E4CCCCD#32) * (a2 - a0))

/-- The upper corner of a decoded box along one axis. -/
def highC (a0 a2 d0 d2 : EReal) : EReal :=
  lowC a0 a2 d0 d2 + Ideal.exp (d2 * Ideal.ofBits .f32 0x3E4CCCCD#32) * (a2 - a0)

/-- The scores and the decoded boxes before the sort, row by row. -/
def rowsOf (D : S4x16x16384.Idx → EReal) (P : S16x16384.Idx → EReal) (A : S4x1x16384.Idx → EReal) (ch : Fin 5) (b : Fin 16) (i : Fin 16384) : EReal :=
  match ch with
  | 0 => P (ix2 b i)
  | 1 => lowC (A (ix3 0 0 i)) (A (ix3 2 0 i)) (D (ix3 0 b i)) (D (ix3 2 b i))
  | 2 => lowC (A (ix3 1 0 i)) (A (ix3 3 0 i)) (D (ix3 1 b i)) (D (ix3 3 b i))
  | 3 => highC (A (ix3 0 0 i)) (A (ix3 2 0 i)) (D (ix3 0 b i)) (D (ix3 2 b i))
  | 4 => highC (A (ix3 1 0 i)) (A (ix3 3 0 i)) (D (ix3 1 b i)) (D (ix3 3 b i))

section Pays
variable (a0 a1 a2 a3 : Vec Ideal S1x1x16384 .f32) (d0 d1 d2 d3 : Vec Ideal S1x16x16384 .f32) (b : Fin 16) (i : Fin 16384)

theorem pay55_at : k0_pay55 (F := Ideal) (k0_pay42 a0 a2) (k0_pay44 a0 a2) (k0_pay46 d0) (k0_pay48 d2) (ix3 0 b i)
    = lowC (a0 (ix3 0 0 i)) (a2 (ix3 0 0 i)) (d0 (ix3 0 b i)) (d2 (ix3 0 b i)) := by
  pointwise [k0_pay55, k0_pay52, k0_pay50, k0_pay42, k0_pay44, k0_pay46, k0_pay48, k0_pay40]
  rfl

theorem pay57_at : k0_pay57 (F := Ideal) (k0_pay42 a0 a2) (k0_pay44 a0 a2) (k0_pay46 d0) (k0_pay48 d2) (ix3 0 b i)
    = highC (a0 (ix3 0 0 i)) (a2 (ix3 0 0 i)) (d0 (ix3 0 b i)) (d2 (ix3 0 b i)) := by
  pointwise [k0_pay57, k0_pay52, k0_pay50, k0_pay42, k0_pay44, k0_pay46, k0_pay48, k0_pay40]
  rfl

theorem pay56_at : k0_pay56 (F := Ideal) (k0_pay43 a1 a3) (k0_pay45 a1 a3) (k0_pay47 d1) (k0_pay49 d3) (ix3 0 b i)
    = lowC (a1 (ix3 0 0 i)) (a3 (ix3 0 0 i)) (d1 (ix3 0 b i)) (d3 (ix3 0 b i)) := by
  pointwise [k0_pay56, k0_pay53, k0_pay51, k0_pay43, k0_pay45, k0_pay47, k0_pay49, k0_pay41]
  rfl

theorem pay59_at : k0_pay59 (F := Ideal) (k0_pay58 (k0_pay43 a1 a3) (k0_pay45 a1 a3) (k0_pay47 d1) (k0_pay49 d3)) (ix3 0 b i)
    = highC (a1 (ix3 0 0 i)) (a3 (ix3 0 0 i)) (d1 (ix3 0 b i)) (d3 (ix3 0 b i)) := by
  pointwise [k0_pay59, k0_pay58, k0_pay53, k0_pay51, k0_pay43, k0_pay45, k0_pay47, k0_pay49, k0_pay41]
  rfl

end Pays

theorem pay54_at (p : Vec Ideal S16x16384 .f32) (b : Fin 16) (i : Fin 16384) : k0_pay54 (F := Ideal) p (ix3 0 b i) = p (ix2 b i) := by
  pointwise [k0_pay54]

theorem slice_cast (X : Vec Ideal S1x16x16384 .f32) (b : Fin 16) (i : Fin 1024) :
    k0_pay62 (F := Ideal) X (ix2 b i) = X (ix3 0 b ⟨i.val, by omega⟩) := by
  pointwise [k0_pay62]

variable (c : Dev nD) (arg0 : Memref sig .tc .vmem S4x16x16384 .f32) (harg0 : arg0.IsWhole) (arg1 : Memref sig .tc .vmem S16x16384 .f32) (harg1 : arg1.IsWhole) (arg2 : Memref sig .tc .vmem S4x1x16384 .f32) (harg2 : arg2.IsWhole) (arg3 : Memref sig .tc .vmem S16x8x256 .f32) (harg3 : arg3.IsWhole) (arg4 : Memref sig .tc .vmem S5x16x16384 .f32) (harg4 : arg4.IsWhole) (arg5 : Memref sig .tc .vmem S16x16384 .i32) (harg5 : arg5.IsWhole) (arg6 : Memref sig .tc .vmem S7x8x16x128 .f32) (harg6 : arg6.IsWhole)
  (x0 : BufTy.Contents (Elt Ideal) arg0.view.ty) (x1 : BufTy.Contents (Elt Ideal) arg1.view.ty) (x2 : BufTy.Contents (Elt Ideal) arg2.view.ty)

/-- The rows before the sort, from what the windows hold. -/
abbrev rows : Fin 5 → Fin 16 → Fin 16384 → EReal :=
  rowsOf (arg0.view.read (Elt Ideal) x0) (arg1.view.read (Elt Ideal) x1) (arg2.view.read (Elt Ideal) x2)

/-- The buffers before the first pass. -/
theorem holds_start : Holds
    (arg4.view.read (Elt Ideal) (arg4.view.writes (Elt Ideal) arg4.view.junk (bodyRun.sl.H4_5 arg0 arg1 arg2 x0 x1 x2)))
    (arg5.view.read (Elt Ideal) (arg5.view.writes (Elt Ideal) arg5.view.junk (bodyRun.sl.H5_1 (F := Ideal))))
    (rows arg0 arg1 arg2 x0 x1 x2) (fun _ i => i) := by
  constructor
  · intro ch b i
    unfold bodyRun.sl.H4_5
    fin_cases ch
    · refine (View.read_writes_cons_unit_of_not_mem _ _ _ _ _ _ rfl 0 (by left; show (0:ℕ) < 4; decide)).trans ?_
      refine (View.read_writes_cons_unit_of_not_mem _ _ _ _ _ _ rfl 0 (by left; show (0:ℕ) < 3; decide)).trans ?_
      refine (View.read_writes_cons_unit_of_not_mem _ _ _ _ _ _ rfl 0 (by left; show (0:ℕ) < 2; decide)).trans ?_
      refine (View.read_writes_cons_unit_of_not_mem _ _ _ _ _ _ rfl 0 (by left; show (0:ℕ) < 1; decide)).trans ?_
      refine (View.read_writes_cons_unit_of_mem _ _ _ _ _ _ (ix3 0 b i) rfl (by intro a; fin_cases a <;> simp)).trans ?_
      refine (pay54_at _ b i).trans ?_
      rw [View.readAt_apply]
      show arg1.view.read _ _ _ = arg1.view.read _ _ _
      congr 1
      funext a; fin_cases a <;> (refine Fin.ext ?_; simp)
    · refine (View.read_writes_cons_unit_of_not_mem _ _ _ _ _ _ rfl 0 (by left; show (1:ℕ) < 4; decide)).trans ?_
      refine (View.read_writes_cons_unit_of_not_mem _ _ _ _ _ _ rfl 0 (by left; show (1:ℕ) < 3; decide)).trans ?_
      refine (View.read_writes_cons_unit_of_not_mem _ _ _ _ _ _ rfl 0 (by left; show (1:ℕ) < 2; decide)).trans ?_
      refine (View.read_writes_cons_unit_of_mem _ _ _ _ _ _ (ix3 0 b i) rfl (by intro a; fin_cases a <;> simp)).trans ?_
      refine (pay55_at _ _ _ _ b i).trans ?_
      simp only [View.readAt_apply]
      show _ = lowC _ _ _ _
      congr 2 <;> (funext a; fin_cases a <;> (refine Fin.ext ?_; simp))
    · refine (View.read_writes_cons_unit_of_not_mem _ _ _ _ _ _ rfl 0 (by left; show (2:ℕ) < 4; decide)).trans ?_
      refine (View.read_writes_cons_unit_of_not_mem _ _ _ _ _ _ rfl 0 (by left; show (2:ℕ) < 3; decide)).trans ?_
      refine (View.read_writes_cons_unit_of_mem _ _ _ _ _ _ (ix3 0 b i) rfl (by intro a; fin_cases a <;> simp)).trans ?_
      refine (pay56_at _ _ _ _ b i).trans ?_
      simp only [View.readAt_apply]
      show _ = lowC _ _ _ _
      congr 2 <;> (funext a; fin_cases a <;> (refine Fin.ext ?_; simp))
    · refine (View.read_writes_cons_unit_of_not_mem _ _ _ _ _ _ rfl 0 (by left; show (3:ℕ) < 4; decide)).trans ?_
      refine (View.read_writes_cons_unit_of_mem _ _ _ _ _ _ (ix3 0 b i) rfl (by intro a; fin_cases a <;> simp)).trans ?_
      refine (pay57_at _ _ _ _ b i).trans ?_
      simp only [View.readAt_apply]
      show _ = highC _ _ _ _
      congr 2 <;> (funext a; fin_cases a <;> (refine Fin.ext ?_; simp))
    · refine (View.read_writes_cons_unit_of_mem _ _ _ _ _ _ (ix3 0 b i) rfl (by intro a; fin_cases a <;> simp)).trans ?_
      refine (pay59_at _ _ _ _ b i).trans ?_
      simp only [View.readAt_apply]
      show _ = highC _ _ _ _
      congr 2 <;> (funext a; fin_cases a <;> (refine Fin.ext ?_; simp))
  · intro b i
    unfold bodyRun.sl.H5_1
    refine (View.read_writes_cons_unit_of_mem _ _ _ _ _ _ (ix2 b i) rfl (by intro a; fin_cases a <;> simp)).trans ?_
    unfold bodyRun.sl.v0
    pointwise [k0_pay60]

/-- Where the sorted row's lane comes from. -/
abbrev srcOf (b : Fin 16) (i : Fin 16384) : Fin 16384 := src (rows arg0 arg1 arg2 x0 x1 x2 0 b) 105 i

theorem sorted_read (ch : Fin 5) (b : Fin 16) (i : Fin 16384) (hin : ∀ a : Fin S5x16x16384.rank, (![ch.val, 0, 0] : Fin 3 → ℕ) a + S1x16x16384.size a ≤ S5x16x16384.size a) :
    arg4.view.readCov (Val := Elt Ideal) ((Gen.st_k0_t1 (F := Ideal) Variants.none c none arg0 harg0 arg1 harg1 arg2 harg2 arg3 harg3 arg4 harg4 arg5 harg5 arg6 harg6 bodyRun.sl.v0 (bodyRun.sl.r_8 arg0 arg2 x0 x2) (arg4.view.writes (Elt Ideal) arg4.view.junk (bodyRun.sl.H4_5 arg0 arg1 arg2 x0 x1 x2)) (arg5.view.writes (Elt Ideal) arg5.view.junk bodyRun.sl.H5_1) (2#32, 1#32) (Scf.trips k0_t1_loop.lb k0_t1_loop.ub k0_t1_loop.st)).2.1 ++ bodyRun.sl.H4_5 arg0 arg1 arg2 x0 x1 x2) (Rect.unit (s := S5x16x16384) ![ch.val, 0, 0] S1x16x16384.size hin).toLoadRect (ix3 0 b i)
      = rows arg0 arg1 arg2 x0 x1 x2 ch b (srcOf arg0 arg1 arg2 x0 x1 x2 b i) := by
  have h := (sort_state c arg0 harg0 arg1 harg1 arg2 harg2 arg3 harg3 arg4 harg4 arg5 harg5 arg6 harg6 (bodyRun.sl.r_8 arg0 arg2 x0 x2) _ _ _ (holds_start arg0 arg1 arg2 arg4 arg5 x0 x1 x2) 105 le_rfl).2.val ch b i
  rw [← View.writes_append] at h
  refine Eq.trans ?_ h
  show arg4.view.read _ (arg4.view.writes _ _ (_ ++ _)) _ = _
  have ht : Scf.trips k0_t1_loop.lb k0_t1_loop.ub k0_t1_loop.st = 105 := trips1
  rw [ht]
  congr 1
  funext a; fin_cases a <;> (refine Fin.ext ?_; simp)

theorem r9_at (b : Fin 16) (i : Fin 1024) : bodyRun.sl.r_9 (F := Ideal) c arg0 harg0 arg1 harg1 arg2 harg2 arg3 harg3 arg4 harg4 arg5 harg5 arg6 harg6 x0 x1 x2 (ix2 b i)
    = rows arg0 arg1 arg2 x0 x1 x2 1 b (srcOf arg0 arg1 arg2 x0 x1 x2 b ⟨i.val, by omega⟩) := by
  unfold bodyRun.sl.r_9 bodyRun.sl.v82
  rw [slice_cast]
  exact sorted_read c arg0 harg0 arg1 harg1 arg2 harg2 arg3 harg3 arg4 harg4 arg5 harg5 arg6 harg6 x0 x1 x2 1 b _ _

theorem r10_at (b : Fin 16) (i : Fin 1024) : bodyRun.sl.r_10 (F := Ideal) c arg0 harg0 arg1 harg1 arg2 harg2 arg3 harg3 arg4 harg4 arg5 harg5 arg6 harg6 x0 x1 x2 (ix2 b i)
    = rows arg0 arg1 arg2 x0 x1 x2 2 b (srcOf arg0 arg1 arg2 x0 x1 x2 b ⟨i.val, by omega⟩) := by
  unfold bodyRun.sl.r_10 bodyRun.sl.v85
  refine (slice_cast _ b i).trans ?_
  exact sorted_read c arg0 harg0 arg1 harg1 arg2 harg2 arg3 harg3 arg4 harg4 arg5 harg5 arg6 harg6 x0 x1 x2 2 b _ _

theorem r11_at (b : Fin 16) (i : Fin 1024) : bodyRun.sl.r_11 (F := Ideal) c arg0 harg0 arg1 harg1 arg2 harg2 arg3 harg3 arg4 harg4 arg5 harg5 arg6 harg6 x0 x1 x2 (ix2 b i)
    = rows arg0 arg1 arg2 x0 x1 x2 3 b (srcOf arg0 arg1 arg2 x0 x1 x2 b ⟨i.val, by omega⟩) := by
  unfold bodyRun.sl.r_11 bodyRun.sl.v88
  refine (slice_cast _ b i).trans ?_
  exact sorted_read c arg0 harg0 arg1 harg1 arg2 harg2 arg3 harg3 arg4 harg4 arg5 harg5 arg6 harg6 x0 x1 x2 3 b _ _

theorem r12_at (b : Fin 16) (i : Fin 1024) : bodyRun.sl.r_12 (F := Ideal) c arg0 harg0 arg1 harg1 arg2 harg2 arg3 harg3 arg4 harg4 arg5 harg5 arg6 harg6 x0 x1 x2 (ix2 b i)
    = rows arg0 arg1 arg2 x0 x1 x2 4 b (srcOf arg0 arg1 arg2 x0 x1 x2 b ⟨i.val, by omega⟩) := by
  unfold bodyRun.sl.r_12 bodyRun.sl.v91
  refine (slice_cast _ b i).trans ?_
  exact sorted_read c arg0 harg0 arg1 harg1 arg2 harg2 arg3 harg3 arg4 harg4 arg5 harg5 arg6 harg6 x0 x1 x2 4 b _ _

theorem v103_at (b : Fin 16) (i : Fin 1024) : bodyRun.sl.v103 (F := Ideal) c arg0 harg0 arg1 harg1 arg2 harg2 arg3 harg3 arg4 harg4 arg5 harg5 arg6 harg6 x0 x1 x2 (ix2 b i)
    = rows arg0 arg1 arg2 x0 x1 x2 0 b (srcOf arg0 arg1 arg2 x0 x1 x2 b ⟨i.val, by omega⟩) := by
  unfold bodyRun.sl.v103 bodyRun.sl.v102 bodyRun.sl.v101
  refine (slice_cast _ b i).trans ?_
  exact sorted_read c arg0 harg0 arg1 harg1 arg2 harg2 arg3 harg3 arg4 harg4 arg5 harg5 arg6 harg6 x0 x1 x2 0 b _ _

/-- The area of a box, no side below zero. -/
def areaOf (y1 x1 y2 x2 : EReal) : EReal := max (y2 - y1) 0 * max (x2 - x1) 0

theorem pay66_at (v82 v85 v88 v91 : Vec Ideal S1x16x16384 .f32) (b : Fin 16) (i : Fin 1024) :
    k0_pay66 (F := Ideal) v82 v85 v88 v91 (ix2 b i)
      = areaOf (k0_pay62 v82 (ix2 b i)) (k0_pay62 v85 (ix2 b i)) (k0_pay62 v88 (ix2 b i)) (k0_pay62 v91 (ix2 b i)) := by
  unfold areaOf
  pointwise [k0_pay66, k0_pay62, k0_pay63, k0_pay64, k0_pay65]
  try rfl

end Cert.KernelIdeal.Run
-- ==== Proof.PureNms.lean ====
/- Greedy suppression over candidates in a fixed order, and the positions the kept ones take: facts about flags and
   counts, no program in them. -/
module

public import Mathlib.Data.EReal.Operations
public import Mathlib.Data.Nat.Count
public import Mathlib.Algebra.BigOperators.Fin

@[expose] public section

noncomputable section

namespace Cert.Pure

/-! ## Flags -/

/-- Whether candidate `r` is still kept after the first `t` candidates have had their turn. -/
def kp (sup : ℕ → ℕ → Bool) : ℕ → ℕ → Bool
  | 0, _ => true
  | t + 1, r => kp sup t r && !(sup t r && decide (t < r) && kp sup t t)

/-- The final flag. -/
def kept (sup : ℕ → ℕ → Bool) (r : ℕ) : Bool := kp sup r r

theorem kp_succ (sup : ℕ → ℕ → Bool) (t r : ℕ) :
    kp sup (t + 1) r = (kp sup t r && !(sup t r && decide (t < r) && kept sup t)) := rfl

theorem kp_ge (sup : ℕ → ℕ → Bool) (r : ℕ) : ∀ d, kp sup (r + d) r = kept sup r
  | 0 => rfl
  | d + 1 => by
    rw [← Nat.add_assoc, kp_succ, kp_ge sup r d]
    have : ¬ (r + d < r) := by omega
    simp [this]

theorem kp_of_le (sup : ℕ → ℕ → Bool) {r t : ℕ} (h : r ≤ t) : kp sup t r = kept sup r := by
  obtain ⟨d, rfl⟩ := Nat.exists_eq_add_of_le h
  exact kp_ge sup r d

theorem kp_iff (sup : ℕ → ℕ → Bool) (r : ℕ) : ∀ t, kp sup t r = true ↔ ∀ i < t, i < r → ¬ (sup i r = true ∧ kept sup i = true)
  | 0 => by simp [kp]
  | t + 1 => by
    rw [kp_succ, Bool.and_eq_true, kp_iff sup r t]
    constructor
    · rintro ⟨h1, h2⟩ i hi hir ⟨ha, hb⟩
      rcases Nat.lt_succ_iff_lt_or_eq.mp hi with h | rfl
      · exact h1 i h hir ⟨ha, hb⟩
      · simp [ha, hb, hir] at h2
    · intro h
      refine ⟨fun i hi => h i (by omega), ?_⟩
      have := h t (by omega)
      by_cases htr : t < r
      · have := this htr
        cases ha : sup t r <;> cases hb : kept sup t <;> simp_all
      · simp [htr]

/-- Only what an earlier candidate says of a later one counts. -/
theorem kp_congr (s s' : ℕ → ℕ → Bool) (N : ℕ) (h : ∀ i r, i < r → r < N → s i r = s' i r) : ∀ t r, r < N → kp s t r = kp s' t r := by
  intro t
  induction t with
  | zero => intro r _; rfl
  | succ t ih =>
    intro r hr
    show (kp s t r && !(s t r && decide (t < r) && kp s t t)) = (kp s' t r && !(s' t r && decide (t < r) && kp s' t t))
    rw [ih r hr]
    by_cases htr : t < r
    · rw [h t r htr hr, ih t (by omega)]
    · simp [htr]

theorem kept_congr (s s' : ℕ → ℕ → Bool) (N : ℕ) (h : ∀ i r, i < r → r < N → s i r = s' i r) (r : ℕ) (hr : r < N) :
    kept s r = kept s' r := kp_congr s s' N h r r hr

/-- Past a block of `n` candidates beginning at `a`. -/
theorem kp_block (sup : ℕ → ℕ → Bool) (a n r : ℕ) (hr : a + n ≤ r) :
    kp sup (a + n) r = (kp sup a r && !decide (∃ i : Fin n, sup (a + i) r = true ∧ kept sup (a + i) = true)) := by
  rw [Bool.eq_iff_iff, Bool.and_eq_true, kp_iff, kp_iff]
  simp only [Bool.not_eq_true', decide_eq_false_iff_not]
  constructor
  · intro h
    refine ⟨fun i hi => h i (by omega), ?_⟩
    rintro ⟨i, hi⟩
    exact h (a + i) (by omega) (by omega) hi
  · rintro ⟨h1, h2⟩ i hi hir hs
    by_cases hia : i < a
    · exact h1 i hia hir hs
    · exact h2 ⟨⟨i - a, by omega⟩, by
        show sup (a + (i - a)) r = true ∧ kept sup (a + (i - a)) = true
        rw [Nat.add_sub_cancel' (by omega)]; exact hs⟩

/-! ## Zeros and ones -/

/-- One for true, zero for false. -/
def ind (p : Bool) : EReal := if p then 1 else 0

theorem ind_mul (p q : Bool) : ind p * ind q = ind (p && q) := by
  cases p <;> cases q <;> simp [ind]

theorem ind_sub (p q : Bool) : ind p * (1 - ind q) = ind (p && !q) := by
  cases p <;> cases q <;> simp [ind]
  exact EReal.sub_self (by decide) (by decide)

theorem ind_gt (p : Bool) (c : EReal) (h0 : 0 < c) (h1 : c < 1) : c < ind p ↔ p = true := by
  cases p
  · simp [ind, h0.le]
  · simp [ind, h1]

/-- A sum against a one-hot row picks one term. -/
theorem pick {n : ℕ} (x : Fin n → EReal) (m : Fin n → Bool) (i : Fin n) (h : ∀ j, m j = decide (j = i)) :
    ∑ j, x j * ind (m j) = x i := by
  rw [Finset.sum_eq_single i]
  · rw [h]; simp [ind]
  · intro j _ hj
    rw [h]; simp [ind, hj]
  · intro hh; exact absurd (Finset.mem_univ i) hh

theorem sum_none {n : ℕ} (x : Fin n → EReal) (m : Fin n → Bool) (h : ∀ j, m j = false) :
    ∑ j, x j * ind (m j) = 0 := by
  refine Finset.sum_eq_zero fun j _ => ?_
  rw [h]; simp [ind]

/-- The greatest of zeros and ones, from the least value up. -/
theorem fold_ind {n : ℕ} (p : Fin n → Bool) (hn : 0 < n) :
    Finset.univ.sup (fun i => ind (p i)) = ind (decide (∃ i, p i = true)) := by
  by_cases h : ∃ i, p i = true
  · obtain ⟨i, hi⟩ := h
    have : decide (∃ i, p i = true) = true := decide_eq_true ⟨i, hi⟩
    rw [this]
    refine le_antisymm (Finset.sup_le fun j _ => ?_) ?_
    · cases p j <;> simp [ind]
    · have h1 := Finset.le_sup (f := fun i => ind (p i)) (Finset.mem_univ i)
      simp only [hi] at h1
      exact h1
  · have : decide (∃ i, p i = true) = false := decide_eq_false h
    rw [this]
    have h0 : (fun i => ind (p i)) = fun _ => (0 : EReal) := by
      funext i
      have : p i = false := by
        cases hp : p i
        · rfl
        · exact absurd ⟨i, hp⟩ h
      simp [ind, this]
    rw [h0]
    haveI : NeZero n := ⟨by omega⟩
    rw [Finset.sup_const ⟨0, Finset.mem_univ 0⟩]
    rfl

/-! ## Counts -/

/-- The partial counts of a prefix sum by doubling shifts. -/
def win (p : ℕ → Bool) : ℕ → ℕ → ℕ
  | 0, i => if p i then 1 else 0
  | k + 1, i => win p k i + if 2 ^ k ≤ i then win p k (i - 2 ^ k) else 0

theorem count_succ' (p : ℕ → Bool) (n : ℕ) : Nat.count (fun i => p i = true) (n + 1) = Nat.count (fun i => p i = true) n + if p n then 1 else 0 := by
  rw [Nat.count_succ]

theorem win_count (p : ℕ → Bool) : ∀ k i, win p k i + Nat.count (fun i => p i = true) (i + 1 - 2 ^ k) = Nat.count (fun i => p i = true) (i + 1)
  | 0, i => by
    rw [win, count_succ']
    simp [Nat.add_comm]
  | k + 1, i => by
    have h := win_count p k i
    rw [win]
    have hp : 2 ^ (k + 1) = 2 ^ k + 2 ^ k := by rw [pow_succ]; omega
    by_cases hk : 2 ^ k ≤ i
    · have h' := win_count p k (i - 2 ^ k)
      rw [if_pos hk]
      have e1 : i - 2 ^ k + 1 - 2 ^ k = i + 1 - 2 ^ (k + 1) := by omega
      have e2 : i - 2 ^ k + 1 = i + 1 - 2 ^ k := by omega
      rw [e1, e2] at h'
      omega
    · rw [if_neg hk]
      have e1 : i + 1 - 2 ^ (k + 1) = 0 := by omega
      have e2 : i + 1 - 2 ^ k = 0 := by omega
      rw [e1]; rw [e2] at h
      omega

theorem win_all (p : ℕ → Bool) (k i : ℕ) (h : i < 2 ^ k) : win p k i = Nat.count (fun i => p i = true) (i + 1) := by
  have := win_count p k i
  have e : i + 1 - 2 ^ k = 0 := by omega
  rw [e] at this
  simpa using this

/-- Extended reals that are natural numbers. -/
def nat (n : ℕ) : EReal := ((n : ℝ) : EReal)

theorem nat_zero : nat 0 = 0 := by simp [nat]
theorem nat_one : nat 1 = 1 := by simp [nat]
theorem nat_add (a b : ℕ) : nat a + nat b = nat (a + b) := by
  unfold nat; rw [← EReal.coe_add]; push_cast; rfl
theorem nat_lt (a b : ℕ) : nat a < nat b ↔ a < b := by
  unfold nat; rw [EReal.coe_lt_coe_iff]; exact Nat.cast_lt
theorem nat_inj (a b : ℕ) : nat a = nat b ↔ a = b := by
  unfold nat; rw [EReal.coe_eq_coe_iff]; exact Nat.cast_inj
theorem nat_succ_sub (a : ℕ) : nat (a + 1) - 1 = nat a := by
  unfold nat
  have : (1 : EReal) = ((1 : ℝ) : EReal) := rfl
  rw [this, ← EReal.coe_sub, Nat.cast_succ, add_sub_cancel_right]
theorem nat_ne_neg (a : ℕ) : (-1 : EReal) ≠ nat a := by
  unfold nat
  have : (-1 : EReal) = ((-1 : ℝ) : EReal) := rfl
  rw [this]
  intro h
  rw [EReal.coe_eq_coe_iff] at h
  have : (0 : ℝ) ≤ a := Nat.cast_nonneg a
  linarith

theorem ind_nat (p : Bool) : ind p = nat (if p then 1 else 0) := by
  cases p <;> simp [ind, nat]

/-- The sum of a row of zeros and ones counts the ones. -/
theorem sum_ind (p : ℕ → Bool) : ∀ n : ℕ, ∑ i : Fin n, ind (p i) = nat (Nat.count (fun i => p i = true) n)
  | 0 => by simp [nat]
  | n + 1 => by
    rw [Fin.sum_univ_castSucc, count_succ', ← nat_add, ← ind_nat]
    congr 1
    exact sum_ind p n

/-- Every count below the whole count is reached at a true place. -/
theorem count_reached (p : ℕ → Bool) (o : ℕ) : ∀ n, o < Nat.count (fun i => p i = true) n → ∃ i < n, p i = true ∧ Nat.count (fun i => p i = true) i = o
  | 0, h => by simp at h
  | n + 1, h => by
    rw [count_succ'] at h
    by_cases hn : o < Nat.count (fun i => p i = true) n
    · obtain ⟨i, hi, hp, hc⟩ := count_reached p o n hn
      exact ⟨i, by omega, hp, hc⟩
    · cases hp : p n
      · rw [hp] at h; simp at h; omega
      · rw [hp] at h; simp at h
        exact ⟨n, by omega, hp, by omega⟩

theorem count_lt_of_lt (p : ℕ → Bool) {i j : ℕ} (h : i < j) (hp : p i = true) :
    Nat.count (fun i => p i = true) i < Nat.count (fun i => p i = true) j := by
  have h1 := Nat.count_monotone (fun i => p i = true) (show i + 1 ≤ j by omega)
  have h2 := count_succ' p i
  rw [hp] at h2
  simp at h2
  omega

/-- Distinct true places have distinct counts before them. -/
theorem count_unique (p : ℕ → Bool) {i j : ℕ} (hi : p i = true) (hj : p j = true)
    (h : Nat.count (fun i => p i = true) i = Nat.count (fun i => p i = true) j) : i = j := by
  rcases Nat.lt_trichotomy i j with hlt | he | hlt
  · have := count_lt_of_lt p hlt hi; omega
  · exact he
  · have := count_lt_of_lt p hlt hj; omega

end Cert.Pure
-- ==== Proof.NmsStep.lean ====
/- One step of the suppression loops at one lane: against one candidate of the block, and against a whole earlier block. -/
module

public import proofs.«01_k».proof.Proof.SortRows
public import proofs.«01_k».proof.Proof.PureNms

@[expose] public section

set_option maxRecDepth 16384
set_option maxHeartbeats 4000000

noncomputable section

namespace Cert.KernelIdeal.Run

open Cert.KernelIdeal Cert.KernelIdeal.Gen Cert.Pure
open Idealize.ShloMosaic Idealize.ShloMosaic.TcCoe Idealize.ShloMosaic.Tactic

/-- The overlap of two boxes over their union. -/
def iouOf (y1a x1a y2a x2a aa y1b x1b y2b x2b ab : EReal) : EReal :=
  Ideal.div (max (min y2a y2b - max y1a y1b) 0 * max (min x2a x2b - max x1a x1b) 0)
    (aa + ab - max (min y2a y2b - max y1a y1b) 0 * max (min x2a x2b - max x1a x1b) 0 + Ideal.ofBits .f32 0x322BCC77#32)

/-- Whether the overlap passes the threshold. -/
def over (y1a x1a y2a x2a aa y1b x1b y2b x2b ab : EReal) : Bool :=
  decide (Ideal.ofBits .f32 0x3F4CCCCD#32 < iouOf y1a x1a y2a x2a aa y1b x1b y2b x2b ab)

theorem word_ind (p : Bool) : (FloatOps.sitofp FTy.f32 (BitVec.setWidth 32 (BitVec.ofBool p)) : Ideal .f32) = ind p := by
  show (((BitVec.setWidth 32 (BitVec.ofBool p)).toInt : ℝ) : EReal) = ind p
  cases p
  · simp [ind]
  · have : (BitVec.setWidth 32 (BitVec.ofBool true)).toInt = 1 := by decide
    rw [this]; simp [ind]

theorem trips5 : k0_t5_loop.trips = 128 := by decide +kernel

theorem iv5 (k : Fin k0_t5_loop.trips) : Scf.iv 0#32 1#32 k.val = BitVec.ofNat 32 k.val := by
  have : ∀ k : Fin 128, Scf.iv 0#32 1#32 k.val = BitVec.ofNat 32 k.val := by decide +kernel
  exact this ⟨k.val, trips5 ▸ k.isLt⟩

theorem word_eq (a b : Fin 128) : IntOp.cmpi CmpIPredicate.eq (BitVec.ofNat 32 a.val) (BitVec.ofNat 32 b.val) = BitVec.ofBool (decide (a.val = b.val)) := by
  revert a b; decide +kernel

theorem word_gt (a b : Fin 128) : IntOp.cmpi CmpIPredicate.sgt (BitVec.ofNat 32 a.val) (BitVec.ofNat 32 b.val) = BitVec.ofBool (decide (b.val < a.val)) := by
  revert a b; decide +kernel

theorem onehot (k : Fin k0_t5_loop.trips) (b : Fin 16) (j : Fin 128) :
    k0_pay28 (F := Ideal) bodyRun.sl.v328 0#32 1#32 k (ix2 b j) = ind (decide (j = ⟨k.val, trips5 ▸ k.isLt⟩)) := by
  unfold bodyRun.sl.v328
  pointwise [k0_pay28]
  rw [iv5]
  refine (congrArg (fun w => (FloatOps.sitofp FTy.f32 (BitVec.setWidth 32 w) : Ideal .f32)) (word_eq j ⟨k.val, trips5 ▸ k.isLt⟩)).trans ?_
  rw [word_ind]
  exact congrArg ind (decide_eq_decide.mpr (Fin.ext_iff (a := j) (b := ⟨k.val, trips5 ▸ k.isLt⟩)).symm)

theorem pick5 (x : Fin 128 → EReal) (k : Fin k0_t5_loop.trips) (b : Fin 16) :
    ∑ j, x j * k0_pay28 (F := Ideal) (iota Kind.tc S16x128 32 [1] iota_S16x128_d1_w32) 0#32 1#32 k (ix2 b j) = x ⟨k.val, trips5 ▸ k.isLt⟩ := by
  have h : ∀ j, k0_pay28 (F := Ideal) (iota Kind.tc S16x128 32 [1] iota_S16x128_d1_w32) 0#32 1#32 k (ix2 b j)
      = ind (decide (j = ⟨k.val, trips5 ▸ k.isLt⟩)) := fun j => onehot k b j
  simp only [h]
  exact pick x _ _ (fun j => rfl)

theorem inner_at (Y1 X1 Y2 X2 A : Vec Ideal S1x1x16x128 .f32) (K : FVec Ideal S16x128 .f32) (k : Fin k0_t5_loop.trips) (i : Fin 128)
    (hi : i = ⟨k.val, trips5 ▸ k.isLt⟩) (b : Fin 16) (j : Fin 128) :
    innerStep bodyRun.sl.v328 Y1 X1 Y2 X2 A k K (ix2 b j)
      = K (ix2 b j) * (1 - ind (over (Y1 (ix4 0 0 b i)) (X1 (ix4 0 0 b i)) (Y2 (ix4 0 0 b i)) (X2 (ix4 0 0 b i)) (A (ix4 0 0 b i))
          (Y1 (ix4 0 0 b j)) (X1 (ix4 0 0 b j)) (Y2 (ix4 0 0 b j)) (X2 (ix4 0 0 b j)) (A (ix4 0 0 b j)) && decide (i < j)) * K (ix2 b i)) := by
  unfold innerStep bodyRun.sl.v328
  pointwise [k0_pay39, k0_pay29, k0_pay30, k0_pay31, k0_pay32, k0_pay33, k0_pay34, k0_pay35]
  rw [pick5 (fun x => Y1 (ix4 0 0 b x)), pick5 (fun x => X1 (ix4 0 0 b x)), pick5 (fun x => Y2 (ix4 0 0 b x)), pick5 (fun x => X2 (ix4 0 0 b x)),
    pick5 (fun x => A (ix4 0 0 b x)), pick5 (fun x => K (ix2 b x)), iv5]
  have hg := word_gt j i
  rw [hi] at hg
  rw [hi]
  refine congrArg (fun w => K (ix2 b j) * (1 - w * K (ix2 b ⟨k.val, trips5 ▸ k.isLt⟩))) ?_
  refine (congrArg (fun w => (FloatOps.sitofp FTy.f32 (BitVec.setWidth 32 (IntOp.andi _ w)) : Ideal .f32)) hg).trans ?_
  have hand : ∀ p q : Bool, IntOp.andi (BitVec.ofBool p) (BitVec.ofBool q) = BitVec.ofBool (p && q) := by decide
  rw [hand, word_ind]
  rfl

theorem cross_at (acc : FVec Ideal S16x128 .f32) (uY1 uX1 uY2 uX2 uA uK : Vec Ideal S1x1x16x128 .f32) (Y1 X1 Y2 X2 A : FVec Ideal S16x128 .f32) (b : Fin 16) (j : Fin 128) :
    k0_pay37 (F := Ideal) acc (k0_pay14 uA) (k0_pay15 uK) (k0_pay16 A) (k0_pay17 Y1 uY1) (k0_pay18 X1 uX1) (k0_pay19 Y2 uY2) (k0_pay20 X2 uX2) (ix2 b j)
      = acc (ix2 b j) * (1 - Finset.univ.sup fun x : Fin 128 => ind (over (uY1 (ix4 0 0 b x)) (uX1 (ix4 0 0 b x)) (uY2 (ix4 0 0 b x)) (uX2 (ix4 0 0 b x)) (uA (ix4 0 0 b x))
          (Y1 (ix2 b j)) (X1 (ix2 b j)) (Y2 (ix2 b j)) (X2 (ix2 b j)) (A (ix2 b j))) * uK (ix4 0 0 b x)) := by
  pointwise [k0_pay37, k0_pay14, k0_pay15, k0_pay16, k0_pay17, k0_pay18, k0_pay19, k0_pay20]
  simp only [word_ind]
  refine congrArg (fun w => acc (ix2 b j) * (1 - w)) ?_
  have hb : Ideal.ofBits FTy.f32 4286578688#32 = ⊥ := by
    simp [Ideal.ofBits, Ideal.ieee]
  rw [hb]
  rfl

end Cert.KernelIdeal.Run
-- ==== Proof.NmsVal.lean ====
/- The suppression loops of the kernel body: what the scratch holds of the flags after every block. -/
module

public import proofs.«01_k».proof.Proof.NmsStep

@[expose] public section

set_option maxRecDepth 16384
set_option maxHeartbeats 4000000

noncomputable section

namespace Cert.KernelIdeal.Run

open Cert.KernelIdeal Cert.KernelIdeal.Gen Cert.Pure
open Idealize.ShloMosaic Idealize.ShloMosaic.TcCoe Idealize.ShloMosaic.Tactic

/-- Whether candidate `i` overlaps candidate `r` past the threshold, from the rows of boxes and areas. -/
def supOf (B : Fin 7 → Fin 16 → ℕ → EReal) (b : Fin 16) (i r : ℕ) : Bool :=
  over (B 0 b i) (B 1 b i) (B 2 b i) (B 3 b i) (B 6 b i) (B 0 b r) (B 1 b r) (B 2 b r) (B 3 b r) (B 6 b r)

/-- The flag of lane `r` after `t` candidates. -/
def flag (B : Fin 7 → Fin 16 → ℕ → EReal) (b : Fin 16) (t r : ℕ) : EReal := ind (decide (r < 1000) && kp (supOf B b) t r)

/-- The scratch when the first `T` blocks are through. -/
structure Scr (v : S7x8x16x128.Idx → EReal) (B : Fin 7 → Fin 16 → ℕ → EReal) (T : ℕ) : Prop where
  box : ∀ ch : Fin 7, ch ≠ 5 → ∀ (t : Fin 8) (b : Fin 16) (j : Fin 128), v (ix4 ch t b j) = B ch b (128 * t.val + j.val)
  done : ∀ (t : Fin 8) (b : Fin 16) (j : Fin 128), t.val < T → v (ix4 5 t b j) = flag B b (128 * t.val + j.val) (128 * t.val + j.val)
  todo : ∀ (t : Fin 8) (b : Fin 16) (j : Fin 128), T ≤ t.val → v (ix4 5 t b j) = flag B b 0 (128 * t.val + j.val)

variable (c : Dev nD) (arg0 : Memref sig .tc .vmem S4x16x16384 .f32) (harg0 : arg0.IsWhole) (arg1 : Memref sig .tc .vmem S16x16384 .f32) (harg1 : arg1.IsWhole) (arg2 : Memref sig .tc .vmem S4x1x16384 .f32) (harg2 : arg2.IsWhole) (arg3 : Memref sig .tc .vmem S16x8x256 .f32) (harg3 : arg3.IsWhole) (arg4 : Memref sig .tc .vmem S5x16x16384 .f32) (harg4 : arg4.IsWhole) (arg5 : Memref sig .tc .vmem S16x16384 .i32) (harg5 : arg5.IsWhole) (arg6 : Memref sig .tc .vmem S7x8x16x128 .f32) (harg6 : arg6.IsWhole)

theorem load6 (off : Fin 4 → ℕ) (hin : ∀ a : Fin S7x8x16x128.rank, off a + S1x1x16x128.size a ≤ S7x8x16x128.size a) (ch : Fin 7) (t : Fin 8)
    (hoff : off = ![ch.val, t.val, 0, 0]) (f : BufTy.Contents (Elt Ideal) arg6.view.ty) (b : Fin 16) (j : Fin 128) :
    View.readAt (Elt Ideal) arg6.view (Rect.unit (s := S7x8x16x128) off S1x1x16x128.size hin).toLoadRect f (ix4 0 0 b j)
      = arg6.view.read (Elt Ideal) f (ix4 ch t b j) := by
  subst hoff
  rw [View.readAt_apply]
  congr 1
  funext a; fin_cases a <;> (refine Fin.ext ?_; simp)

theorem trips2 : k0_t2_loop.trips = 8 := by decide +kernel

theorem trips3 (k : Fin k0_t2_loop.trips) : (k0_t3_loop k).trips = k.val := by
  revert k; decide +kernel

theorem trips4 (k : Fin k0_t2_loop.trips) : (k0_t4_loop k).trips = 0 := by
  revert k; decide +kernel

/-- The block of a trip. -/
abbrev blk (k : Fin k0_t2_loop.trips) : Fin 8 := ⟨k.val, trips2 ▸ k.isLt⟩

theorem cast31 (X : Vec Ideal S1x1x16x128 .f32) (b : Fin 16) (j : Fin 128) : k0_pay31 (F := Ideal) X (ix2 b j) = X (ix4 0 0 b j) := by
  pointwise [k0_pay31]

theorem flag_zero (B : Fin 7 → Fin 16 → ℕ → EReal) (b : Fin 16) (t r : ℕ) (h : ¬ r < 1000) (x : EReal) : flag B b t r * x = flag B b t r := by
  unfold flag; simp [h, ind]

/-- The flags of the lanes of a block, against one earlier block. -/
theorem cross_step (B : Fin 7 → Fin 16 → ℕ → EReal) (b : Fin 16) (u r : ℕ) (hu : 128 * u + 128 ≤ r) :
    flag B b (128 * u) r * (1 - Finset.univ.sup fun x : Fin 128 => ind (supOf B b (128 * u + x.val) r) * flag B b (128 * u + x.val) (128 * u + x.val))
      = flag B b (128 * (u + 1)) r := by
  by_cases hr : r < 1000
  · have h1 : (fun x : Fin 128 => ind (supOf B b (128 * u + x.val) r) * flag B b (128 * u + x.val) (128 * u + x.val))
        = fun x : Fin 128 => ind (supOf B b (128 * u + x.val) r && kept (supOf B b) (128 * u + x.val)) := by
      funext x
      have : 128 * u + x.val < 1000 := by omega
      unfold flag
      rw [ind_mul, decide_eq_true this, Bool.true_and]; rfl
    rw [h1, fold_ind _ (by decide)]
    unfold flag
    rw [ind_sub]
    congr 1
    rw [decide_eq_true hr, Bool.true_and, Bool.true_and, show 128 * (u + 1) = 128 * u + 128 by omega, kp_block _ _ _ _ hu]
    refine congrArg (fun w => kp (supOf B b) (128 * u) r && !w) (decide_eq_decide.mpr ?_)
    simp only [Bool.and_eq_true]
  · rw [flag_zero _ _ _ _ hr]
    unfold flag; simp [hr, ind]

theorem inner_step (B : Fin 7 → Fin 16 → ℕ → EReal) (b : Fin 16) (t : ℕ) (i j : Fin 128) :
    flag B b (128 * t + i.val) (128 * t + j.val)
        * (1 - ind (supOf B b (128 * t + i.val) (128 * t + j.val) && decide (i < j)) * flag B b (128 * t + i.val) (128 * t + i.val))
      = flag B b (128 * t + i.val + 1) (128 * t + j.val) := by
  by_cases hr : 128 * t + j.val < 1000
  · unfold flag
    rw [ind_mul, ind_sub]
    congr 1
    rw [decide_eq_true hr, Bool.true_and, Bool.true_and, kp_succ]
    by_cases hij : i < j
    · have h1 : 128 * t + i.val < 1000 := by have := Fin.lt_def.mp hij; omega
      have h2 : 128 * t + i.val < 128 * t + j.val := by have := Fin.lt_def.mp hij; omega
      rw [decide_eq_true h1, decide_eq_true h2, decide_eq_true hij]
      simp only [Bool.and_true, Bool.true_and]
      rfl
    · have h2 : ¬ (128 * t + i.val < 128 * t + j.val) := by rw [Fin.lt_def] at hij; omega
      rw [decide_eq_false h2, decide_eq_false hij]
      simp
  · rw [flag_zero _ _ _ _ hr]
    unfold flag; simp [hr, ind]

theorem trip3_at (f : BufTy.Contents (Elt Ideal) arg6.view.ty) (B : Fin 7 → Fin 16 → ℕ → EReal) (k : Fin k0_t2_loop.trips)
    (h : Scr (arg6.view.read (Elt Ideal) f) B k.val) (u : Fin (k0_t3_loop k).trips) (acc : FVec Ideal S16x128 .f32) (b : Fin 16) (j : Fin 128)
    (hacc : acc (ix2 b j) = flag B b (128 * u.val) (128 * k.val + j.val)) (v328 : IVec S16x128 32) :
    (trip_k0_t3 (F := Ideal) Variants.none c none arg0 harg0 arg1 harg1 arg2 harg2 arg3 harg3 arg4 harg4 arg5 harg5 arg6 harg6 v328 0#32 1#32 k
      (View.readAt (Elt Ideal) arg6.view (Rect.unit (s := S7x8x16x128) (k0_off1 k) S1x1x16x128.size (k0_off1_inb k)).toLoadRect f)
      (View.readAt (Elt Ideal) arg6.view (Rect.unit (s := S7x8x16x128) (k0_off2 k) S1x1x16x128.size (k0_off2_inb k)).toLoadRect f)
      (View.readAt (Elt Ideal) arg6.view (Rect.unit (s := S7x8x16x128) (k0_off3 k) S1x1x16x128.size (k0_off3_inb k)).toLoadRect f)
      (View.readAt (Elt Ideal) arg6.view (Rect.unit (s := S7x8x16x128) (k0_off4 k) S1x1x16x128.size (k0_off4_inb k)).toLoadRect f)
      (View.readAt (Elt Ideal) arg6.view (Rect.unit (s := S7x8x16x128) (k0_off5 k) S1x1x16x128.size (k0_off5_inb k)).toLoadRect f) f u).1 acc (ix2 b j)
      = flag B b (128 * (u.val + 1)) (128 * k.val + j.val) := by
  have hu : u.val < k.val := trips3 k ▸ u.isLt
  have hk : k.val < 8 := trips2 ▸ k.isLt
  unfold trip_k0_t3
  dsimp only
  sl_unfold_words
  refine (cross_at _ _ _ _ _ _ _ _ _ _ _ _ b j).trans ?_
  refine Eq.trans ?_ (cross_step B b u.val (128 * k.val + j.val) (by omega))
  rw [hacc]
  refine congrArg (fun w => flag B b (128 * u.val) (128 * k.val + j.val) * (1 - w)) ?_
  refine congrArg (fun w : Fin 128 → EReal => Finset.univ.sup w) ?_
  funext x
  have hub : u.val < 8 := by omega
  have e0 := (load6 arg6 _ (k0_off7_inb k u) 0 ⟨u.val, hub⟩ (k0_off7_eq k u) f b x).trans (h.box 0 (by decide) _ b x)
  have e1 := (load6 arg6 _ (k0_off8_inb k u) 1 ⟨u.val, hub⟩ (k0_off8_eq k u) f b x).trans (h.box 1 (by decide) _ b x)
  have e2 := (load6 arg6 _ (k0_off9_inb k u) 2 ⟨u.val, hub⟩ (k0_off9_eq k u) f b x).trans (h.box 2 (by decide) _ b x)
  have e3 := (load6 arg6 _ (k0_off10_inb k u) 3 ⟨u.val, hub⟩ (k0_off10_eq k u) f b x).trans (h.box 3 (by decide) _ b x)
  have e6 := (load6 arg6 _ (k0_off11_inb k u) 6 ⟨u.val, hub⟩ (k0_off11_eq k u) f b x).trans (h.box 6 (by decide) _ b x)
  have e5 := (load6 arg6 _ (k0_off12_inb k u) 5 ⟨u.val, hub⟩ (k0_off12_eq k u) f b x).trans (h.done _ b x hu)
  have g0 := (cast31 _ b j).trans ((load6 arg6 _ (k0_off1_inb k) 0 (blk k) (k0_off1_eq k) f b j).trans (h.box 0 (by decide) _ b j))
  have g1 := (cast31 _ b j).trans ((load6 arg6 _ (k0_off2_inb k) 1 (blk k) (k0_off2_eq k) f b j).trans (h.box 1 (by decide) _ b j))
  have g2 := (cast31 _ b j).trans ((load6 arg6 _ (k0_off3_inb k) 2 (blk k) (k0_off3_eq k) f b j).trans (h.box 2 (by decide) _ b j))
  have g3 := (cast31 _ b j).trans ((load6 arg6 _ (k0_off4_inb k) 3 (blk k) (k0_off4_eq k) f b j).trans (h.box 3 (by decide) _ b j))
  have g6 := (cast31 _ b j).trans ((load6 arg6 _ (k0_off5_inb k) 6 (blk k) (k0_off5_eq k) f b j).trans (h.box 6 (by decide) _ b j))
  unfold supOf
  rw [← e0, ← e1, ← e2, ← e3, ← e6, ← e5, ← g0, ← g1, ← g2, ← g3, ← g6]
  rfl

/-- The row of flags a block's trip leaves. -/
theorem row_at (f : BufTy.Contents (Elt Ideal) arg6.view.ty) (B : Fin 7 → Fin 16 → ℕ → EReal) (k : Fin k0_t2_loop.trips)
    (h : Scr (arg6.view.read (Elt Ideal) f) B k.val) (b : Fin 16) (j : Fin 128) :
    tripBlock.sl.r (F := Ideal) c arg0 harg0 arg1 harg1 arg2 harg2 arg3 harg3 arg4 harg4 arg5 harg5 arg6 harg6 bodyRun.sl.v328 k f (ix2 b j) = flag B b (128 * k.val + j.val) (128 * k.val + j.val) := by
  have hcross : ∀ u : ℕ, u ≤ (k0_t3_loop k).trips → (st_k0_t3 (F := Ideal) Variants.none c none arg0 harg0 arg1 harg1 arg2 harg2 arg3 harg3 arg4 harg4 arg5 harg5 arg6 harg6 bodyRun.sl.v328 0#32 1#32 k
      (View.readAt (Elt Ideal) arg6.view (Rect.unit (s := S7x8x16x128) (k0_off1 k) S1x1x16x128.size (k0_off1_inb k)).toLoadRect f)
      (View.readAt (Elt Ideal) arg6.view (Rect.unit (s := S7x8x16x128) (k0_off2 k) S1x1x16x128.size (k0_off2_inb k)).toLoadRect f)
      (View.readAt (Elt Ideal) arg6.view (Rect.unit (s := S7x8x16x128) (k0_off3 k) S1x1x16x128.size (k0_off3_inb k)).toLoadRect f)
      (View.readAt (Elt Ideal) arg6.view (Rect.unit (s := S7x8x16x128) (k0_off4 k) S1x1x16x128.size (k0_off4_inb k)).toLoadRect f)
      (View.readAt (Elt Ideal) arg6.view (Rect.unit (s := S7x8x16x128) (k0_off5 k) S1x1x16x128.size (k0_off5_inb k)).toLoadRect f) f
      (k0_pay36 (View.readAt (Elt Ideal) arg6.view (Rect.unit (s := S7x8x16x128) (k0_off6 k) S1x1x16x128.size (k0_off6_inb k)).toLoadRect f)) u)
      = fun y => flag B (y 0) (128 * u) (128 * k.val + (y 1).val) := by
    intro u
    induction u with
    | zero =>
      intro _
      funext y
      obtain ⟨b, j, rfl⟩ : ∃ (b : Fin 16) (j : Fin 128), y = ix2 b j := ⟨y 0, y 1, by funext a; fin_cases a <;> rfl⟩
      refine (cast31 _ _ _).trans ((load6 arg6 _ (k0_off6_inb k) 5 (blk k) (k0_off6_eq k) f _ _).trans (h.todo _ _ _ le_rfl))
    | succ u ih =>
      intro hu
      have ih := ih (by omega)
      refine (st_k0_t3_succ (F := Ideal) Variants.none c none arg0 harg0 arg1 harg1 arg2 harg2 arg3 harg3 arg4 harg4 arg5 harg5 arg6 harg6 bodyRun.sl.v328 0#32 1#32 k _ _ _ _ _ f _ ⟨u, by omega⟩).trans ?_
      funext y
      obtain ⟨b, j, rfl⟩ : ∃ (b : Fin 16) (j : Fin 128), y = ix2 b j := ⟨y 0, y 1, by funext a; fin_cases a <;> rfl⟩
      refine trip3_at c arg0 harg0 arg1 harg1 arg2 harg2 arg3 harg3 arg4 harg4 arg5 harg5 arg6 harg6 f B k h ⟨u, by omega⟩ _ _ _ ?_ bodyRun.sl.v328
      exact congrFun ih _
  have hinner : ∀ (init : FVec Ideal S16x128 .f32), (init = fun y => flag B (y 0) (128 * k.val) (128 * k.val + (y 1).val)) →
      ∀ i : ℕ, i ≤ 128 → innerAt bodyRun.sl.v328
      (View.readAt (Elt Ideal) arg6.view (Rect.unit (s := S7x8x16x128) (k0_off1 k) S1x1x16x128.size (k0_off1_inb k)).toLoadRect f)
      (View.readAt (Elt Ideal) arg6.view (Rect.unit (s := S7x8x16x128) (k0_off2 k) S1x1x16x128.size (k0_off2_inb k)).toLoadRect f)
      (View.readAt (Elt Ideal) arg6.view (Rect.unit (s := S7x8x16x128) (k0_off3 k) S1x1x16x128.size (k0_off3_inb k)).toLoadRect f)
      (View.readAt (Elt Ideal) arg6.view (Rect.unit (s := S7x8x16x128) (k0_off4 k) S1x1x16x128.size (k0_off4_inb k)).toLoadRect f)
      (View.readAt (Elt Ideal) arg6.view (Rect.unit (s := S7x8x16x128) (k0_off5 k) S1x1x16x128.size (k0_off5_inb k)).toLoadRect f) init i
      = fun y => flag B (y 0) (128 * k.val + i) (128 * k.val + (y 1).val) := by
    intro init hinit i
    induction i with
    | zero => intro _; exact hinit
    | succ i ih =>
      intro hi
      have ih := ih (by omega)
      refine (innerAt_succ _ _ _ _ _ _ _ ⟨i, trips5.symm ▸ (by omega)⟩).trans ?_
      funext y
      obtain ⟨b, j, rfl⟩ : ∃ (b : Fin 16) (j : Fin 128), y = ix2 b j := ⟨y 0, y 1, by funext a; fin_cases a <;> rfl⟩
      refine (inner_at _ _ _ _ _ _ _ ⟨i, by omega⟩ rfl b j).trans ?_
      refine Eq.trans ?_ (inner_step B b k.val ⟨i, by omega⟩ j)
      unfold supOf
      have g0 := fun j => (load6 arg6 _ (k0_off1_inb k) 0 (blk k) (k0_off1_eq k) f b j).trans (h.box 0 (by decide) _ b j)
      have g1 := fun j => (load6 arg6 _ (k0_off2_inb k) 1 (blk k) (k0_off2_eq k) f b j).trans (h.box 1 (by decide) _ b j)
      have g2 := fun j => (load6 arg6 _ (k0_off3_inb k) 2 (blk k) (k0_off3_eq k) f b j).trans (h.box 2 (by decide) _ b j)
      have g3 := fun j => (load6 arg6 _ (k0_off4_inb k) 3 (blk k) (k0_off4_eq k) f b j).trans (h.box 3 (by decide) _ b j)
      have g6 := fun j => (load6 arg6 _ (k0_off5_inb k) 6 (blk k) (k0_off5_eq k) f b j).trans (h.box 6 (by decide) _ b j)
      rw [g0, g0, g1, g1, g2, g2, g3, g3, g6, g6]
      have q := fun j => congrFun ih (ix2 b j)
      refine congrArg₂ (fun x y : EReal => x * (1 - _ * y)) (q j) (q ⟨i, by omega⟩)
  unfold tripBlock.sl.r
  have h5 : Scf.trips k0_t5_loop.lb k0_t5_loop.ub k0_t5_loop.st = 128 := trips5
  have h4 : Scf.trips (k0_t4_loop k).lb (k0_t4_loop k).ub (k0_t4_loop k).st = 0 := trips4 k
  rw [h5, h4]
  have hx := hinner _ ((hcross _ le_rfl).trans (by rw [trips3])) 128 le_rfl
  refine (congrFun hx (ix2 b j)).trans ?_
  show flag B b (128 * k.val + 128) (128 * k.val + j.val) = _
  unfold flag
  rw [kp_of_le _ (by omega : 128 * k.val + j.val ≤ 128 * k.val + 128)]
  rfl

theorem pay129_at (X : FVec Ideal S16x128 .f32) (b : Fin 16) (j : Fin 128) : k0_pay129 (F := Ideal) X (ix4 0 0 b j) = X (ix2 b j) := by
  pointwise [k0_pay129]

/-- One block's trip. -/
theorem block_step (v81 v100 v103 : FVec Ideal S16x1024 .f32) (v315 : FVec Ideal S1x1x16x128 .f32) (f : BufTy.Contents (Elt Ideal) arg6.view.ty) (B : Fin 7 → Fin 16 → ℕ → EReal) (k : Fin k0_t2_loop.trips)
    (h : Scr (arg6.view.read (Elt Ideal) f) B k.val) :
    Scr (arg6.view.read (Elt Ideal) (arg6.view.writes (Elt Ideal) f ((tripBlock (F := Ideal) c arg0 harg0 arg1 harg1 arg2 harg2 arg3 harg3 arg4 harg4 arg5 harg5 arg6 harg6 v81 v100 v103 v315 bodyRun.sl.v328 k).1 f))) B (k.val + 1) := by
  have hpc : (tripBlock (F := Ideal) c arg0 harg0 arg1 harg1 arg2 harg2 arg3 harg3 arg4 harg4 arg5 harg5 arg6 harg6 v81 v100 v103 v315 bodyRun.sl.v328 k).1 f
      = [⟨Rect.unit (k0_off6 k) S1x1x16x128.size (k0_off6_inb k), k0_pay129 (tripBlock.sl.r (F := Ideal) c arg0 harg0 arg1 harg1 arg2 harg2 arg3 harg3 arg4 harg4 arg5 harg5 arg6 harg6 bodyRun.sl.v328 k f)⟩] := by
    unfold tripBlock; rfl
  rw [hpc]
  have hk : k.val < 8 := trips2 ▸ k.isLt
  have e0 : k0_off6 k 0 = 5 := by rw [k0_off6_eq]; rfl
  have e1 : k0_off6 k 1 = k.val := by rw [k0_off6_eq]; rfl
  have e2 : k0_off6 k 2 = 0 := by rw [k0_off6_eq]; rfl
  have e3 : k0_off6 k 3 = 0 := by rw [k0_off6_eq]; rfl
  have hother : ∀ (ch : Fin 7) (t : Fin 8) b j, (ch ≠ 5 ∨ t.val ≠ k.val) →
      arg6.view.read (Elt Ideal) (arg6.view.writes (Elt Ideal) f [⟨Rect.unit (k0_off6 k) S1x1x16x128.size (k0_off6_inb k), k0_pay129 (tripBlock.sl.r (F := Ideal) c arg0 harg0 arg1 harg1 arg2 harg2 arg3 harg3 arg4 harg4 arg5 harg5 arg6 harg6 bodyRun.sl.v328 k f)⟩]) (ix4 ch t b j)
        = arg6.view.read (Elt Ideal) f (ix4 ch t b j) := by
    intro ch t b j hne
    rcases hne with hne | hne
    · refine (View.read_writes_cons_unit_of_not_mem _ _ _ _ _ _ rfl 0 ?_)
      show ch.val < k0_off6 k 0 ∨ k0_off6 k 0 + 1 ≤ ch.val
      rw [e0]
      have : ch.val ≠ 5 := fun h => hne (Fin.ext h)
      omega
    · refine (View.read_writes_cons_unit_of_not_mem _ _ _ _ _ _ rfl 1 ?_)
      show t.val < k0_off6 k 1 ∨ k0_off6 k 1 + 1 ≤ t.val
      rw [e1]
      omega
  constructor
  · intro ch hch t b j
    rw [hother _ _ _ _ (Or.inl hch)]
    exact h.box ch hch t b j
  · intro t b j ht
    by_cases htk : t.val = k.val
    · refine (View.read_writes_cons_unit_of_mem _ _ _ _ _ _ (ix4 0 0 b j) rfl ?_).trans ?_
      · intro a
        fin_cases a
        · show (5 : ℕ) = k0_off6 k 0 + 0; rw [e0]
        · show t.val = k0_off6 k 1 + 0; rw [e1, htk]; rfl
        · show b.val = k0_off6 k 2 + b.val; rw [e2, Nat.zero_add]
        · show j.val = k0_off6 k 3 + j.val; rw [e3, Nat.zero_add]
      · rw [pay129_at, row_at c arg0 harg0 arg1 harg1 arg2 harg2 arg3 harg3 arg4 harg4 arg5 harg5 arg6 harg6 f B k h, htk]
    · rw [hother _ _ _ _ (Or.inr htk)]
      exact h.done t b j (by omega)
  · intro t b j ht
    rw [hother _ _ _ _ (Or.inr (by omega))]
    exact h.todo t b j (by omega)

/-- The scratch after all the blocks. -/
theorem blocks_done (v81 v100 v103 : FVec Ideal S16x1024 .f32) (v315 : FVec Ideal S1x1x16x128 .f32) (f : BufTy.Contents (Elt Ideal) arg6.view.ty) (B : Fin 7 → Fin 16 → ℕ → EReal)
    (h : Scr (arg6.view.read (Elt Ideal) f) B 0) (t : ℕ) (ht : t ≤ 8) :
    Scr (arg6.view.read (Elt Ideal) (blockAt (F := Ideal) c arg0 harg0 arg1 harg1 arg2 harg2 arg3 harg3 arg4 harg4 arg5 harg5 arg6 harg6 v81 v100 v103 v315 bodyRun.sl.v328 f t)) B t := by
  induction t with
  | zero => exact h
  | succ t ih =>
    have ih := ih (by omega)
    have := blockAt_succ (F := Ideal) c arg0 harg0 arg1 harg1 arg2 harg2 arg3 harg3 arg4 harg4 arg5 harg5 arg6 harg6 v81 v100 v103 v315 bodyRun.sl.v328 f ⟨t, trips2.symm ▸ (by omega)⟩
    rw [this]
    exact block_step c arg0 harg0 arg1 harg1 arg2 harg2 arg3 harg3 arg4 harg4 arg5 harg5 arg6 harg6 v81 v100 v103 v315 _ B ⟨t, trips2.symm ▸ (by omega)⟩ ih

end Cert.KernelIdeal.Run
-- ==== Proof.ScrInit.lean ====
/- The scratch of the kernel body before the suppression loops. -/
module

public import proofs.«01_k».proof.Proof.NmsVal

@[expose] public section

set_option maxRecDepth 16384
set_option maxHeartbeats 4000000

noncomputable section

namespace Cert.KernelIdeal.Run

open Cert.KernelIdeal Cert.KernelIdeal.Gen Cert.Pure
open Idealize.ShloMosaic Idealize.ShloMosaic.TcCoe Idealize.ShloMosaic.Tactic

theorem at_inb (ch : Fin 7) (t : Fin 8) : ∀ a : Fin S7x8x16x128.rank, (![ch.val, t.val, 0, 0] : Fin 4 → ℕ) a + S1x1x16x128.size a ≤ S7x8x16x128.size a := by
  revert ch t; decide

theorem cut_ok (t : Fin 8) : S16x1024.Slices ![0, 128 * t.val] S16x128 := by
  revert t; decide

/-- The piece that stores block `t` of channel `ch`. -/
def pieceOf (X : Fin 7 → FVec Ideal S16x1024 .f32) (k : Fin 7 × Fin 8) : View.Piece (Elt Ideal) S7x8x16x128 .f32 :=
  ⟨Rect.unit (s := S7x8x16x128) ![k.1.val, k.2.val, 0, 0] S1x1x16x128.size (at_inb k.1 k.2),
    shapeCast S1x1x16x128 (extractStridedSlice S16x128 ![0, 128 * k.2.val] (X k.1) (cut_ok k.2)) shapeCasts_S16x128_S1x1x16x128⟩

theorem cut_at (X : FVec Ideal S16x1024 .f32) (t : Fin 8) (b : Fin 16) (j : Fin 128) :
    (shapeCast S1x1x16x128 (extractStridedSlice S16x128 ![0, 128 * t.val] X (cut_ok t)) shapeCasts_S16x128_S1x1x16x128 : FVec Ideal S1x1x16x128 .f32) (ix4 0 0 b j)
      = X (ix2 b ⟨128 * t.val + j.val, by omega⟩) := by
  refine Eq.trans (b := (extractStridedSlice S16x128 ![0, 128 * t.val] X (cut_ok t)) (ix2 b j)) ?_ ?_
  · generalize (extractStridedSlice S16x128 ![0, 128 * t.val] X (cut_ok t)) = Y
    exact pay129_at Y b j
  · refine congrArg X ?_
    funext a; fin_cases a
    · refine Fin.ext ?_
      show 0 + b.val = b.val
      omega
    · rfl

set_option maxHeartbeats 200000 in
theorem pieces_read (v : View sig .tc .vmem S7x8x16x128 .f32) (f : BufTy.Contents (Elt Ideal) v.ty) (X : Fin 7 → FVec Ideal S16x1024 .f32)
    (L : List (Fin 7 × Fin 8)) (k : Fin 7 × Fin 8) (hk : k ∈ L) (b : Fin 16) (j : Fin 128) :
    v.read (Elt Ideal) (v.writes (Elt Ideal) f (L.map (pieceOf X))) (ix4 k.1 k.2 b j) = X k.1 (ix2 b ⟨128 * k.2.val + j.val, by omega⟩) := by
  induction L with
  | nil => exact absurd hk (by simp)
  | cons k' L ih =>
    by_cases h : k = k'
    · subst h
      refine Eq.trans ?_ (cut_at (X k.1) k.2 b j)
      refine View.read_writes_cons_unit_of_mem v f (s := S7x8x16x128) (off := ![k.1.val, k.2.val, 0, 0]) (size := S1x1x16x128.size) (at_inb k.1 k.2) _ (L.map (pieceOf X)) _ (ix4 0 0 b j) rfl ?_
      intro a
      fin_cases a
      · show k.1.val = k.1.val + 0; omega
      · show k.2.val = k.2.val + 0; omega
      · show b.val = 0 + b.val; omega
      · show j.val = 0 + j.val; omega
    · have hk' : k ∈ L := by simpa [h] using hk
      refine Eq.trans ?_ (ih hk')
      by_cases h1 : k.1 = k'.1
      · have h2 : k.2.val ≠ k'.2.val := fun e => h (Prod.ext h1 (Fin.ext e))
        refine View.read_writes_cons_unit_of_not_mem v f (s := S7x8x16x128) (off := ![k'.1.val, k'.2.val, 0, 0]) (size := S1x1x16x128.size) (at_inb k'.1 k'.2) _ (L.map (pieceOf X)) _ rfl 1 ?_
        show k.2.val < k'.2.val ∨ k'.2.val + 1 ≤ k.2.val
        omega
      · have h2 : k.1.val ≠ k'.1.val := fun e => h1 (Fin.ext e)
        refine View.read_writes_cons_unit_of_not_mem v f (s := S7x8x16x128) (off := ![k'.1.val, k'.2.val, 0, 0]) (size := S1x1x16x128.size) (at_inb k'.1 k'.2) _ (L.map (pieceOf X)) _ rfl 0 ?_
        show k.1.val < k'.1.val ∨ k'.1.val + 1 ≤ k.1.val
        omega

/-- The order the pieces lie in, the last store first. -/
def keyList : List (Fin 7 × Fin 8) := [(6, 7), (5, 7), (4, 7), (3, 7), (2, 7), (1, 7), (0, 7), (6, 6), (5, 6), (4, 6), (3, 6), (2, 6), (1, 6), (0, 6), (6, 5), (5, 5), (4, 5), (3, 5), (2, 5), (1, 5), (0, 5), (6, 4), (5, 4), (4, 4), (3, 4), (2, 4), (1, 4), (0, 4), (6, 3), (5, 3), (4, 3), (3, 3), (2, 3), (1, 3), (0, 3), (6, 2), (5, 2), (4, 2), (3, 2), (2, 2), (1, 2), (0, 2), (6, 1), (5, 1), (4, 1), (3, 1), (2, 1), (1, 1), (0, 1), (6, 0), (5, 0), (4, 0), (3, 0), (2, 0), (1, 0), (0, 0)]

theorem keyList_mem (ch : Fin 7) (t : Fin 8) : (ch, t) ∈ keyList := by
  revert ch t; decide

variable (c : Dev nD) (arg0 : Memref sig .tc .vmem S4x16x16384 .f32) (harg0 : arg0.IsWhole) (arg1 : Memref sig .tc .vmem S16x16384 .f32) (harg1 : arg1.IsWhole) (arg2 : Memref sig .tc .vmem S4x1x16384 .f32) (harg2 : arg2.IsWhole) (arg3 : Memref sig .tc .vmem S16x8x256 .f32) (harg3 : arg3.IsWhole) (arg4 : Memref sig .tc .vmem S5x16x16384 .f32) (harg4 : arg4.IsWhole) (arg5 : Memref sig .tc .vmem S16x16384 .i32) (harg5 : arg5.IsWhole) (arg6 : Memref sig .tc .vmem S7x8x16x128 .f32) (harg6 : arg6.IsWhole)
  (x0 : BufTy.Contents (Elt Ideal) arg0.view.ty) (x1 : BufTy.Contents (Elt Ideal) arg1.view.ty) (x2 : BufTy.Contents (Elt Ideal) arg2.view.ty)

/-- The seven rows of the candidates that the body stores. -/
def sevenRows : Fin 7 → FVec Ideal S16x1024 .f32 :=
  ![bodyRun.sl.r_9 c arg0 harg0 arg1 harg1 arg2 harg2 arg3 harg3 arg4 harg4 arg5 harg5 arg6 harg6 x0 x1 x2, bodyRun.sl.r_10 c arg0 harg0 arg1 harg1 arg2 harg2 arg3 harg3 arg4 harg4 arg5 harg5 arg6 harg6 x0 x1 x2, bodyRun.sl.r_11 c arg0 harg0 arg1 harg1 arg2 harg2 arg3 harg3 arg4 harg4 arg5 harg5 arg6 harg6 x0 x1 x2, bodyRun.sl.r_12 c arg0 harg0 arg1 harg1 arg2 harg2 arg3 harg3 arg4 harg4 arg5 harg5 arg6 harg6 x0 x1 x2, bodyRun.sl.v103 c arg0 harg0 arg1 harg1 arg2 harg2 arg3 harg3 arg4 harg4 arg5 harg5 arg6 harg6 x0 x1 x2, k0_pay61, bodyRun.sl.r_13 c arg0 harg0 arg1 harg1 arg2 harg2 arg3 harg3 arg4 harg4 arg5 harg5 arg6 harg6 x0 x1 x2]

theorem pieces_eq : bodyRun.sl.H6_56 (F := Ideal) c arg0 harg0 arg1 harg1 arg2 harg2 arg3 harg3 arg4 harg4 arg5 harg5 arg6 harg6 x0 x1 x2 = keyList.map (pieceOf (sevenRows c arg0 harg0 arg1 harg1 arg2 harg2 arg3 harg3 arg4 harg4 arg5 harg5 arg6 harg6 x0 x1 x2)) := by
  unfold bodyRun.sl.H6_56 keyList
  simp only [List.map_cons, List.map_nil]
  rfl

/-- Sorted row `ch` of the candidates at lane `r`. -/
def srow (ch : Fin 5) (b : Fin 16) (r : ℕ) : EReal :=
  rows arg0 arg1 arg2 x0 x1 x2 ch b (srcOf arg0 arg1 arg2 x0 x1 x2 b ⟨r % 16384, Nat.mod_lt _ (by decide)⟩)

/-- The rows of boxes, scores and areas from the five sorted rows. -/
def boxRows (s : Fin 5 → Fin 16 → ℕ → EReal) (ch : Fin 7) (b : Fin 16) (r : ℕ) : EReal :=
  match ch with
  | 0 => s 1 b r
  | 1 => s 2 b r
  | 2 => s 3 b r
  | 3 => s 4 b r
  | 4 => s 0 b r
  | 5 => 0
  | 6 => areaOf (s 1 b r) (s 2 b r) (s 3 b r) (s 4 b r)

theorem pay61_at (b : Fin 16) (r : Fin 1024) : k0_pay61 (F := Ideal) (ix2 b r) = ind (decide (r.val < 1000)) := by
  pointwise [k0_pay61]
  refine Eq.trans ?_ (word_ind (decide (r.val < 1000)))
  congr 2
  revert r
  decide +kernel

theorem start_scr : Scr (arg6.view.read (Elt Ideal) (arg6.view.writes (Elt Ideal) arg6.view.junk (bodyRun.sl.H6_56 (F := Ideal) c arg0 harg0 arg1 harg1 arg2 harg2 arg3 harg3 arg4 harg4 arg5 harg5 arg6 harg6 x0 x1 x2)))
    (boxRows (srow arg0 arg1 arg2 x0 x1 x2)) 0 := by
  rw [pieces_eq]
  have H : ∀ (ch : Fin 7) (t : Fin 8) (b : Fin 16) (j : Fin 128), _ :=
    fun ch t b j => pieces_read arg6.view arg6.view.junk (sevenRows c arg0 harg0 arg1 harg1 arg2 harg2 arg3 harg3 arg4 harg4 arg5 harg5 arg6 harg6 x0 x1 x2) keyList (ch, t) (keyList_mem ch t) b j
  have hm : ∀ (t : Fin 8) (j : Fin 128), (128 * t.val + j.val) % 16384 = 128 * t.val + j.val := fun t j => Nat.mod_eq_of_lt (by omega)
  have hs : ∀ (ch : Fin 5) (b : Fin 16) (t : Fin 8) (j : Fin 128), srow arg0 arg1 arg2 x0 x1 x2 ch b (128 * t.val + j.val)
      = rows arg0 arg1 arg2 x0 x1 x2 ch b (srcOf arg0 arg1 arg2 x0 x1 x2 b ⟨128 * t.val + j.val, by omega⟩) := by
    intro ch b t j
    unfold srow
    exact congrArg (fun w => rows arg0 arg1 arg2 x0 x1 x2 ch b (srcOf arg0 arg1 arg2 x0 x1 x2 b w)) (Fin.ext (hm t j))
  constructor
  · intro ch hch t b j
    refine (H ch t b j).trans ?_
    fin_cases ch
    · exact (r9_at c arg0 harg0 arg1 harg1 arg2 harg2 arg3 harg3 arg4 harg4 arg5 harg5 arg6 harg6 x0 x1 x2 b _).trans (hs 1 b t j).symm
    · exact (r10_at c arg0 harg0 arg1 harg1 arg2 harg2 arg3 harg3 arg4 harg4 arg5 harg5 arg6 harg6 x0 x1 x2 b _).trans (hs 2 b t j).symm
    · exact (r11_at c arg0 harg0 arg1 harg1 arg2 harg2 arg3 harg3 arg4 harg4 arg5 harg5 arg6 harg6 x0 x1 x2 b _).trans (hs 3 b t j).symm
    · exact (r12_at c arg0 harg0 arg1 harg1 arg2 harg2 arg3 harg3 arg4 harg4 arg5 harg5 arg6 harg6 x0 x1 x2 b _).trans (hs 4 b t j).symm
    · exact (v103_at c arg0 harg0 arg1 harg1 arg2 harg2 arg3 harg3 arg4 harg4 arg5 harg5 arg6 harg6 x0 x1 x2 b _).trans (hs 0 b t j).symm
    · exact absurd rfl hch
    · have e1 := (r9_at c arg0 harg0 arg1 harg1 arg2 harg2 arg3 harg3 arg4 harg4 arg5 harg5 arg6 harg6 x0 x1 x2 b ⟨128 * t.val + j.val, by omega⟩).trans (hs 1 b t j).symm
      have e2 := (r10_at c arg0 harg0 arg1 harg1 arg2 harg2 arg3 harg3 arg4 harg4 arg5 harg5 arg6 harg6 x0 x1 x2 b ⟨128 * t.val + j.val, by omega⟩).trans (hs 2 b t j).symm
      have e3 := (r11_at c arg0 harg0 arg1 harg1 arg2 harg2 arg3 harg3 arg4 harg4 arg5 harg5 arg6 harg6 x0 x1 x2 b ⟨128 * t.val + j.val, by omega⟩).trans (hs 3 b t j).symm
      have e4 := (r12_at c arg0 harg0 arg1 harg1 arg2 harg2 arg3 harg3 arg4 harg4 arg5 harg5 arg6 harg6 x0 x1 x2 b ⟨128 * t.val + j.val, by omega⟩).trans (hs 4 b t j).symm
      refine (pay66_at _ _ _ _ b _).trans ?_
      exact (congr (congr (congr (congrArg areaOf e1) e2) e3) e4)
  · intro t b j ht
    exact absurd ht (by omega)
  · intro t b j _
    refine (H 5 t b j).trans ?_
    refine (pay61_at b _).trans ?_
    unfold flag
    simp [kp]

end Cert.KernelIdeal.Run
-- ==== Proof.OutPure.lean ====
/- The compaction of the kernel body: running counts, one-hot products and the clipped result. -/
module

public import proofs.«01_k».proof.Proof.ScrInit

@[expose] public section

set_option maxRecDepth 16384
set_option maxHeartbeats 1000000

noncomputable section

namespace Cert.KernelIdeal.Run

open Cert.KernelIdeal Cert.KernelIdeal.Gen Cert.Pure
open Idealize.ShloMosaic Idealize.ShloMosaic.TcCoe Idealize.ShloMosaic.Tactic

/-- One doubling step of the running count. -/
def csStep (w : BitVec 32) (x : FVec Ideal S16x1024 .f32) : FVec Ideal S16x1024 .f32 :=
  addf x (select (cmpi .sge bodyRun.sl.v77 (broadcast S16x1024 w)) (dynamicRotate 1 w none x rotates_S16x1024_d1)
    (broadcast S16x1024 (Scalar.ofBits .f32 0x00000000#32)))

theorem word_sge (k : Fin 10) (i : Fin 1024) : IntOp.cmpi CmpIPredicate.sge (BitVec.ofNat 32 i.val) (BitVec.ofNat 32 (2 ^ k.val)) = BitVec.ofBool (decide (2 ^ k.val ≤ i.val)) := by
  revert k i; decide +kernel

theorem word_pow (k : Fin 10) : (BitVec.ofNat 32 (2 ^ k.val)).toNat = 2 ^ k.val := by
  revert k; decide

theorem pow_lt (k : Fin 10) : 2 ^ k.val < 1024 := by
  revert k; decide

theorem csStep_at (p : Fin 16 → ℕ → Bool) (k : Fin 10) (x : FVec Ideal S16x1024 .f32)
    (hx : ∀ (b : Fin 16) (i : Fin 1024), x (ix2 b i) = nat (win (p b) k.val i.val)) (b : Fin 16) (i : Fin 1024) :
    csStep (BitVec.ofNat 32 (2 ^ k.val)) x (ix2 b i) = nat (win (p b) (k.val + 1) i.val) := by
  have hlt := pow_lt k
  have hr : dynamicRotate 1 (BitVec.ofNat 32 (2 ^ k.val)) none x rotates_S16x1024_d1 (ix2 b i)
      = x (ix2 b ⟨(i.val + 1024 - 2 ^ k.val) % 1024, Nat.mod_lt _ (by decide)⟩) := by
    unfold dynamicRotate
    refine congrArg x (funext fun a => ?_)
    fin_cases a
    · rfl
    · refine Fin.ext ?_
      show (i.val + 1024 - ((BitVec.ofNat 32 (2 ^ k.val)).toNat) % 1024) % 1024 = (i.val + 1024 - 2 ^ k.val) % 1024
      rw [word_pow, Nat.mod_eq_of_lt hlt]
  have hv : bodyRun.sl.v77 (ix2 b i) = BitVec.ofNat 32 i.val := by
    pointwise [bodyRun.sl.v77]
  show x (ix2 b i) + Scalar.select (IntOp.cmpi CmpIPredicate.sge (bodyRun.sl.v77 (ix2 b i)) (BitVec.ofNat 32 (2 ^ k.val)))
      (dynamicRotate 1 (BitVec.ofNat 32 (2 ^ k.val)) none x rotates_S16x1024_d1 (ix2 b i)) (Ideal.ofBits .f32 0x00000000#32) = _
  rw [hr, hv, word_sge, hx, hx, Ideal.ofBits_zero_f32, win]
  by_cases h : 2 ^ k.val ≤ i.val
  · have e : (i.val + 1024 - 2 ^ k.val) % 1024 = i.val - 2 ^ k.val := by
      have hi := i.isLt
      generalize 2 ^ k.val = P at h
      rw [show i.val + 1024 - P = (i.val - P) + 1024 by omega, Nat.add_mod_right, Nat.mod_eq_of_lt (by omega)]
    rw [decide_eq_true h, if_pos h]
    show nat _ + nat (win (p b) k.val ((i.val + 1024 - 2 ^ k.val) % 1024)) = _
    rw [e, nat_add]
  · rw [decide_eq_false h, if_neg h]
    show nat _ + 0 = _
    rw [add_zero]; rfl

/-- Ten doubling steps. -/
def csAll (x : FVec Ideal S16x1024 .f32) : FVec Ideal S16x1024 .f32 :=
  csStep 512#32 (csStep 256#32 (csStep 128#32 (csStep 64#32 (csStep 32#32 (csStep 16#32 (csStep 8#32 (csStep 4#32 (csStep 2#32 (csStep 1#32 x)))))))))

theorem csAll_at (p : Fin 16 → ℕ → Bool) (x : FVec Ideal S16x1024 .f32)
    (hx : ∀ (b : Fin 16) (i : Fin 1024), x (ix2 b i) = ind (p b i.val)) (b : Fin 16) (i : Fin 1024) :
    csAll x (ix2 b i) = nat (Nat.count (fun r => p b r = true) (i.val + 1)) := by
  have h0 : ∀ (b : Fin 16) (i : Fin 1024), x (ix2 b i) = nat (win (p b) 0 i.val) := fun b i => (hx b i).trans (ind_nat _)
  have h := csStep_at p 9 _ (csStep_at p 8 _ (csStep_at p 7 _ (csStep_at p 6 _ (csStep_at p 5 _ (csStep_at p 4 _ (csStep_at p 3 _ (csStep_at p 2 _ (csStep_at p 1 _ (csStep_at p 0 x h0))))))))) b i
  refine Eq.trans ?_ (h.trans (congrArg nat (win_all (p b) 10 i.val (by have := i.isLt; omega))))
  rfl

/-- The place of every candidate among those kept. -/
def posAll (x : FVec Ideal S16x1024 .f32) : FVec Ideal S16x1024 .f32 :=
  k0_pay138 (k0_pay136 x) (subf (csAll x) (broadcast S16x1024 (Scalar.ofBits .f32 0x3F800000#32)))

theorem half_pos : (0 : EReal) < Ideal.ofBits .f32 0x3F000000#32 ∧ Ideal.ofBits .f32 0x3F000000#32 < 1 := by
  have : Ideal.ofBits .f32 0x3F000000#32 = ((1 / 2 : ℝ) : EReal) := by
    simp [Ideal.ofBits, Ideal.ieee]
    rw [← EReal.coe_mul]; norm_num
  rw [this]
  constructor
  · exact_mod_cast (by norm_num : (0 : ℝ) < 1 / 2)
  · exact_mod_cast (by norm_num : (1 / 2 : ℝ) < 1)

theorem negOne : Ideal.ofBits .f32 0xBF800000#32 = (-1 : EReal) := by
  simp [Ideal.ofBits, Ideal.ieee]
  rw [← EReal.coe_mul]; norm_num

theorem posAll_at (p : Fin 16 → ℕ → Bool) (x : FVec Ideal S16x1024 .f32)
    (hx : ∀ (b : Fin 16) (i : Fin 1024), x (ix2 b i) = ind (p b i.val)) (b : Fin 16) (i : Fin 1024) :
    posAll x (ix2 b i) = if p b i.val then nat (Nat.count (fun r => p b r = true) i.val) else -1 := by
  have h1 : k0_pay136 (F := Ideal) x (ix2 b i) = BitVec.ofBool (p b i.val) := by
    show BitVec.ofBool (decide (Ideal.ofBits .f32 0x3F000000#32 < x (ix2 b i))) = _
    rw [hx]
    congr 1
    rw [Bool.eq_iff_iff, decide_eq_true_iff]
    exact ind_gt _ _ half_pos.1 half_pos.2
  show Scalar.select (k0_pay136 (F := Ideal) x (ix2 b i)) (csAll x (ix2 b i) - Ideal.ofBits .f32 0x3F800000#32) (Ideal.ofBits .f32 0xBF800000#32) = _
  rw [h1, csAll_at p x hx, Ideal.ofBits_one_f32, negOne]
  cases hp : p b i.val
  · rfl
  · rw [count_succ', hp]
    show nat (_ + 1) - 1 = _
    rw [nat_succ_sub]; rfl

/-- How many candidates are kept. -/
theorem pay139_at (p : Fin 16 → ℕ → Bool) (x : FVec Ideal S16x1024 .f32)
    (hx : ∀ (b : Fin 16) (i : Fin 1024), x (ix2 b i) = ind (p b i.val)) (b : Fin 16) :
    k0_pay139 (F := Ideal) x (ix2 b 0) = nat (Nat.count (fun r => p b r = true) 1024) := by
  have : k0_pay139 (F := Ideal) x (ix2 b 0) = ∑ i : Fin 1024, x (ix2 b i) := by
    pointwise [k0_pay139]
    try rw [Ideal.ofBits_zero_f32, zero_add]
  rw [this]
  simp only [hx]
  exact sum_ind (p b) 1024

/-- The one-hot matrix of a block of places. -/
def hotOf (pos : FVec Ideal S16x1024 .f32) (t : Fin 8) : FVec Ideal S16x128x256 .f32 :=
  sitofp .f32 (extui 32 (cmpf .oeq (broadcastTo S16x128x256 (shapeCast S16x128x1 (extractStridedSlice S16x128 ![0, 128 * t.val] pos (cut_ok t)) shapeCasts_S16x128_S16x128x1) broadcasts_S16x128x1_S16x128x256) (k0_pay140 (F := Ideal))) natLt_1_32)

/-- The five rows of a block of candidates, three rows of zeros below. -/
def stackOf (w0 w1 w2 w3 w4 : Vec Ideal S1x1x16x128 .f32) : FVec Ideal S16x8x128 .f32 :=
  concatenate S16x8x128 1 [⟨S16x1x128, shapeCast S16x1x128 (shapeCast S16x128 w0 shapeCasts_S1x1x16x128_S16x128) shapeCasts_S16x128_S16x1x128⟩,
      ⟨S16x1x128, shapeCast S16x1x128 (shapeCast S16x128 w1 shapeCasts_S1x1x16x128_S16x128) shapeCasts_S16x128_S16x1x128⟩,
      ⟨S16x1x128, shapeCast S16x1x128 (shapeCast S16x128 w2 shapeCasts_S1x1x16x128_S16x128) shapeCasts_S16x128_S16x1x128⟩,
      ⟨S16x1x128, shapeCast S16x1x128 (shapeCast S16x128 w3 shapeCasts_S1x1x16x128_S16x128) shapeCasts_S16x128_S16x1x128⟩,
      ⟨S16x1x128, shapeCast S16x1x128 (shapeCast S16x128 w4 shapeCasts_S1x1x16x128_S16x128) shapeCasts_S16x128_S16x1x128⟩,
      ⟨S16x3x128, k0_pay141 (F := Ideal)⟩] concatenates_S16x1x128_S16x1x128_S16x1x128_S16x1x128_S16x1x128_S16x3x128_S16x8x128_d1

theorem stack_at0 (w0 w1 w2 w3 w4 : Vec Ideal S1x1x16x128 .f32) (b : Fin 16) (k : Fin 128) :
    stackOf w0 w1 w2 w3 w4 (ix3 b 0 k) = w0 (ix4 0 0 b k) := by
  pointwise [stackOf]

theorem stack_at1 (w0 w1 w2 w3 w4 : Vec Ideal S1x1x16x128 .f32) (b : Fin 16) (k : Fin 128) :
    stackOf w0 w1 w2 w3 w4 (ix3 b 1 k) = w1 (ix4 0 0 b k) := by
  pointwise [stackOf]

theorem stack_at2 (w0 w1 w2 w3 w4 : Vec Ideal S1x1x16x128 .f32) (b : Fin 16) (k : Fin 128) :
    stackOf w0 w1 w2 w3 w4 (ix3 b 2 k) = w2 (ix4 0 0 b k) := by
  pointwise [stackOf]

theorem stack_at3 (w0 w1 w2 w3 w4 : Vec Ideal S1x1x16x128 .f32) (b : Fin 16) (k : Fin 128) :
    stackOf w0 w1 w2 w3 w4 (ix3 b 3 k) = w3 (ix4 0 0 b k) := by
  pointwise [stackOf]

theorem stack_at4 (w0 w1 w2 w3 w4 : Vec Ideal S1x1x16x128 .f32) (b : Fin 16) (k : Fin 128) :
    stackOf w0 w1 w2 w3 w4 (ix3 b 4 k) = w4 (ix4 0 0 b k) := by
  pointwise [stackOf]

theorem stack_at (w0 w1 w2 w3 w4 : Vec Ideal S1x1x16x128 .f32) (b : Fin 16) (c : Fin 5) (k : Fin 128) :
    stackOf w0 w1 w2 w3 w4 (ix3 b (c.castLE (by decide)) k) = (![w0, w1, w2, w3, w4] c) (ix4 0 0 b k) := by
  fin_cases c
  · exact stack_at0 w0 w1 w2 w3 w4 b k
  · exact stack_at1 w0 w1 w2 w3 w4 b k
  · exact stack_at2 w0 w1 w2 w3 w4 b k
  · exact stack_at3 w0 w1 w2 w3 w4 b k
  · exact stack_at4 w0 w1 w2 w3 w4 b k

theorem mm_at (Z : FVec Ideal S16x8x128 .f32) (H : FVec Ideal S16x128x256 .f32) (b : Fin 16) (c : Fin 8) (o : Fin 256) :
    matmul dot_S16x8x128_S16x128x256_S16x8x256_2_1_1_2_0_0 none Z H (constant (F := Ideal) S16x8x256 .f32 0x00000000#32) (ix3 b c o)
      = ∑ k : Fin 128, Z (ix3 b c k) * H (ix3 b k o) := by
  pointwise
  try rw [Ideal.ofBits_zero_f32, zero_add]

/-- One block's product. -/
def chunk (pos : FVec Ideal S16x1024 .f32) (t : Fin 8) (w0 w1 w2 w3 w4 : Vec Ideal S1x1x16x128 .f32) : FVec Ideal S16x8x256 .f32 :=
  matmul dot_S16x8x128_S16x128x256_S16x8x256_2_1_1_2_0_0 none (stackOf w0 w1 w2 w3 w4) (hotOf pos t) (constant S16x8x256 .f32 0x00000000#32)

theorem word_nat (o : Fin 256) : (FloatOps.sitofp FTy.f32 (BitVec.ofNat 32 o.val) : Ideal .f32) = nat o.val := by
  show (((BitVec.ofNat 32 o.val).toInt : ℝ) : EReal) = nat o.val
  have : ∀ o : Fin 256, (BitVec.ofNat 32 o.val).toInt = (o.val : ℤ) := by decide +kernel
  rw [this]; simp [nat]

theorem hot_at (pos : FVec Ideal S16x1024 .f32) (t : Fin 8) (b : Fin 16) (k : Fin 128) (o : Fin 256) :
    hotOf pos t (ix3 b k o) = ind (decide (pos (ix2 b ⟨128 * t.val + k.val, by omega⟩) = nat o.val)) := by
  have hs : (extractStridedSlice S16x128 ![0, 128 * t.val] pos (cut_ok t)) (ix2 b k) = pos (ix2 b ⟨128 * t.val + k.val, by omega⟩) := by
    refine congrArg pos ?_
    funext a; fin_cases a
    · refine Fin.ext ?_
      show 0 + b.val = b.val
      omega
    · rfl
  unfold hotOf
  rw [← hs, ← word_nat]
  generalize (extractStridedSlice S16x128 ![0, 128 * t.val] pos (cut_ok t)) = Y
  pointwise [k0_pay140]
  exact word_ind _

theorem chunk_at (pos : FVec Ideal S16x1024 .f32) (t : Fin 8) (w0 w1 w2 w3 w4 : Vec Ideal S1x1x16x128 .f32) (b : Fin 16) (c : Fin 5) (o : Fin 256) :
    chunk pos t w0 w1 w2 w3 w4 (ix3 b (c.castLE (by decide)) o)
      = ∑ k : Fin 128, (![w0, w1, w2, w3, w4] c) (ix4 0 0 b k) * ind (decide (pos (ix2 b ⟨128 * t.val + k.val, by omega⟩) = nat o.val)) := by
  unfold chunk
  refine (mm_at _ _ b _ o).trans ?_
  refine Finset.sum_congr rfl fun k _ => ?_
  rw [stack_at, hot_at]

end Cert.KernelIdeal.Run
-- ==== Proof.OutVal.lean ====
/- The result the kernel body stores. -/
module

public import proofs.«01_k».proof.Proof.OutPure

@[expose] public section

set_option maxRecDepth 16384
set_option maxHeartbeats 1000000

noncomputable section

namespace Cert.KernelIdeal.Run

open Cert.KernelIdeal Cert.KernelIdeal.Gen Cert.Pure
open Idealize.ShloMosaic Idealize.ShloMosaic.TcCoe Idealize.ShloMosaic.Tactic

/-- The result of the sums `A` and the counts `n`: boxes clipped to the unit square, nothing from the count on. -/
def epi (n : FVec Ideal S16x1 .f32) (A : FVec Ideal S16x8x256 .f32) : FVec Ideal S16x8x256 .f32 :=
  select (broadcastTo S16x8x256 (shapeCast S16x1x256 (shapeCast S16x1x256 (cmpf .olt (sitofp .f32 (iota .tc S16x256 32 [1] iota_S16x256_d1_w32)) (broadcastTo S16x256 n broadcasts_S16x1_S16x256)) shapeCasts_S16x256_S16x1x256) shapeCasts_S16x1x256_S16x1x256) broadcasts_S16x1x256_S16x8x256)
    (select (cmpi .slt (iota .tc S16x8x256 32 [1] iota_S16x8x256_d1_w32) (broadcast S16x8x256 4#32))
      (minimumf (broadcast S16x8x256 (Scalar.ofBits .f32 0x3F800000#32)) (maximumf (broadcast S16x8x256 (Scalar.ofBits .f32 0x00000000#32)) A)) A)
    (broadcast S16x8x256 (Scalar.ofBits .f32 0x00000000#32))

theorem word_four (c : Fin 8) : IntOp.cmpi CmpIPredicate.slt (BitVec.ofNat 32 c.val) 4#32 = BitVec.ofBool (decide (c.val < 4)) := by
  revert c; decide

theorem select_bool {α : Type} (p : Bool) (x y : α) : Scalar.select (BitVec.ofBool p) x y = if p then x else y := by
  cases p <;> rfl

theorem epi_at (n : FVec Ideal S16x1 .f32) (A : FVec Ideal S16x8x256 .f32) (b : Fin 16) (c : Fin 8) (o : Fin 256) :
    epi n A (ix3 b c o) = if nat o.val < n (ix2 b 0) then (if c.val < 4 then min 1 (max 0 (A (ix3 b c o))) else A (ix3 b c o)) else 0 := by
  have h : epi n A (ix3 b c o) = Scalar.select (BitVec.ofBool (decide ((FloatOps.sitofp FTy.f32 (BitVec.ofNat 32 o.val) : Ideal .f32) < n (ix2 b 0))))
      (Scalar.select (IntOp.cmpi CmpIPredicate.slt (BitVec.ofNat 32 c.val) 4#32) (min (Ideal.ofBits .f32 0x3F800000#32) (max (Ideal.ofBits .f32 0x00000000#32) (A (ix3 b c o)))) (A (ix3 b c o))) (Ideal.ofBits .f32 0x00000000#32) := by
    pointwise [epi]
    try rfl
  rw [h, word_four, word_nat, select_bool, select_bool, Ideal.ofBits_zero_f32, Ideal.ofBits_one_f32]
  simp only [decide_eq_true_eq]

section Acc
variable (n : FVec Ideal S16x1 .f32) (k m : FVec Ideal S16x1024 .f32) (v425 v428 v431 v434 v437 v449 v452 v455 v458 v461 v473 v476 v479 v482 v485 v497 v500 v503 v506 v509 v521 v524 v527 v530 v533 v545 v548 v551 v554 v557 v569 v572 v575 v578 v581 v593 v596 v599 v602 v605 : Vec Ideal S1x1x16x128 .f32)

/-- The stored value is the clipped sum of the eight products. -/
theorem acc_eq :
    k0_pay1 n (k0_pay141 (F := Ideal)) (k0_pay158 (k0_pay141 (F := Ideal)) (k0_pay155 (k0_pay140 (F := Ideal)) (k0_pay141 (F := Ideal)) (k0_pay153 (k0_pay138 (k0_pay136 k) m) (k0_pay140 (F := Ideal)) (k0_pay141 (F := Ideal)) (k0_pay147 (k0_pay141 (F := Ideal)) (k0_pay144 (k0_pay140 (F := Ideal)) (k0_pay141 (F := Ideal)) (k0_pay142 (k0_pay136 k) m v425 v428 v431 v434 v437) (k0_pay143 (k0_pay136 k) m) v449 v452 v455 v458 v461) (k0_pay145 (k0_pay138 (k0_pay136 k) m) (k0_pay140 (F := Ideal))) (k0_pay146 v473) v476 v479 v482 v485) (k0_pay148 (k0_pay138 (k0_pay136 k) m) (k0_pay140 (F := Ideal))) (k0_pay149 v497) (k0_pay150 v500) (k0_pay151 v503) (k0_pay152 v506) v509 v521 v524 v527 v530 v533) (k0_pay154 (k0_pay138 (k0_pay136 k) m)) v545 v548 v551 v554 v557) (k0_pay156 (k0_pay138 (k0_pay136 k) m) (k0_pay140 (F := Ideal))) (k0_pay157 v569) v572 v575 v578 v581) (k0_pay159 (k0_pay138 (k0_pay136 k) m) (k0_pay140 (F := Ideal))) (k0_pay160 v593) (k0_pay161 v596) (k0_pay162 v599) (k0_pay163 v602) v605
      = epi n (addf (addf (addf (addf (addf (addf (addf (addf (broadcast S16x8x256 (Scalar.ofBits .f32 0x00000000#32)) (chunk (k0_pay138 (k0_pay136 k) m) 0 v425 v428 v431 v434 v437)) (chunk (k0_pay138 (k0_pay136 k) m) 1 v449 v452 v455 v458 v461)) (chunk (k0_pay138 (k0_pay136 k) m) 2 v473 v476 v479 v482 v485)) (chunk (k0_pay138 (k0_pay136 k) m) 3 v497 v500 v503 v506 v509)) (chunk (k0_pay138 (k0_pay136 k) m) 4 v521 v524 v527 v530 v533)) (chunk (k0_pay138 (k0_pay136 k) m) 5 v545 v548 v551 v554 v557)) (chunk (k0_pay138 (k0_pay136 k) m) 6 v569 v572 v575 v578 v581)) (chunk (k0_pay138 (k0_pay136 k) m) 7 v593 v596 v599 v602 v605)) := rfl

end Acc

variable (c : Dev nD) (arg0 : Memref sig .tc .vmem S4x16x16384 .f32) (harg0 : arg0.IsWhole) (arg1 : Memref sig .tc .vmem S16x16384 .f32) (harg1 : arg1.IsWhole) (arg2 : Memref sig .tc .vmem S4x1x16384 .f32) (harg2 : arg2.IsWhole) (arg3 : Memref sig .tc .vmem S16x8x256 .f32) (harg3 : arg3.IsWhole) (arg4 : Memref sig .tc .vmem S5x16x16384 .f32) (harg4 : arg4.IsWhole) (arg5 : Memref sig .tc .vmem S16x16384 .i32) (harg5 : arg5.IsWhole) (arg6 : Memref sig .tc .vmem S7x8x16x128 .f32) (harg6 : arg6.IsWhole)
  (x0 : BufTy.Contents (Elt Ideal) arg0.view.ty) (x1 : BufTy.Contents (Elt Ideal) arg1.view.ty) (x2 : BufTy.Contents (Elt Ideal) arg2.view.ty)

/-- The rows of boxes of the body's candidates. -/
abbrev bx : Fin 7 → Fin 16 → ℕ → EReal := boxRows (srow arg0 arg1 arg2 x0 x1 x2)

theorem end_scr : Scr (arg6.view.read (Elt Ideal) (blockAt (F := Ideal) c arg0 harg0 arg1 harg1 arg2 harg2 arg3 harg3 arg4 harg4 arg5 harg5 arg6 harg6
    k0_pay61 (bodyRun.sl.r_13 c arg0 harg0 arg1 harg1 arg2 harg2 arg3 harg3 arg4 harg4 arg5 harg5 arg6 harg6 x0 x1 x2) (bodyRun.sl.v103 c arg0 harg0 arg1 harg1 arg2 harg2 arg3 harg3 arg4 harg4 arg5 harg5 arg6 harg6 x0 x1 x2) (bodyRun.sl.v315 c arg0 harg0 arg1 harg1 arg2 harg2 arg3 harg3 arg4 harg4 arg5 harg5 arg6 harg6 x0 x1 x2) bodyRun.sl.v328
    (arg6.view.writes (Elt Ideal) arg6.view.junk (bodyRun.sl.H6_56 (F := Ideal) c arg0 harg0 arg1 harg1 arg2 harg2 arg3 harg3 arg4 harg4 arg5 harg5 arg6 harg6 x0 x1 x2)) (Scf.trips k0_t2_loop.lb k0_t2_loop.ub k0_t2_loop.st)))
    (bx arg0 arg1 arg2 x0 x1 x2) 8 := by
  have h8 : Scf.trips k0_t2_loop.lb k0_t2_loop.ub k0_t2_loop.st = 8 := trips2
  rw [h8]
  exact blocks_done c arg0 harg0 arg1 harg1 arg2 harg2 arg3 harg3 arg4 harg4 arg5 harg5 arg6 harg6 _ _ _ _ _ _ (start_scr c arg0 harg0 arg1 harg1 arg2 harg2 arg3 harg3 arg4 harg4 arg5 harg5 arg6 harg6 x0 x1 x2) 8 le_rfl

theorem kp_0 (b : Fin 16) (j : Fin 128) : bodyRun.sl.v330 (F := Ideal) c arg0 harg0 arg1 harg1 arg2 harg2 arg3 harg3 arg4 harg4 arg5 harg5 arg6 harg6 x0 x1 x2 (ix4 0 0 b j) = flag (bx arg0 arg1 arg2 x0 x1 x2) b (128 * 0 + j.val) (128 * 0 + j.val) := by
  unfold bodyRun.sl.v330
  exact (load6 arg6 _ _ 5 0 rfl _ b j).trans ((end_scr c arg0 harg0 arg1 harg1 arg2 harg2 arg3 harg3 arg4 harg4 arg5 harg5 arg6 harg6 x0 x1 x2).done 0 b j (by decide))

theorem kp_1 (b : Fin 16) (j : Fin 128) : bodyRun.sl.v332 (F := Ideal) c arg0 harg0 arg1 harg1 arg2 harg2 arg3 harg3 arg4 harg4 arg5 harg5 arg6 harg6 x0 x1 x2 (ix4 0 0 b j) = flag (bx arg0 arg1 arg2 x0 x1 x2) b (128 * 1 + j.val) (128 * 1 + j.val) := by
  unfold bodyRun.sl.v332
  exact (load6 arg6 _ _ 5 1 rfl _ b j).trans ((end_scr c arg0 harg0 arg1 harg1 arg2 harg2 arg3 harg3 arg4 harg4 arg5 harg5 arg6 harg6 x0 x1 x2).done 1 b j (by decide))

theorem kp_2 (b : Fin 16) (j : Fin 128) : bodyRun.sl.v334 (F := Ideal) c arg0 harg0 arg1 harg1 arg2 harg2 arg3 harg3 arg4 harg4 arg5 harg5 arg6 harg6 x0 x1 x2 (ix4 0 0 b j) = flag (bx arg0 arg1 arg2 x0 x1 x2) b (128 * 2 + j.val) (128 * 2 + j.val) := by
  unfold bodyRun.sl.v334
  exact (load6 arg6 _ _ 5 2 rfl _ b j).trans ((end_scr c arg0 harg0 arg1 harg1 arg2 harg2 arg3 harg3 arg4 harg4 arg5 harg5 arg6 harg6 x0 x1 x2).done 2 b j (by decide))

theorem kp_3 (b : Fin 16) (j : Fin 128) : bodyRun.sl.v336 (F := Ideal) c arg0 harg0 arg1 harg1 arg2 harg2 arg3 harg3 arg4 harg4 arg5 harg5 arg6 harg6 x0 x1 x2 (ix4 0 0 b j) = flag (bx arg0 arg1 arg2 x0 x1 x2) b (128 * 3 + j.val) (128 * 3 + j.val) := by
  unfold bodyRun.sl.v336
  exact (load6 arg6 _ _ 5 3 rfl _ b j).trans ((end_scr c arg0 harg0 arg1 harg1 arg2 harg2 arg3 harg3 arg4 harg4 arg5 harg5 arg6 harg6 x0 x1 x2).done 3 b j (by decide))

theorem kp_4 (b : Fin 16) (j : Fin 128) : bodyRun.sl.v338 (F := Ideal) c arg0 harg0 arg1 harg1 arg2 harg2 arg3 harg3 arg4 harg4 arg5 harg5 arg6 harg6 x0 x1 x2 (ix4 0 0 b j) = flag (bx arg0 arg1 arg2 x0 x1 x2) b (128 * 4 + j.val) (128 * 4 + j.val) := by
  unfold bodyRun.sl.v338
  exact (load6 arg6 _ _ 5 4 rfl _ b j).trans ((end_scr c arg0 harg0 arg1 harg1 arg2 harg2 arg3 harg3 arg4 harg4 arg5 harg5 arg6 harg6 x0 x1 x2).done 4 b j (by decide))

theorem kp_5 (b : Fin 16) (j : Fin 128) : bodyRun.sl.v340 (F := Ideal) c arg0 harg0 arg1 harg1 arg2 harg2 arg3 harg3 arg4 harg4 arg5 harg5 arg6 harg6 x0 x1 x2 (ix4 0 0 b j) = flag (bx arg0 arg1 arg2 x0 x1 x2) b (128 * 5 + j.val) (128 * 5 + j.val) := by
  unfold bodyRun.sl.v340
  exact (load6 arg6 _ _ 5 5 rfl _ b j).trans ((end_scr c arg0 harg0 arg1 harg1 arg2 harg2 arg3 harg3 arg4 harg4 arg5 harg5 arg6 harg6 x0 x1 x2).done 5 b j (by decide))

theorem kp_6 (b : Fin 16) (j : Fin 128) : bodyRun.sl.v342 (F := Ideal) c arg0 harg0 arg1 harg1 arg2 harg2 arg3 harg3 arg4 harg4 arg5 harg5 arg6 harg6 x0 x1 x2 (ix4 0 0 b j) = flag (bx arg0 arg1 arg2 x0 x1 x2) b (128 * 6 + j.val) (128 * 6 + j.val) := by
  unfold bodyRun.sl.v342
  exact (load6 arg6 _ _ 5 6 rfl _ b j).trans ((end_scr c arg0 harg0 arg1 harg1 arg2 harg2 arg3 harg3 arg4 harg4 arg5 harg5 arg6 harg6 x0 x1 x2).done 6 b j (by decide))

theorem kp_7 (b : Fin 16) (j : Fin 128) : bodyRun.sl.v344 (F := Ideal) c arg0 harg0 arg1 harg1 arg2 harg2 arg3 harg3 arg4 harg4 arg5 harg5 arg6 harg6 x0 x1 x2 (ix4 0 0 b j) = flag (bx arg0 arg1 arg2 x0 x1 x2) b (128 * 7 + j.val) (128 * 7 + j.val) := by
  unfold bodyRun.sl.v344
  exact (load6 arg6 _ _ 5 7 rfl _ b j).trans ((end_scr c arg0 harg0 arg1 harg1 arg2 harg2 arg3 harg3 arg4 harg4 arg5 harg5 arg6 harg6 x0 x1 x2).done 7 b j (by decide))

theorem ld_425 (b : Fin 16) (j : Fin 128) : bodyRun.sl.v425 (F := Ideal) c arg0 harg0 arg1 harg1 arg2 harg2 arg3 harg3 arg4 harg4 arg5 harg5 arg6 harg6 x0 x1 x2 (ix4 0 0 b j) = bx arg0 arg1 arg2 x0 x1 x2 0 b (128 * 0 + j.val) := by
  unfold bodyRun.sl.v425
  exact (load6 arg6 _ _ 0 0 rfl _ b j).trans ((end_scr c arg0 harg0 arg1 harg1 arg2 harg2 arg3 harg3 arg4 harg4 arg5 harg5 arg6 harg6 x0 x1 x2).box 0 (by decide) 0 b j)

theorem ld_428 (b : Fin 16) (j : Fin 128) : bodyRun.sl.v428 (F := Ideal) c arg0 harg0 arg1 harg1 arg2 harg2 arg3 harg3 arg4 harg4 arg5 harg5 arg6 harg6 x0 x1 x2 (ix4 0 0 b j) = bx arg0 arg1 arg2 x0 x1 x2 1 b (128 * 0 + j.val) := by
  unfold bodyRun.sl.v428
  exact (load6 arg6 _ _ 1 0 rfl _ b j).trans ((end_scr c arg0 harg0 arg1 harg1 arg2 harg2 arg3 harg3 arg4 harg4 arg5 harg5 arg6 harg6 x0 x1 x2).box 1 (by decide) 0 b j)

theorem ld_431 (b : Fin 16) (j : Fin 128) : bodyRun.sl.v431 (F := Ideal) c arg0 harg0 arg1 harg1 arg2 harg2 arg3 harg3 arg4 harg4 arg5 harg5 arg6 harg6 x0 x1 x2 (ix4 0 0 b j) = bx arg0 arg1 arg2 x0 x1 x2 2 b (128 * 0 + j.val) := by
  unfold bodyRun.sl.v431
  exact (load6 arg6 _ _ 2 0 rfl _ b j).trans ((end_scr c arg0 harg0 arg1 harg1 arg2 harg2 arg3 harg3 arg4 harg4 arg5 harg5 arg6 harg6 x0 x1 x2).box 2 (by decide) 0 b j)

theorem ld_434 (b : Fin 16) (j : Fin 128) : bodyRun.sl.v434 (F := Ideal) c arg0 harg0 arg1 harg1 arg2 harg2 arg3 harg3 arg4 harg4 arg5 harg5 arg6 harg6 x0 x1 x2 (ix4 0 0 b j) = bx arg0 arg1 arg2 x0 x1 x2 3 b (128 * 0 + j.val) := by
  unfold bodyRun.sl.v434
  exact (load6 arg6 _ _ 3 0 rfl _ b j).trans ((end_scr c arg0 harg0 arg1 harg1 arg2 harg2 arg3 harg3 arg4 harg4 arg5 harg5 arg6 harg6 x0 x1 x2).box 3 (by decide) 0 b j)

theorem ld_437 (b : Fin 16) (j : Fin 128) : bodyRun.sl.v437 (F := Ideal) c arg0 harg0 arg1 harg1 arg2 harg2 arg3 harg3 arg4 harg4 arg5 harg5 arg6 harg6 x0 x1 x2 (ix4 0 0 b j) = bx arg0 arg1 arg2 x0 x1 x2 4 b (128 * 0 + j.val) := by
  unfold bodyRun.sl.v437
  exact (load6 arg6 _ _ 4 0 rfl _ b j).trans ((end_scr c arg0 harg0 arg1 harg1 arg2 harg2 arg3 harg3 arg4 harg4 arg5 harg5 arg6 harg6 x0 x1 x2).box 4 (by decide) 0 b j)

theorem ld_449 (b : Fin 16) (j : Fin 128) : bodyRun.sl.v449 (F := Ideal) c arg0 harg0 arg1 harg1 arg2 harg2 arg3 harg3 arg4 harg4 arg5 harg5 arg6 harg6 x0 x1 x2 (ix4 0 0 b j) = bx arg0 arg1 arg2 x0 x1 x2 0 b (128 * 1 + j.val) := by
  unfold bodyRun.sl.v449
  exact (load6 arg6 _ _ 0 1 rfl _ b j).trans ((end_scr c arg0 harg0 arg1 harg1 arg2 harg2 arg3 harg3 arg4 harg4 arg5 harg5 arg6 harg6 x0 x1 x2).box 0 (by decide) 1 b j)

theorem ld_452 (b : Fin 16) (j : Fin 128) : bodyRun.sl.v452 (F := Ideal) c arg0 harg0 arg1 harg1 arg2 harg2 arg3 harg3 arg4 harg4 arg5 harg5 arg6 harg6 x0 x1 x2 (ix4 0 0 b j) = bx arg0 arg1 arg2 x0 x1 x2 1 b (128 * 1 + j.val) := by
  unfold bodyRun.sl.v452
  exact (load6 arg6 _ _ 1 1 rfl _ b j).trans ((end_scr c arg0 harg0 arg1 harg1 arg2 harg2 arg3 harg3 arg4 harg4 arg5 harg5 arg6 harg6 x0 x1 x2).box 1 (by decide) 1 b j)

theorem ld_455 (b : Fin 16) (j : Fin 128) : bodyRun.sl.v455 (F := Ideal) c arg0 harg0 arg1 harg1 arg2 harg2 arg3 harg3 arg4 harg4 arg5 harg5 arg6 harg6 x0 x1 x2 (ix4 0 0 b j) = bx arg0 arg1 arg2 x0 x1 x2 2 b (128 * 1 + j.val) := by
  unfold bodyRun.sl.v455
  exact (load6 arg6 _ _ 2 1 rfl _ b j).trans ((end_scr c arg0 harg0 arg1 harg1 arg2 harg2 arg3 harg3 arg4 harg4 arg5 harg5 arg6 harg6 x0 x1 x2).box 2 (by decide) 1 b j)

theorem ld_458 (b : Fin 16) (j : Fin 128) : bodyRun.sl.v458 (F := Ideal) c arg0 harg0 arg1 harg1 arg2 harg2 arg3 harg3 arg4 harg4 arg5 harg5 arg6 harg6 x0 x1 x2 (ix4 0 0 b j) = bx arg0 arg1 arg2 x0 x1 x2 3 b (128 * 1 + j.val) := by
  unfold bodyRun.sl.v458
  exact (load6 arg6 _ _ 3 1 rfl _ b j).trans ((end_scr c arg0 harg0 arg1 harg1 arg2 harg2 arg3 harg3 arg4 harg4 arg5 harg5 arg6 harg6 x0 x1 x2).box 3 (by decide) 1 b j)

theorem ld_461 (b : Fin 16) (j : Fin 128) : bodyRun.sl.v461 (F := Ideal) c arg0 harg0 arg1 harg1 arg2 harg2 arg3 harg3 arg4 harg4 arg5 harg5 arg6 harg6 x0 x1 x2 (ix4 0 0 b j) = bx arg0 arg1 arg2 x0 x1 x2 4 b (128 * 1 + j.val) := by
  unfold bodyRun.sl.v461
  exact (load6 arg6 _ _ 4 1 rfl _ b j).trans ((end_scr c arg0 harg0 arg1 harg1 arg2 harg2 arg3 harg3 arg4 harg4 arg5 harg5 arg6 harg6 x0 x1 x2).box 4 (by decide) 1 b j)

theorem ld_473 (b : Fin 16) (j : Fin 128) : bodyRun.sl.v473 (F := Ideal) c arg0 harg0 arg1 harg1 arg2 harg2 arg3 harg3 arg4 harg4 arg5 harg5 arg6 harg6 x0 x1 x2 (ix4 0 0 b j) = bx arg0 arg1 arg2 x0 x1 x2 0 b (128 * 2 + j.val) := by
  unfold bodyRun.sl.v473
  exact (load6 arg6 _ _ 0 2 rfl _ b j).trans ((end_scr c arg0 harg0 arg1 harg1 arg2 harg2 arg3 harg3 arg4 harg4 arg5 harg5 arg6 harg6 x0 x1 x2).box 0 (by decide) 2 b j)

theorem ld_476 (b : Fin 16) (j : Fin 128) : bodyRun.sl.v476 (F := Ideal) c arg0 harg0 arg1 harg1 arg2 harg2 arg3 harg3 arg4 harg4 arg5 harg5 arg6 harg6 x0 x1 x2 (ix4 0 0 b j) = bx arg0 arg1 arg2 x0 x1 x2 1 b (128 * 2 + j.val) := by
  unfold bodyRun.sl.v476
  exact (load6 arg6 _ _ 1 2 rfl _ b j).trans ((end_scr c arg0 harg0 arg1 harg1 arg2 harg2 arg3 harg3 arg4 harg4 arg5 harg5 arg6 harg6 x0 x1 x2).box 1 (by decide) 2 b j)

theorem ld_479 (b : Fin 16) (j : Fin 128) : bodyRun.sl.v479 (F := Ideal) c arg0 harg0 arg1 harg1 arg2 harg2 arg3 harg3 arg4 harg4 arg5 harg5 arg6 harg6 x0 x1 x2 (ix4 0 0 b j) = bx arg0 arg1 arg2 x0 x1 x2 2 b (128 * 2 + j.val) := by
  unfold bodyRun.sl.v479
  exact (load6 arg6 _ _ 2 2 rfl _ b j).trans ((end_scr c arg0 harg0 arg1 harg1 arg2 harg2 arg3 harg3 arg4 harg4 arg5 harg5 arg6 harg6 x0 x1 x2).box 2 (by decide) 2 b j)

theorem ld_482 (b : Fin 16) (j : Fin 128) : bodyRun.sl.v482 (F := Ideal) c arg0 harg0 arg1 harg1 arg2 harg2 arg3 harg3 arg4 harg4 arg5 harg5 arg6 harg6 x0 x1 x2 (ix4 0 0 b j) = bx arg0 arg1 arg2 x0 x1 x2 3 b (128 * 2 + j.val) := by
  unfold bodyRun.sl.v482
  exact (load6 arg6 _ _ 3 2 rfl _ b j).trans ((end_scr c arg0 harg0 arg1 harg1 arg2 harg2 arg3 harg3 arg4 harg4 arg5 harg5 arg6 harg6 x0 x1 x2).box 3 (by decide) 2 b j)

theorem ld_485 (b : Fin 16) (j : Fin 128) : bodyRun.sl.v485 (F := Ideal) c arg0 harg0 arg1 harg1 arg2 harg2 arg3 harg3 arg4 harg4 arg5 harg5 arg6 harg6 x0 x1 x2 (ix4 0 0 b j) = bx arg0 arg1 arg2 x0 x1 x2 4 b (128 * 2 + j.val) := by
  unfold bodyRun.sl.v485
  exact (load6 arg6 _ _ 4 2 rfl _ b j).trans ((end_scr c arg0 harg0 arg1 harg1 arg2 harg2 arg3 harg3 arg4 harg4 arg5 harg5 arg6 harg6 x0 x1 x2).box 4 (by decide) 2 b j)

theorem ld_497 (b : Fin 16) (j : Fin 128) : bodyRun.sl.v497 (F := Ideal) c arg0 harg0 arg1 harg1 arg2 harg2 arg3 harg3 arg4 harg4 arg5 harg5 arg6 harg6 x0 x1 x2 (ix4 0 0 b j) = bx arg0 arg1 arg2 x0 x1 x2 0 b (128 * 3 + j.val) := by
  unfold bodyRun.sl.v497
  exact (load6 arg6 _ _ 0 3 rfl _ b j).trans ((end_scr c arg0 harg0 arg1 harg1 arg2 harg2 arg3 harg3 arg4 harg4 arg5 harg5 arg6 harg6 x0 x1 x2).box 0 (by decide) 3 b j)

theorem ld_500 (b : Fin 16) (j : Fin 128) : bodyRun.sl.v500 (F := Ideal) c arg0 harg0 arg1 harg1 arg2 harg2 arg3 harg3 arg4 harg4 arg5 harg5 arg6 harg6 x0 x1 x2 (ix4 0 0 b j) = bx arg0 arg1 arg2 x0 x1 x2 1 b (128 * 3 + j.val) := by
  unfold bodyRun.sl.v500
  exact (load6 arg6 _ _ 1 3 rfl _ b j).trans ((end_scr c arg0 harg0 arg1 harg1 arg2 harg2 arg3 harg3 arg4 harg4 arg5 harg5 arg6 harg6 x0 x1 x2).box 1 (by decide) 3 b j)

theorem ld_503 (b : Fin 16) (j : Fin 128) : bodyRun.sl.v503 (F := Ideal) c arg0 harg0 arg1 harg1 arg2 harg2 arg3 harg3 arg4 harg4 arg5 harg5 arg6 harg6 x0 x1 x2 (ix4 0 0 b j) = bx arg0 arg1 arg2 x0 x1 x2 2 b (128 * 3 + j.val) := by
  unfold bodyRun.sl.v503
  exact (load6 arg6 _ _ 2 3 rfl _ b j).trans ((end_scr c arg0 harg0 arg1 harg1 arg2 harg2 arg3 harg3 arg4 harg4 arg5 harg5 arg6 harg6 x0 x1 x2).box 2 (by decide) 3 b j)

theorem ld_506 (b : Fin 16) (j : Fin 128) : bodyRun.sl.v506 (F := Ideal) c arg0 harg0 arg1 harg1 arg2 harg2 arg3 harg3 arg4 harg4 arg5 harg5 arg6 harg6 x0 x1 x2 (ix4 0 0 b j) = bx arg0 arg1 arg2 x0 x1 x2 3 b (128 * 3 + j.val) := by
  unfold bodyRun.sl.v506
  exact (load6 arg6 _ _ 3 3 rfl _ b j).trans ((end_scr c arg0 harg0 arg1 harg1 arg2 harg2 arg3 harg3 arg4 harg4 arg5 harg5 arg6 harg6 x0 x1 x2).box 3 (by decide) 3 b j)

theorem ld_509 (b : Fin 16) (j : Fin 128) : bodyRun.sl.v509 (F := Ideal) c arg0 harg0 arg1 harg1 arg2 harg2 arg3 harg3 arg4 harg4 arg5 harg5 arg6 harg6 x0 x1 x2 (ix4 0 0 b j) = bx arg0 arg1 arg2 x0 x1 x2 4 b (128 * 3 + j.val) := by
  unfold bodyRun.sl.v509
  exact (load6 arg6 _ _ 4 3 rfl _ b j).trans ((end_scr c arg0 harg0 arg1 harg1 arg2 harg2 arg3 harg3 arg4 harg4 arg5 harg5 arg6 harg6 x0 x1 x2).box 4 (by decide) 3 b j)

theorem ld_521 (b : Fin 16) (j : Fin 128) : bodyRun.sl.v521 (F := Ideal) c arg0 harg0 arg1 harg1 arg2 harg2 arg3 harg3 arg4 harg4 arg5 harg5 arg6 harg6 x0 x1 x2 (ix4 0 0 b j) = bx arg0 arg1 arg2 x0 x1 x2 0 b (128 * 4 + j.val) := by
  unfold bodyRun.sl.v521
  exact (load6 arg6 _ _ 0 4 rfl _ b j).trans ((end_scr c arg0 harg0 arg1 harg1 arg2 harg2 arg3 harg3 arg4 harg4 arg5 harg5 arg6 harg6 x0 x1 x2).box 0 (by decide) 4 b j)

theorem ld_524 (b : Fin 16) (j : Fin 128) : bodyRun.sl.v524 (F := Ideal) c arg0 harg0 arg1 harg1 arg2 harg2 arg3 harg3 arg4 harg4 arg5 harg5 arg6 harg6 x0 x1 x2 (ix4 0 0 b j) = bx arg0 arg1 arg2 x0 x1 x2 1 b (128 * 4 + j.val) := by
  unfold bodyRun.sl.v524
  exact (load6 arg6 _ _ 1 4 rfl _ b j).trans ((end_scr c arg0 harg0 arg1 harg1 arg2 harg2 arg3 harg3 arg4 harg4 arg5 harg5 arg6 harg6 x0 x1 x2).box 1 (by decide) 4 b j)

theorem ld_527 (b : Fin 16) (j : Fin 128) : bodyRun.sl.v527 (F := Ideal) c arg0 harg0 arg1 harg1 arg2 harg2 arg3 harg3 arg4 harg4 arg5 harg5 arg6 harg6 x0 x1 x2 (ix4 0 0 b j) = bx arg0 arg1 arg2 x0 x1 x2 2 b (128 * 4 + j.val) := by
  unfold bodyRun.sl.v527
  exact (load6 arg6 _ _ 2 4 rfl _ b j).trans ((end_scr c arg0 harg0 arg1 harg1 arg2 harg2 arg3 harg3 arg4 harg4 arg5 harg5 arg6 harg6 x0 x1 x2).box 2 (by decide) 4 b j)

theorem ld_530 (b : Fin 16) (j : Fin 128) : bodyRun.sl.v530 (F := Ideal) c arg0 harg0 arg1 harg1 arg2 harg2 arg3 harg3 arg4 harg4 arg5 harg5 arg6 harg6 x0 x1 x2 (ix4 0 0 b j) = bx arg0 arg1 arg2 x0 x1 x2 3 b (128 * 4 + j.val) := by
  unfold bodyRun.sl.v530
  exact (load6 arg6 _ _ 3 4 rfl _ b j).trans ((end_scr c arg0 harg0 arg1 harg1 arg2 harg2 arg3 harg3 arg4 harg4 arg5 harg5 arg6 harg6 x0 x1 x2).box 3 (by decide) 4 b j)

theorem ld_533 (b : Fin 16) (j : Fin 128) : bodyRun.sl.v533 (F := Ideal) c arg0 harg0 arg1 harg1 arg2 harg2 arg3 harg3 arg4 harg4 arg5 harg5 arg6 harg6 x0 x1 x2 (ix4 0 0 b j) = bx arg0 arg1 arg2 x0 x1 x2 4 b (128 * 4 + j.val) := by
  unfold bodyRun.sl.v533
  exact (load6 arg6 _ _ 4 4 rfl _ b j).trans ((end_scr c arg0 harg0 arg1 harg1 arg2 harg2 arg3 harg3 arg4 harg4 arg5 harg5 arg6 harg6 x0 x1 x2).box 4 (by decide) 4 b j)

theorem ld_545 (b : Fin 16) (j : Fin 128) : bodyRun.sl.v545 (F := Ideal) c arg0 harg0 arg1 harg1 arg2 harg2 arg3 harg3 arg4 harg4 arg5 harg5 arg6 harg6 x0 x1 x2 (ix4 0 0 b j) = bx arg0 arg1 arg2 x0 x1 x2 0 b (128 * 5 + j.val) := by
  unfold bodyRun.sl.v545
  exact (load6 arg6 _ _ 0 5 rfl _ b j).trans ((end_scr c arg0 harg0 arg1 harg1 arg2 harg2 arg3 harg3 arg4 harg4 arg5 harg5 arg6 harg6 x0 x1 x2).box 0 (by decide) 5 b j)

theorem ld_548 (b : Fin 16) (j : Fin 128) : bodyRun.sl.v548 (F := Ideal) c arg0 harg0 arg1 harg1 arg2 harg2 arg3 harg3 arg4 harg4 arg5 harg5 arg6 harg6 x0 x1 x2 (ix4 0 0 b j) = bx arg0 arg1 arg2 x0 x1 x2 1 b (128 * 5 + j.val) := by
  unfold bodyRun.sl.v548
  exact (load6 arg6 _ _ 1 5 rfl _ b j).trans ((end_scr c arg0 harg0 arg1 harg1 arg2 harg2 arg3 harg3 arg4 harg4 arg5 harg5 arg6 harg6 x0 x1 x2).box 1 (by decide) 5 b j)

theorem ld_551 (b : Fin 16) (j : Fin 128) : bodyRun.sl.v551 (F := Ideal) c arg0 harg0 arg1 harg1 arg2 harg2 arg3 harg3 arg4 harg4 arg5 harg5 arg6 harg6 x0 x1 x2 (ix4 0 0 b j) = bx arg0 arg1 arg2 x0 x1 x2 2 b (128 * 5 + j.val) := by
  unfold bodyRun.sl.v551
  exact (load6 arg6 _ _ 2 5 rfl _ b j).trans ((end_scr c arg0 harg0 arg1 harg1 arg2 harg2 arg3 harg3 arg4 harg4 arg5 harg5 arg6 harg6 x0 x1 x2).box 2 (by decide) 5 b j)

theorem ld_554 (b : Fin 16) (j : Fin 128) : bodyRun.sl.v554 (F := Ideal) c arg0 harg0 arg1 harg1 arg2 harg2 arg3 harg3 arg4 harg4 arg5 harg5 arg6 harg6 x0 x1 x2 (ix4 0 0 b j) = bx arg0 arg1 arg2 x0 x1 x2 3 b (128 * 5 + j.val) := by
  unfold bodyRun.sl.v554
  exact (load6 arg6 _ _ 3 5 rfl _ b j).trans ((end_scr c arg0 harg0 arg1 harg1 arg2 harg2 arg3 harg3 arg4 harg4 arg5 harg5 arg6 harg6 x0 x1 x2).box 3 (by decide) 5 b j)

theorem ld_557 (b : Fin 16) (j : Fin 128) : bodyRun.sl.v557 (F := Ideal) c arg0 harg0 arg1 harg1 arg2 harg2 arg3 harg3 arg4 harg4 arg5 harg5 arg6 harg6 x0 x1 x2 (ix4 0 0 b j) = bx arg0 arg1 arg2 x0 x1 x2 4 b (128 * 5 + j.val) := by
  unfold bodyRun.sl.v557
  exact (load6 arg6 _ _ 4 5 rfl _ b j).trans ((end_scr c arg0 harg0 arg1 harg1 arg2 harg2 arg3 harg3 arg4 harg4 arg5 harg5 arg6 harg6 x0 x1 x2).box 4 (by decide) 5 b j)

theorem ld_569 (b : Fin 16) (j : Fin 128) : bodyRun.sl.v569 (F := Ideal) c arg0 harg0 arg1 harg1 arg2 harg2 arg3 harg3 arg4 harg4 arg5 harg5 arg6 harg6 x0 x1 x2 (ix4 0 0 b j) = bx arg0 arg1 arg2 x0 x1 x2 0 b (128 * 6 + j.val) := by
  unfold bodyRun.sl.v569
  exact (load6 arg6 _ _ 0 6 rfl _ b j).trans ((end_scr c arg0 harg0 arg1 harg1 arg2 harg2 arg3 harg3 arg4 harg4 arg5 harg5 arg6 harg6 x0 x1 x2).box 0 (by decide) 6 b j)

theorem ld_572 (b : Fin 16) (j : Fin 128) : bodyRun.sl.v572 (F := Ideal) c arg0 harg0 arg1 harg1 arg2 harg2 arg3 harg3 arg4 harg4 arg5 harg5 arg6 harg6 x0 x1 x2 (ix4 0 0 b j) = bx arg0 arg1 arg2 x0 x1 x2 1 b (128 * 6 + j.val) := by
  unfold bodyRun.sl.v572
  exact (load6 arg6 _ _ 1 6 rfl _ b j).trans ((end_scr c arg0 harg0 arg1 harg1 arg2 harg2 arg3 harg3 arg4 harg4 arg5 harg5 arg6 harg6 x0 x1 x2).box 1 (by decide) 6 b j)

theorem ld_575 (b : Fin 16) (j : Fin 128) : bodyRun.sl.v575 (F := Ideal) c arg0 harg0 arg1 harg1 arg2 harg2 arg3 harg3 arg4 harg4 arg5 harg5 arg6 harg6 x0 x1 x2 (ix4 0 0 b j) = bx arg0 arg1 arg2 x0 x1 x2 2 b (128 * 6 + j.val) := by
  unfold bodyRun.sl.v575
  exact (load6 arg6 _ _ 2 6 rfl _ b j).trans ((end_scr c arg0 harg0 arg1 harg1 arg2 harg2 arg3 harg3 arg4 harg4 arg5 harg5 arg6 harg6 x0 x1 x2).box 2 (by decide) 6 b j)

theorem ld_578 (b : Fin 16) (j : Fin 128) : bodyRun.sl.v578 (F := Ideal) c arg0 harg0 arg1 harg1 arg2 harg2 arg3 harg3 arg4 harg4 arg5 harg5 arg6 harg6 x0 x1 x2 (ix4 0 0 b j) = bx arg0 arg1 arg2 x0 x1 x2 3 b (128 * 6 + j.val) := by
  unfold bodyRun.sl.v578
  exact (load6 arg6 _ _ 3 6 rfl _ b j).trans ((end_scr c arg0 harg0 arg1 harg1 arg2 harg2 arg3 harg3 arg4 harg4 arg5 harg5 arg6 harg6 x0 x1 x2).box 3 (by decide) 6 b j)

theorem ld_581 (b : Fin 16) (j : Fin 128) : bodyRun.sl.v581 (F := Ideal) c arg0 harg0 arg1 harg1 arg2 harg2 arg3 harg3 arg4 harg4 arg5 harg5 arg6 harg6 x0 x1 x2 (ix4 0 0 b j) = bx arg0 arg1 arg2 x0 x1 x2 4 b (128 * 6 + j.val) := by
  unfold bodyRun.sl.v581
  exact (load6 arg6 _ _ 4 6 rfl _ b j).trans ((end_scr c arg0 harg0 arg1 harg1 arg2 harg2 arg3 harg3 arg4 harg4 arg5 harg5 arg6 harg6 x0 x1 x2).box 4 (by decide) 6 b j)

theorem ld_593 (b : Fin 16) (j : Fin 128) : bodyRun.sl.v593 (F := Ideal) c arg0 harg0 arg1 harg1 arg2 harg2 arg3 harg3 arg4 harg4 arg5 harg5 arg6 harg6 x0 x1 x2 (ix4 0 0 b j) = bx arg0 arg1 arg2 x0 x1 x2 0 b (128 * 7 + j.val) := by
  unfold bodyRun.sl.v593
  exact (load6 arg6 _ _ 0 7 rfl _ b j).trans ((end_scr c arg0 harg0 arg1 harg1 arg2 harg2 arg3 harg3 arg4 harg4 arg5 harg5 arg6 harg6 x0 x1 x2).box 0 (by decide) 7 b j)

theorem ld_596 (b : Fin 16) (j : Fin 128) : bodyRun.sl.v596 (F := Ideal) c arg0 harg0 arg1 harg1 arg2 harg2 arg3 harg3 arg4 harg4 arg5 harg5 arg6 harg6 x0 x1 x2 (ix4 0 0 b j) = bx arg0 arg1 arg2 x0 x1 x2 1 b (128 * 7 + j.val) := by
  unfold bodyRun.sl.v596
  exact (load6 arg6 _ _ 1 7 rfl _ b j).trans ((end_scr c arg0 harg0 arg1 harg1 arg2 harg2 arg3 harg3 arg4 harg4 arg5 harg5 arg6 harg6 x0 x1 x2).box 1 (by decide) 7 b j)

theorem ld_599 (b : Fin 16) (j : Fin 128) : bodyRun.sl.v599 (F := Ideal) c arg0 harg0 arg1 harg1 arg2 harg2 arg3 harg3 arg4 harg4 arg5 harg5 arg6 harg6 x0 x1 x2 (ix4 0 0 b j) = bx arg0 arg1 arg2 x0 x1 x2 2 b (128 * 7 + j.val) := by
  unfold bodyRun.sl.v599
  exact (load6 arg6 _ _ 2 7 rfl _ b j).trans ((end_scr c arg0 harg0 arg1 harg1 arg2 harg2 arg3 harg3 arg4 harg4 arg5 harg5 arg6 harg6 x0 x1 x2).box 2 (by decide) 7 b j)

theorem ld_602 (b : Fin 16) (j : Fin 128) : bodyRun.sl.v602 (F := Ideal) c arg0 harg0 arg1 harg1 arg2 harg2 arg3 harg3 arg4 harg4 arg5 harg5 arg6 harg6 x0 x1 x2 (ix4 0 0 b j) = bx arg0 arg1 arg2 x0 x1 x2 3 b (128 * 7 + j.val) := by
  unfold bodyRun.sl.v602
  exact (load6 arg6 _ _ 3 7 rfl _ b j).trans ((end_scr c arg0 harg0 arg1 harg1 arg2 harg2 arg3 harg3 arg4 harg4 arg5 harg5 arg6 harg6 x0 x1 x2).box 3 (by decide) 7 b j)

theorem ld_605 (b : Fin 16) (j : Fin 128) : bodyRun.sl.v605 (F := Ideal) c arg0 harg0 arg1 harg1 arg2 harg2 arg3 harg3 arg4 harg4 arg5 harg5 arg6 harg6 x0 x1 x2 (ix4 0 0 b j) = bx arg0 arg1 arg2 x0 x1 x2 4 b (128 * 7 + j.val) := by
  unfold bodyRun.sl.v605
  exact (load6 arg6 _ _ 4 7 rfl _ b j).trans ((end_scr c arg0 harg0 arg1 harg1 arg2 harg2 arg3 harg3 arg4 harg4 arg5 harg5 arg6 harg6 x0 x1 x2).box 4 (by decide) 7 b j)

end Cert.KernelIdeal.Run
-- ==== Proof.OutFin.lean ====
/- What the kernel body stores, candidate by candidate. -/
module

public import proofs.«01_k».proof.Proof.OutVal

@[expose] public section

set_option maxRecDepth 16384
set_option maxHeartbeats 1000000

noncomputable section

namespace Cert.KernelIdeal.Run

open Cert.KernelIdeal Cert.KernelIdeal.Gen Cert.Pure
open Idealize.ShloMosaic Idealize.ShloMosaic.TcCoe Idealize.ShloMosaic.Tactic

/-- Whether candidate `r` is kept. -/
def kpt (B : Fin 7 → Fin 16 → ℕ → EReal) (b : Fin 16) (r : ℕ) : Bool := decide (r < 1000) && kept (supOf B b) r

theorem cat_at (w0 w1 w2 w3 w4 w5 w6 w7 : Vec Ideal S1x1x16x128 .f32) (q : ℕ → EReal) (b : Fin 16)
    (h0 : ∀ j : Fin 128, w0 (ix4 0 0 b j) = q (128 * 0 + j.val))
    (h1 : ∀ j : Fin 128, w1 (ix4 0 0 b j) = q (128 * 1 + j.val))
    (h2 : ∀ j : Fin 128, w2 (ix4 0 0 b j) = q (128 * 2 + j.val))
    (h3 : ∀ j : Fin 128, w3 (ix4 0 0 b j) = q (128 * 3 + j.val))
    (h4 : ∀ j : Fin 128, w4 (ix4 0 0 b j) = q (128 * 4 + j.val))
    (h5 : ∀ j : Fin 128, w5 (ix4 0 0 b j) = q (128 * 5 + j.val))
    (h6 : ∀ j : Fin 128, w6 (ix4 0 0 b j) = q (128 * 6 + j.val))
    (h7 : ∀ j : Fin 128, w7 (ix4 0 0 b j) = q (128 * 7 + j.val))
    (i : Fin 1024) :
    k0_pay134 (F := Ideal) (k0_pay130 w0) (k0_pay131 w1) (k0_pay132 w2) (k0_pay133 w3) w4 w5 w6 w7 (ix2 b i) = q i.val := by
  have hi := i.isLt
  pointwise [k0_pay134, k0_pay130, k0_pay131, k0_pay132, k0_pay133]
  try simp only [h0, h1, h2, h3, h4, h5, h6, h7]
  split_ifs <;> (congr 1; omega)

theorem pick_block (q : ℕ → Bool) (pos : ℕ → EReal) (hpos : ∀ r < 1024, pos r = if q r then nat (Nat.count (fun i => q i = true) r) else -1)
    (x : ℕ → EReal) (o r : ℕ) (hr : r < 1024) (hq : q r = true) (hc : Nat.count (fun i => q i = true) r = o) (t : ℕ) (ht : t < 8) :
    ∑ k : Fin 128, x (128 * t + k.val) * ind (decide (pos (128 * t + k.val) = nat o)) = if t = r / 128 then x r else 0 := by
  have key : ∀ k : Fin 128, decide (pos (128 * t + k.val) = nat o) = decide (128 * t + k.val = r) := by
    intro k
    rw [decide_eq_decide, hpos _ (by omega)]
    by_cases hk : q (128 * t + k.val) = true
    · rw [if_pos hk, nat_inj, ← hc]
      constructor
      · intro e
        exact count_unique q hk hq e
      · intro e
        rw [e]
    · rw [if_neg hk]
      constructor
      · intro e
        exact absurd e (nat_ne_neg _)
      · intro e
        rw [e] at hk
        exact absurd hq hk
  simp only [key]
  by_cases h : t = r / 128
  · rw [if_pos h]
    have hlt : r - 128 * t < 128 := by omega
    have hp := pick (fun k : Fin 128 => x (128 * t + k.val)) (fun k : Fin 128 => decide (128 * t + k.val = r)) ⟨r - 128 * t, hlt⟩ (by
      intro j
      rw [decide_eq_decide, Fin.ext_iff]
      show 128 * t + j.val = r ↔ j.val = r - 128 * t
      omega)
    refine hp.trans ?_
    show x (128 * t + (r - 128 * t)) = x r
    congr 1; omega
  · rw [if_neg h]
    refine sum_none _ _ ?_
    intro j
    exact decide_eq_false (by omega)

variable (c : Dev nD) (arg0 : Memref sig .tc .vmem S4x16x16384 .f32) (harg0 : arg0.IsWhole) (arg1 : Memref sig .tc .vmem S16x16384 .f32) (harg1 : arg1.IsWhole) (arg2 : Memref sig .tc .vmem S4x1x16384 .f32) (harg2 : arg2.IsWhole) (arg3 : Memref sig .tc .vmem S16x8x256 .f32) (harg3 : arg3.IsWhole) (arg4 : Memref sig .tc .vmem S5x16x16384 .f32) (harg4 : arg4.IsWhole) (arg5 : Memref sig .tc .vmem S16x16384 .i32) (harg5 : arg5.IsWhole) (arg6 : Memref sig .tc .vmem S7x8x16x128 .f32) (harg6 : arg6.IsWhole)
  (x0 : BufTy.Contents (Elt Ideal) arg0.view.ty) (x1 : BufTy.Contents (Elt Ideal) arg1.view.ty) (x2 : BufTy.Contents (Elt Ideal) arg2.view.ty)

theorem keep_at (b : Fin 16) (i : Fin 1024) : bodyRun.sl.r_18 (F := Ideal) c arg0 harg0 arg1 harg1 arg2 harg2 arg3 harg3 arg4 harg4 arg5 harg5 arg6 harg6 x0 x1 x2 (ix2 b i) = ind (kpt (bx arg0 arg1 arg2 x0 x1 x2) b i.val) := by
  unfold bodyRun.sl.r_18 bodyRun.sl.r_14 bodyRun.sl.r_15 bodyRun.sl.r_16 bodyRun.sl.r_17
  refine (cat_at _ _ _ _ _ _ _ _ (fun r => flag (bx arg0 arg1 arg2 x0 x1 x2) b r r) b (kp_0 c arg0 harg0 arg1 harg1 arg2 harg2 arg3 harg3 arg4 harg4 arg5 harg5 arg6 harg6 x0 x1 x2 b) (kp_1 c arg0 harg0 arg1 harg1 arg2 harg2 arg3 harg3 arg4 harg4 arg5 harg5 arg6 harg6 x0 x1 x2 b) (kp_2 c arg0 harg0 arg1 harg1 arg2 harg2 arg3 harg3 arg4 harg4 arg5 harg5 arg6 harg6 x0 x1 x2 b) (kp_3 c arg0 harg0 arg1 harg1 arg2 harg2 arg3 harg3 arg4 harg4 arg5 harg5 arg6 harg6 x0 x1 x2 b) (kp_4 c arg0 harg0 arg1 harg1 arg2 harg2 arg3 harg3 arg4 harg4 arg5 harg5 arg6 harg6 x0 x1 x2 b) (kp_5 c arg0 harg0 arg1 harg1 arg2 harg2 arg3 harg3 arg4 harg4 arg5 harg5 arg6 harg6 x0 x1 x2 b) (kp_6 c arg0 harg0 arg1 harg1 arg2 harg2 arg3 harg3 arg4 harg4 arg5 harg5 arg6 harg6 x0 x1 x2 b) (kp_7 c arg0 harg0 arg1 harg1 arg2 harg2 arg3 harg3 arg4 harg4 arg5 harg5 arg6 harg6 x0 x1 x2 b) i).trans ?_
  rfl

/-- The value the body stores. -/
def outPay : FVec Ideal S16x8x256 .f32 :=
  k0_pay1 (bodyRun.sl.r_23 c arg0 harg0 arg1 harg1 arg2 harg2 arg3 harg3 arg4 harg4 arg5 harg5 arg6 harg6 x0 x1 x2) (k0_pay141 (F := Ideal)) (bodyRun.sl.r_40 c arg0 harg0 arg1 harg1 arg2 harg2 arg3 harg3 arg4 harg4 arg5 harg5 arg6 harg6 x0 x1 x2) (bodyRun.sl.r_41 c arg0 harg0 arg1 harg1 arg2 harg2 arg3 harg3 arg4 harg4 arg5 harg5 arg6 harg6 x0 x1 x2) (bodyRun.sl.r_42 c arg0 harg0 arg1 harg1 arg2 harg2 arg3 harg3 arg4 harg4 arg5 harg5 arg6 harg6 x0 x1 x2) (bodyRun.sl.r_43 c arg0 harg0 arg1 harg1 arg2 harg2 arg3 harg3 arg4 harg4 arg5 harg5 arg6 harg6 x0 x1 x2) (bodyRun.sl.r_44 c arg0 harg0 arg1 harg1 arg2 harg2 arg3 harg3 arg4 harg4 arg5 harg5 arg6 harg6 x0 x1 x2) (bodyRun.sl.r_45 c arg0 harg0 arg1 harg1 arg2 harg2 arg3 harg3 arg4 harg4 arg5 harg5 arg6 harg6 x0 x1 x2) (bodyRun.sl.v605 c arg0 harg0 arg1 harg1 arg2 harg2 arg3 harg3 arg4 harg4 arg5 harg5 arg6 harg6 x0 x1 x2)

/-- The place of every candidate. -/
abbrev posv : FVec Ideal S16x1024 .f32 := k0_pay138 (k0_pay136 (bodyRun.sl.r_18 (F := Ideal) c arg0 harg0 arg1 harg1 arg2 harg2 arg3 harg3 arg4 harg4 arg5 harg5 arg6 harg6 x0 x1 x2)) (bodyRun.sl.r_21 c arg0 harg0 arg1 harg1 arg2 harg2 arg3 harg3 arg4 harg4 arg5 harg5 arg6 harg6 x0 x1 x2)

theorem posv_at (b : Fin 16) (i : Fin 1024) : posv c arg0 harg0 arg1 harg1 arg2 harg2 arg3 harg3 arg4 harg4 arg5 harg5 arg6 harg6 x0 x1 x2 (ix2 b i)
    = if kpt (bx arg0 arg1 arg2 x0 x1 x2) b i.val then nat (Nat.count (fun r => kpt (bx arg0 arg1 arg2 x0 x1 x2) b r = true) i.val) else -1 := by
  refine Eq.trans ?_ (posAll_at (kpt (bx arg0 arg1 arg2 x0 x1 x2)) (bodyRun.sl.r_18 (F := Ideal) c arg0 harg0 arg1 harg1 arg2 harg2 arg3 harg3 arg4 harg4 arg5 harg5 arg6 harg6 x0 x1 x2) (keep_at c arg0 harg0 arg1 harg1 arg2 harg2 arg3 harg3 arg4 harg4 arg5 harg5 arg6 harg6 x0 x1 x2) b i)
  rfl

theorem out_eq : outPay c arg0 harg0 arg1 harg1 arg2 harg2 arg3 harg3 arg4 harg4 arg5 harg5 arg6 harg6 x0 x1 x2 = epi (bodyRun.sl.r_23 c arg0 harg0 arg1 harg1 arg2 harg2 arg3 harg3 arg4 harg4 arg5 harg5 arg6 harg6 x0 x1 x2) (addf (addf (addf (addf (addf (addf (addf (addf (broadcast S16x8x256 (Scalar.ofBits .f32 0x00000000#32)) (chunk (posv c arg0 harg0 arg1 harg1 arg2 harg2 arg3 harg3 arg4 harg4 arg5 harg5 arg6 harg6 x0 x1 x2) 0 (bodyRun.sl.v425 c arg0 harg0 arg1 harg1 arg2 harg2 arg3 harg3 arg4 harg4 arg5 harg5 arg6 harg6 x0 x1 x2) (bodyRun.sl.v428 c arg0 harg0 arg1 harg1 arg2 harg2 arg3 harg3 arg4 harg4 arg5 harg5 arg6 harg6 x0 x1 x2) (bodyRun.sl.v431 c arg0 harg0 arg1 harg1 arg2 harg2 arg3 harg3 arg4 harg4 arg5 harg5 arg6 harg6 x0 x1 x2) (bodyRun.sl.v434 c arg0 harg0 arg1 harg1 arg2 harg2 arg3 harg3 arg4 harg4 arg5 harg5 arg6 harg6 x0 x1 x2) (bodyRun.sl.v437 c arg0 harg0 arg1 harg1 arg2 harg2 arg3 harg3 arg4 harg4 arg5 harg5 arg6 harg6 x0 x1 x2))) (chunk (posv c arg0 harg0 arg1 harg1 arg2 harg2 arg3 harg3 arg4 harg4 arg5 harg5 arg6 harg6 x0 x1 x2) 1 (bodyRun.sl.v449 c arg0 harg0 arg1 harg1 arg2 harg2 arg3 harg3 arg4 harg4 arg5 harg5 arg6 harg6 x0 x1 x2) (bodyRun.sl.v452 c arg0 harg0 arg1 harg1 arg2 harg2 arg3 harg3 arg4 harg4 arg5 harg5 arg6 harg6 x0 x1 x2) (bodyRun.sl.v455 c arg0 harg0 arg1 harg1 arg2 harg2 arg3 harg3 arg4 harg4 arg5 harg5 arg6 harg6 x0 x1 x2) (bodyRun.sl.v458 c arg0 harg0 arg1 harg1 arg2 harg2 arg3 harg3 arg4 harg4 arg5 harg5 arg6 harg6 x0 x1 x2) (bodyRun.sl.v461 c arg0 harg0 arg1 harg1 arg2 harg2 arg3 harg3 arg4 harg4 arg5 harg5 arg6 harg6 x0 x1 x2))) (chunk (posv c arg0 harg0 arg1 harg1 arg2 harg2 arg3 harg3 arg4 harg4 arg5 harg5 arg6 harg6 x0 x1 x2) 2 (bodyRun.sl.v473 c arg0 harg0 arg1 harg1 arg2 harg2 arg3 harg3 arg4 harg4 arg5 harg5 arg6 harg6 x0 x1 x2) (bodyRun.sl.v476 c arg0 harg0 arg1 harg1 arg2 harg2 arg3 harg3 arg4 harg4 arg5 harg5 arg6 harg6 x0 x1 x2) (bodyRun.sl.v479 c arg0 harg0 arg1 harg1 arg2 harg2 arg3 harg3 arg4 harg4 arg5 harg5 arg6 harg6 x0 x1 x2) (bodyRun.sl.v482 c arg0 harg0 arg1 harg1 arg2 harg2 arg3 harg3 arg4 harg4 arg5 harg5 arg6 harg6 x0 x1 x2) (bodyRun.sl.v485 c arg0 harg0 arg1 harg1 arg2 harg2 arg3 harg3 arg4 harg4 arg5 harg5 arg6 harg6 x0 x1 x2))) (chunk (posv c arg0 harg0 arg1 harg1 arg2 harg2 arg3 harg3 arg4 harg4 arg5 harg5 arg6 harg6 x0 x1 x2) 3 (bodyRun.sl.v497 c arg0 harg0 arg1 harg1 arg2 harg2 arg3 harg3 arg4 harg4 arg5 harg5 arg6 harg6 x0 x1 x2) (bodyRun.sl.v500 c arg0 harg0 arg1 harg1 arg2 harg2 arg3 harg3 arg4 harg4 arg5 harg5 arg6 harg6 x0 x1 x2) (bodyRun.sl.v503 c arg0 harg0 arg1 harg1 arg2 harg2 arg3 harg3 arg4 harg4 arg5 harg5 arg6 harg6 x0 x1 x2) (bodyRun.sl.v506 c arg0 harg0 arg1 harg1 arg2 harg2 arg3 harg3 arg4 harg4 arg5 harg5 arg6 harg6 x0 x1 x2) (bodyRun.sl.v509 c arg0 harg0 arg1 harg1 arg2 harg2 arg3 harg3 arg4 harg4 arg5 harg5 arg6 harg6 x0 x1 x2))) (chunk (posv c arg0 harg0 arg1 harg1 arg2 harg2 arg3 harg3 arg4 harg4 arg5 harg5 arg6 harg6 x0 x1 x2) 4 (bodyRun.sl.v521 c arg0 harg0 arg1 harg1 arg2 harg2 arg3 harg3 arg4 harg4 arg5 harg5 arg6 harg6 x0 x1 x2) (bodyRun.sl.v524 c arg0 harg0 arg1 harg1 arg2 harg2 arg3 harg3 arg4 harg4 arg5 harg5 arg6 harg6 x0 x1 x2) (bodyRun.sl.v527 c arg0 harg0 arg1 harg1 arg2 harg2 arg3 harg3 arg4 harg4 arg5 harg5 arg6 harg6 x0 x1 x2) (bodyRun.sl.v530 c arg0 harg0 arg1 harg1 arg2 harg2 arg3 harg3 arg4 harg4 arg5 harg5 arg6 harg6 x0 x1 x2) (bodyRun.sl.v533 c arg0 harg0 arg1 harg1 arg2 harg2 arg3 harg3 arg4 harg4 arg5 harg5 arg6 harg6 x0 x1 x2))) (chunk (posv c arg0 harg0 arg1 harg1 arg2 harg2 arg3 harg3 arg4 harg4 arg5 harg5 arg6 harg6 x0 x1 x2) 5 (bodyRun.sl.v545 c arg0 harg0 arg1 harg1 arg2 harg2 arg3 harg3 arg4 harg4 arg5 harg5 arg6 harg6 x0 x1 x2) (bodyRun.sl.v548 c arg0 harg0 arg1 harg1 arg2 harg2 arg3 harg3 arg4 harg4 arg5 harg5 arg6 harg6 x0 x1 x2) (bodyRun.sl.v551 c arg0 harg0 arg1 harg1 arg2 harg2 arg3 harg3 arg4 harg4 arg5 harg5 arg6 harg6 x0 x1 x2) (bodyRun.sl.v554 c arg0 harg0 arg1 harg1 arg2 harg2 arg3 harg3 arg4 harg4 arg5 harg5 arg6 harg6 x0 x1 x2) (bodyRun.sl.v557 c arg0 harg0 arg1 harg1 arg2 harg2 arg3 harg3 arg4 harg4 arg5 harg5 arg6 harg6 x0 x1 x2))) (chunk (posv c arg0 harg0 arg1 harg1 arg2 harg2 arg3 harg3 arg4 harg4 arg5 harg5 arg6 harg6 x0 x1 x2) 6 (bodyRun.sl.v569 c arg0 harg0 arg1 harg1 arg2 harg2 arg3 harg3 arg4 harg4 arg5 harg5 arg6 harg6 x0 x1 x2) (bodyRun.sl.v572 c arg0 harg0 arg1 harg1 arg2 harg2 arg3 harg3 arg4 harg4 arg5 harg5 arg6 harg6 x0 x1 x2) (bodyRun.sl.v575 c arg0 harg0 arg1 harg1 arg2 harg2 arg3 harg3 arg4 harg4 arg5 harg5 arg6 harg6 x0 x1 x2) (bodyRun.sl.v578 c arg0 harg0 arg1 harg1 arg2 harg2 arg3 harg3 arg4 harg4 arg5 harg5 arg6 harg6 x0 x1 x2) (bodyRun.sl.v581 c arg0 harg0 arg1 harg1 arg2 harg2 arg3 harg3 arg4 harg4 arg5 harg5 arg6 harg6 x0 x1 x2))) (chunk (posv c arg0 harg0 arg1 harg1 arg2 harg2 arg3 harg3 arg4 harg4 arg5 harg5 arg6 harg6 x0 x1 x2) 7 (bodyRun.sl.v593 c arg0 harg0 arg1 harg1 arg2 harg2 arg3 harg3 arg4 harg4 arg5 harg5 arg6 harg6 x0 x1 x2) (bodyRun.sl.v596 c arg0 harg0 arg1 harg1 arg2 harg2 arg3 harg3 arg4 harg4 arg5 harg5 arg6 harg6 x0 x1 x2) (bodyRun.sl.v599 c arg0 harg0 arg1 harg1 arg2 harg2 arg3 harg3 arg4 harg4 arg5 harg5 arg6 harg6 x0 x1 x2) (bodyRun.sl.v602 c arg0 harg0 arg1 harg1 arg2 harg2 arg3 harg3 arg4 harg4 arg5 harg5 arg6 harg6 x0 x1 x2) (bodyRun.sl.v605 c arg0 harg0 arg1 harg1 arg2 harg2 arg3 harg3 arg4 harg4 arg5 harg5 arg6 harg6 x0 x1 x2))) := by
  unfold outPay
  refine Eq.trans ?_ (acc_eq (bodyRun.sl.r_23 c arg0 harg0 arg1 harg1 arg2 harg2 arg3 harg3 arg4 harg4 arg5 harg5 arg6 harg6 x0 x1 x2) (bodyRun.sl.r_18 (F := Ideal) c arg0 harg0 arg1 harg1 arg2 harg2 arg3 harg3 arg4 harg4 arg5 harg5 arg6 harg6 x0 x1 x2) (bodyRun.sl.r_21 c arg0 harg0 arg1 harg1 arg2 harg2 arg3 harg3 arg4 harg4 arg5 harg5 arg6 harg6 x0 x1 x2) (bodyRun.sl.v425 c arg0 harg0 arg1 harg1 arg2 harg2 arg3 harg3 arg4 harg4 arg5 harg5 arg6 harg6 x0 x1 x2) (bodyRun.sl.v428 c arg0 harg0 arg1 harg1 arg2 harg2 arg3 harg3 arg4 harg4 arg5 harg5 arg6 harg6 x0 x1 x2) (bodyRun.sl.v431 c arg0 harg0 arg1 harg1 arg2 harg2 arg3 harg3 arg4 harg4 arg5 harg5 arg6 harg6 x0 x1 x2) (bodyRun.sl.v434 c arg0 harg0 arg1 harg1 arg2 harg2 arg3 harg3 arg4 harg4 arg5 harg5 arg6 harg6 x0 x1 x2) (bodyRun.sl.v437 c arg0 harg0 arg1 harg1 arg2 harg2 arg3 harg3 arg4 harg4 arg5 harg5 arg6 harg6 x0 x1 x2) (bodyRun.sl.v449 c arg0 harg0 arg1 harg1 arg2 harg2 arg3 harg3 arg4 harg4 arg5 harg5 arg6 harg6 x0 x1 x2) (bodyRun.sl.v452 c arg0 harg0 arg1 harg1 arg2 harg2 arg3 harg3 arg4 harg4 arg5 harg5 arg6 harg6 x0 x1 x2) (bodyRun.sl.v455 c arg0 harg0 arg1 harg1 arg2 harg2 arg3 harg3 arg4 harg4 arg5 harg5 arg6 harg6 x0 x1 x2) (bodyRun.sl.v458 c arg0 harg0 arg1 harg1 arg2 harg2 arg3 harg3 arg4 harg4 arg5 harg5 arg6 harg6 x0 x1 x2) (bodyRun.sl.v461 c arg0 harg0 arg1 harg1 arg2 harg2 arg3 harg3 arg4 harg4 arg5 harg5 arg6 harg6 x0 x1 x2) (bodyRun.sl.v473 c arg0 harg0 arg1 harg1 arg2 harg2 arg3 harg3 arg4 harg4 arg5 harg5 arg6 harg6 x0 x1 x2) (bodyRun.sl.v476 c arg0 harg0 arg1 harg1 arg2 harg2 arg3 harg3 arg4 harg4 arg5 harg5 arg6 harg6 x0 x1 x2) (bodyRun.sl.v479 c arg0 harg0 arg1 harg1 arg2 harg2 arg3 harg3 arg4 harg4 arg5 harg5 arg6 harg6 x0 x1 x2) (bodyRun.sl.v482 c arg0 harg0 arg1 harg1 arg2 harg2 arg3 harg3 arg4 harg4 arg5 harg5 arg6 harg6 x0 x1 x2) (bodyRun.sl.v485 c arg0 harg0 arg1 harg1 arg2 harg2 arg3 harg3 arg4 harg4 arg5 harg5 arg6 harg6 x0 x1 x2) (bodyRun.sl.v497 c arg0 harg0 arg1 harg1 arg2 harg2 arg3 harg3 arg4 harg4 arg5 harg5 arg6 harg6 x0 x1 x2) (bodyRun.sl.v500 c arg0 harg0 arg1 harg1 arg2 harg2 arg3 harg3 arg4 harg4 arg5 harg5 arg6 harg6 x0 x1 x2) (bodyRun.sl.v503 c arg0 harg0 arg1 harg1 arg2 harg2 arg3 harg3 arg4 harg4 arg5 harg5 arg6 harg6 x0 x1 x2) (bodyRun.sl.v506 c arg0 harg0 arg1 harg1 arg2 harg2 arg3 harg3 arg4 harg4 arg5 harg5 arg6 harg6 x0 x1 x2) (bodyRun.sl.v509 c arg0 harg0 arg1 harg1 arg2 harg2 arg3 harg3 arg4 harg4 arg5 harg5 arg6 harg6 x0 x1 x2) (bodyRun.sl.v521 c arg0 harg0 arg1 harg1 arg2 harg2 arg3 harg3 arg4 harg4 arg5 harg5 arg6 harg6 x0 x1 x2) (bodyRun.sl.v524 c arg0 harg0 arg1 harg1 arg2 harg2 arg3 harg3 arg4 harg4 arg5 harg5 arg6 harg6 x0 x1 x2) (bodyRun.sl.v527 c arg0 harg0 arg1 harg1 arg2 harg2 arg3 harg3 arg4 harg4 arg5 harg5 arg6 harg6 x0 x1 x2) (bodyRun.sl.v530 c arg0 harg0 arg1 harg1 arg2 harg2 arg3 harg3 arg4 harg4 arg5 harg5 arg6 harg6 x0 x1 x2) (bodyRun.sl.v533 c arg0 harg0 arg1 harg1 arg2 harg2 arg3 harg3 arg4 harg4 arg5 harg5 arg6 harg6 x0 x1 x2) (bodyRun.sl.v545 c arg0 harg0 arg1 harg1 arg2 harg2 arg3 harg3 arg4 harg4 arg5 harg5 arg6 harg6 x0 x1 x2) (bodyRun.sl.v548 c arg0 harg0 arg1 harg1 arg2 harg2 arg3 harg3 arg4 harg4 arg5 harg5 arg6 harg6 x0 x1 x2) (bodyRun.sl.v551 c arg0 harg0 arg1 harg1 arg2 harg2 arg3 harg3 arg4 harg4 arg5 harg5 arg6 harg6 x0 x1 x2) (bodyRun.sl.v554 c arg0 harg0 arg1 harg1 arg2 harg2 arg3 harg3 arg4 harg4 arg5 harg5 arg6 harg6 x0 x1 x2) (bodyRun.sl.v557 c arg0 harg0 arg1 harg1 arg2 harg2 arg3 harg3 arg4 harg4 arg5 harg5 arg6 harg6 x0 x1 x2) (bodyRun.sl.v569 c arg0 harg0 arg1 harg1 arg2 harg2 arg3 harg3 arg4 harg4 arg5 harg5 arg6 harg6 x0 x1 x2) (bodyRun.sl.v572 c arg0 harg0 arg1 harg1 arg2 harg2 arg3 harg3 arg4 harg4 arg5 harg5 arg6 harg6 x0 x1 x2) (bodyRun.sl.v575 c arg0 harg0 arg1 harg1 arg2 harg2 arg3 harg3 arg4 harg4 arg5 harg5 arg6 harg6 x0 x1 x2) (bodyRun.sl.v578 c arg0 harg0 arg1 harg1 arg2 harg2 arg3 harg3 arg4 harg4 arg5 harg5 arg6 harg6 x0 x1 x2) (bodyRun.sl.v581 c arg0 harg0 arg1 harg1 arg2 harg2 arg3 harg3 arg4 harg4 arg5 harg5 arg6 harg6 x0 x1 x2) (bodyRun.sl.v593 c arg0 harg0 arg1 harg1 arg2 harg2 arg3 harg3 arg4 harg4 arg5 harg5 arg6 harg6 x0 x1 x2) (bodyRun.sl.v596 c arg0 harg0 arg1 harg1 arg2 harg2 arg3 harg3 arg4 harg4 arg5 harg5 arg6 harg6 x0 x1 x2) (bodyRun.sl.v599 c arg0 harg0 arg1 harg1 arg2 harg2 arg3 harg3 arg4 harg4 arg5 harg5 arg6 harg6 x0 x1 x2) (bodyRun.sl.v602 c arg0 harg0 arg1 harg1 arg2 harg2 arg3 harg3 arg4 harg4 arg5 harg5 arg6 harg6 x0 x1 x2) (bodyRun.sl.v605 c arg0 harg0 arg1 harg1 arg2 harg2 arg3 harg3 arg4 harg4 arg5 harg5 arg6 harg6 x0 x1 x2))
  rfl

theorem count_at (b : Fin 16) : bodyRun.sl.r_23 (F := Ideal) c arg0 harg0 arg1 harg1 arg2 harg2 arg3 harg3 arg4 harg4 arg5 harg5 arg6 harg6 x0 x1 x2 (ix2 b 0) = nat (Nat.count (fun r => kpt (bx arg0 arg1 arg2 x0 x1 x2) b r = true) 1024) :=
  pay139_at (kpt (bx arg0 arg1 arg2 x0 x1 x2)) (bodyRun.sl.r_18 (F := Ideal) c arg0 harg0 arg1 harg1 arg2 harg2 arg3 harg3 arg4 harg4 arg5 harg5 arg6 harg6 x0 x1 x2) (keep_at c arg0 harg0 arg1 harg1 arg2 harg2 arg3 harg3 arg4 harg4 arg5 harg5 arg6 harg6 x0 x1 x2) b

/-- Past the count of the kept candidates nothing is stored. -/
theorem out_none (b : Fin 16) (ch : Fin 8) (o : Fin 256) (h : Nat.count (fun r => kpt (bx arg0 arg1 arg2 x0 x1 x2) b r = true) 1024 ≤ o.val) :
    outPay c arg0 harg0 arg1 harg1 arg2 harg2 arg3 harg3 arg4 harg4 arg5 harg5 arg6 harg6 x0 x1 x2 (ix3 b ch o) = 0 := by
  rw [out_eq, epi_at, count_at, if_neg]
  rw [nat_lt]; omega

theorem chunk_0 (b : Fin 16) (ch : Fin 5) (o : Fin 256) (r : ℕ) (hr : r < 1000) (hk : kpt (bx arg0 arg1 arg2 x0 x1 x2) b r = true)
    (hc : Nat.count (fun i => kpt (bx arg0 arg1 arg2 x0 x1 x2) b i = true) r = o.val) :
    chunk (posv c arg0 harg0 arg1 harg1 arg2 harg2 arg3 harg3 arg4 harg4 arg5 harg5 arg6 harg6 x0 x1 x2) 0 (bodyRun.sl.v425 c arg0 harg0 arg1 harg1 arg2 harg2 arg3 harg3 arg4 harg4 arg5 harg5 arg6 harg6 x0 x1 x2) (bodyRun.sl.v428 c arg0 harg0 arg1 harg1 arg2 harg2 arg3 harg3 arg4 harg4 arg5 harg5 arg6 harg6 x0 x1 x2) (bodyRun.sl.v431 c arg0 harg0 arg1 harg1 arg2 harg2 arg3 harg3 arg4 harg4 arg5 harg5 arg6 harg6 x0 x1 x2) (bodyRun.sl.v434 c arg0 harg0 arg1 harg1 arg2 harg2 arg3 harg3 arg4 harg4 arg5 harg5 arg6 harg6 x0 x1 x2) (bodyRun.sl.v437 c arg0 harg0 arg1 harg1 arg2 harg2 arg3 harg3 arg4 harg4 arg5 harg5 arg6 harg6 x0 x1 x2) (ix3 b (ch.castLE (by decide)) o)
      = if 0 = r / 128 then bx arg0 arg1 arg2 x0 x1 x2 (ch.castLE (by decide)) b r else 0 := by
  refine Eq.trans ?_ (pick_block (kpt (bx arg0 arg1 arg2 x0 x1 x2) b) (fun i => if h : i < 1024 then (posv c arg0 harg0 arg1 harg1 arg2 harg2 arg3 harg3 arg4 harg4 arg5 harg5 arg6 harg6 x0 x1 x2) (ix2 b ⟨i, h⟩) else 0)
    (fun i hi => by rw [dif_pos hi]; exact posv_at c arg0 harg0 arg1 harg1 arg2 harg2 arg3 harg3 arg4 harg4 arg5 harg5 arg6 harg6 x0 x1 x2 b ⟨i, hi⟩) (bx arg0 arg1 arg2 x0 x1 x2 (ch.castLE (by decide)) b) o.val r (by omega) hk hc 0 (by decide))
  rw [chunk_at]
  refine Finset.sum_congr rfl fun k _ => ?_
  have hk' : 128 * 0 + k.val < 1024 := by omega
  rw [dif_pos hk']
  refine congrArg₂ (fun x y : EReal => x * y) ?_ rfl
  fin_cases ch
  · exact ld_425 c arg0 harg0 arg1 harg1 arg2 harg2 arg3 harg3 arg4 harg4 arg5 harg5 arg6 harg6 x0 x1 x2 b k
  · exact ld_428 c arg0 harg0 arg1 harg1 arg2 harg2 arg3 harg3 arg4 harg4 arg5 harg5 arg6 harg6 x0 x1 x2 b k
  · exact ld_431 c arg0 harg0 arg1 harg1 arg2 harg2 arg3 harg3 arg4 harg4 arg5 harg5 arg6 harg6 x0 x1 x2 b k
  · exact ld_434 c arg0 harg0 arg1 harg1 arg2 harg2 arg3 harg3 arg4 harg4 arg5 harg5 arg6 harg6 x0 x1 x2 b k
  · exact ld_437 c arg0 harg0 arg1 harg1 arg2 harg2 arg3 harg3 arg4 harg4 arg5 harg5 arg6 harg6 x0 x1 x2 b k

theorem chunk_1 (b : Fin 16) (ch : Fin 5) (o : Fin 256) (r : ℕ) (hr : r < 1000) (hk : kpt (bx arg0 arg1 arg2 x0 x1 x2) b r = true)
    (hc : Nat.count (fun i => kpt (bx arg0 arg1 arg2 x0 x1 x2) b i = true) r = o.val) :
    chunk (posv c arg0 harg0 arg1 harg1 arg2 harg2 arg3 harg3 arg4 harg4 arg5 harg5 arg6 harg6 x0 x1 x2) 1 (bodyRun.sl.v449 c arg0 harg0 arg1 harg1 arg2 harg2 arg3 harg3 arg4 harg4 arg5 harg5 arg6 harg6 x0 x1 x2) (bodyRun.sl.v452 c arg0 harg0 arg1 harg1 arg2 harg2 arg3 harg3 arg4 harg4 arg5 harg5 arg6 harg6 x0 x1 x2) (bodyRun.sl.v455 c arg0 harg0 arg1 harg1 arg2 harg2 arg3 harg3 arg4 harg4 arg5 harg5 arg6 harg6 x0 x1 x2) (bodyRun.sl.v458 c arg0 harg0 arg1 harg1 arg2 harg2 arg3 harg3 arg4 harg4 arg5 harg5 arg6 harg6 x0 x1 x2) (bodyRun.sl.v461 c arg0 harg0 arg1 harg1 arg2 harg2 arg3 harg3 arg4 harg4 arg5 harg5 arg6 harg6 x0 x1 x2) (ix3 b (ch.castLE (by decide)) o)
      = if 1 = r / 128 then bx arg0 arg1 arg2 x0 x1 x2 (ch.castLE (by decide)) b r else 0 := by
  refine Eq.trans ?_ (pick_block (kpt (bx arg0 arg1 arg2 x0 x1 x2) b) (fun i => if h : i < 1024 then (posv c arg0 harg0 arg1 harg1 arg2 harg2 arg3 harg3 arg4 harg4 arg5 harg5 arg6 harg6 x0 x1 x2) (ix2 b ⟨i, h⟩) else 0)
    (fun i hi => by rw [dif_pos hi]; exact posv_at c arg0 harg0 arg1 harg1 arg2 harg2 arg3 harg3 arg4 harg4 arg5 harg5 arg6 harg6 x0 x1 x2 b ⟨i, hi⟩) (bx arg0 arg1 arg2 x0 x1 x2 (ch.castLE (by decide)) b) o.val r (by omega) hk hc 1 (by decide))
  rw [chunk_at]
  refine Finset.sum_congr rfl fun k _ => ?_
  have hk' : 128 * 1 + k.val < 1024 := by omega
  rw [dif_pos hk']
  refine congrArg₂ (fun x y : EReal => x * y) ?_ rfl
  fin_cases ch
  · exact ld_449 c arg0 harg0 arg1 harg1 arg2 harg2 arg3 harg3 arg4 harg4 arg5 harg5 arg6 harg6 x0 x1 x2 b k
  · exact ld_452 c arg0 harg0 arg1 harg1 arg2 harg2 arg3 harg3 arg4 harg4 arg5 harg5 arg6 harg6 x0 x1 x2 b k
  · exact ld_455 c arg0 harg0 arg1 harg1 arg2 harg2 arg3 harg3 arg4 harg4 arg5 harg5 arg6 harg6 x0 x1 x2 b k
  · exact ld_458 c arg0 harg0 arg1 harg1 arg2 harg2 arg3 harg3 arg4 harg4 arg5 harg5 arg6 harg6 x0 x1 x2 b k
  · exact ld_461 c arg0 harg0 arg1 harg1 arg2 harg2 arg3 harg3 arg4 harg4 arg5 harg5 arg6 harg6 x0 x1 x2 b k

theorem chunk_2 (b : Fin 16) (ch : Fin 5) (o : Fin 256) (r : ℕ) (hr : r < 1000) (hk : kpt (bx arg0 arg1 arg2 x0 x1 x2) b r = true)
    (hc : Nat.count (fun i => kpt (bx arg0 arg1 arg2 x0 x1 x2) b i = true) r = o.val) :
    chunk (posv c arg0 harg0 arg1 harg1 arg2 harg2 arg3 harg3 arg4 harg4 arg5 harg5 arg6 harg6 x0 x1 x2) 2 (bodyRun.sl.v473 c arg0 harg0 arg1 harg1 arg2 harg2 arg3 harg3 arg4 harg4 arg5 harg5 arg6 harg6 x0 x1 x2) (bodyRun.sl.v476 c arg0 harg0 arg1 harg1 arg2 harg2 arg3 harg3 arg4 harg4 arg5 harg5 arg6 harg6 x0 x1 x2) (bodyRun.sl.v479 c arg0 harg0 arg1 harg1 arg2 harg2 arg3 harg3 arg4 harg4 arg5 harg5 arg6 harg6 x0 x1 x2) (bodyRun.sl.v482 c arg0 harg0 arg1 harg1 arg2 harg2 arg3 harg3 arg4 harg4 arg5 harg5 arg6 harg6 x0 x1 x2) (bodyRun.sl.v485 c arg0 harg0 arg1 harg1 arg2 harg2 arg3 harg3 arg4 harg4 arg5 harg5 arg6 harg6 x0 x1 x2) (ix3 b (ch.castLE (by decide)) o)
      = if 2 = r / 128 then bx arg0 arg1 arg2 x0 x1 x2 (ch.castLE (by decide)) b r else 0 := by
  refine Eq.trans ?_ (pick_block (kpt (bx arg0 arg1 arg2 x0 x1 x2) b) (fun i => if h : i < 1024 then (posv c arg0 harg0 arg1 harg1 arg2 harg2 arg3 harg3 arg4 harg4 arg5 harg5 arg6 harg6 x0 x1 x2) (ix2 b ⟨i, h⟩) else 0)
    (fun i hi => by rw [dif_pos hi]; exact posv_at c arg0 harg0 arg1 harg1 arg2 harg2 arg3 harg3 arg4 harg4 arg5 harg5 arg6 harg6 x0 x1 x2 b ⟨i, hi⟩) (bx arg0 arg1 arg2 x0 x1 x2 (ch.castLE (by decide)) b) o.val r (by omega) hk hc 2 (by decide))
  rw [chunk_at]
  refine Finset.sum_congr rfl fun k _ => ?_
  have hk' : 128 * 2 + k.val < 1024 := by omega
  rw [dif_pos hk']
  refine congrArg₂ (fun x y : EReal => x * y) ?_ rfl
  fin_cases ch
  · exact ld_473 c arg0 harg0 arg1 harg1 arg2 harg2 arg3 harg3 arg4 harg4 arg5 harg5 arg6 harg6 x0 x1 x2 b k
  · exact ld_476 c arg0 harg0 arg1 harg1 arg2 harg2 arg3 harg3 arg4 harg4 arg5 harg5 arg6 harg6 x0 x1 x2 b k
  · exact ld_479 c arg0 harg0 arg1 harg1 arg2 harg2 arg3 harg3 arg4 harg4 arg5 harg5 arg6 harg6 x0 x1 x2 b k
  · exact ld_482 c arg0 harg0 arg1 harg1 arg2 harg2 arg3 harg3 arg4 harg4 arg5 harg5 arg6 harg6 x0 x1 x2 b k
  · exact ld_485 c arg0 harg0 arg1 harg1 arg2 harg2 arg3 harg3 arg4 harg4 arg5 harg5 arg6 harg6 x0 x1 x2 b k

theorem chunk_3 (b : Fin 16) (ch : Fin 5) (o : Fin 256) (r : ℕ) (hr : r < 1000) (hk : kpt (bx arg0 arg1 arg2 x0 x1 x2) b r = true)
    (hc : Nat.count (fun i => kpt (bx arg0 arg1 arg2 x0 x1 x2) b i = true) r = o.val) :
    chunk (posv c arg0 harg0 arg1 harg1 arg2 harg2 arg3 harg3 arg4 harg4 arg5 harg5 arg6 harg6 x0 x1 x2) 3 (bodyRun.sl.v497 c arg0 harg0 arg1 harg1 arg2 harg2 arg3 harg3 arg4 harg4 arg5 harg5 arg6 harg6 x0 x1 x2) (bodyRun.sl.v500 c arg0 harg0 arg1 harg1 arg2 harg2 arg3 harg3 arg4 harg4 arg5 harg5 arg6 harg6 x0 x1 x2) (bodyRun.sl.v503 c arg0 harg0 arg1 harg1 arg2 harg2 arg3 harg3 arg4 harg4 arg5 harg5 arg6 harg6 x0 x1 x2) (bodyRun.sl.v506 c arg0 harg0 arg1 harg1 arg2 harg2 arg3 harg3 arg4 harg4 arg5 harg5 arg6 harg6 x0 x1 x2) (bodyRun.sl.v509 c arg0 harg0 arg1 harg1 arg2 harg2 arg3 harg3 arg4 harg4 arg5 harg5 arg6 harg6 x0 x1 x2) (ix3 b (ch.castLE (by decide)) o)
      = if 3 = r / 128 then bx arg0 arg1 arg2 x0 x1 x2 (ch.castLE (by decide)) b r else 0 := by
  refine Eq.trans ?_ (pick_block (kpt (bx arg0 arg1 arg2 x0 x1 x2) b) (fun i => if h : i < 1024 then (posv c arg0 harg0 arg1 harg1 arg2 harg2 arg3 harg3 arg4 harg4 arg5 harg5 arg6 harg6 x0 x1 x2) (ix2 b ⟨i, h⟩) else 0)
    (fun i hi => by rw [dif_pos hi]; exact posv_at c arg0 harg0 arg1 harg1 arg2 harg2 arg3 harg3 arg4 harg4 arg5 harg5 arg6 harg6 x0 x1 x2 b ⟨i, hi⟩) (bx arg0 arg1 arg2 x0 x1 x2 (ch.castLE (by decide)) b) o.val r (by omega) hk hc 3 (by decide))
  rw [chunk_at]
  refine Finset.sum_congr rfl fun k _ => ?_
  have hk' : 128 * 3 + k.val < 1024 := by omega
  rw [dif_pos hk']
  refine congrArg₂ (fun x y : EReal => x * y) ?_ rfl
  fin_cases ch
  · exact ld_497 c arg0 harg0 arg1 harg1 arg2 harg2 arg3 harg3 arg4 harg4 arg5 harg5 arg6 harg6 x0 x1 x2 b k
  · exact ld_500 c arg0 harg0 arg1 harg1 arg2 harg2 arg3 harg3 arg4 harg4 arg5 harg5 arg6 harg6 x0 x1 x2 b k
  · exact ld_503 c arg0 harg0 arg1 harg1 arg2 harg2 arg3 harg3 arg4 harg4 arg5 harg5 arg6 harg6 x0 x1 x2 b k
  · exact ld_506 c arg0 harg0 arg1 harg1 arg2 harg2 arg3 harg3 arg4 harg4 arg5 harg5 arg6 harg6 x0 x1 x2 b k
  · exact ld_509 c arg0 harg0 arg1 harg1 arg2 harg2 arg3 harg3 arg4 harg4 arg5 harg5 arg6 harg6 x0 x1 x2 b k

theorem chunk_4 (b : Fin 16) (ch : Fin 5) (o : Fin 256) (r : ℕ) (hr : r < 1000) (hk : kpt (bx arg0 arg1 arg2 x0 x1 x2) b r = true)
    (hc : Nat.count (fun i => kpt (bx arg0 arg1 arg2 x0 x1 x2) b i = true) r = o.val) :
    chunk (posv c arg0 harg0 arg1 harg1 arg2 harg2 arg3 harg3 arg4 harg4 arg5 harg5 arg6 harg6 x0 x1 x2) 4 (bodyRun.sl.v521 c arg0 harg0 arg1 harg1 arg2 harg2 arg3 harg3 arg4 harg4 arg5 harg5 arg6 harg6 x0 x1 x2) (bodyRun.sl.v524 c arg0 harg0 arg1 harg1 arg2 harg2 arg3 harg3 arg4 harg4 arg5 harg5 arg6 harg6 x0 x1 x2) (bodyRun.sl.v527 c arg0 harg0 arg1 harg1 arg2 harg2 arg3 harg3 arg4 harg4 arg5 harg5 arg6 harg6 x0 x1 x2) (bodyRun.sl.v530 c arg0 harg0 arg1 harg1 arg2 harg2 arg3 harg3 arg4 harg4 arg5 harg5 arg6 harg6 x0 x1 x2) (bodyRun.sl.v533 c arg0 harg0 arg1 harg1 arg2 harg2 arg3 harg3 arg4 harg4 arg5 harg5 arg6 harg6 x0 x1 x2) (ix3 b (ch.castLE (by decide)) o)
      = if 4 = r / 128 then bx arg0 arg1 arg2 x0 x1 x2 (ch.castLE (by decide)) b r else 0 := by
  refine Eq.trans ?_ (pick_block (kpt (bx arg0 arg1 arg2 x0 x1 x2) b) (fun i => if h : i < 1024 then (posv c arg0 harg0 arg1 harg1 arg2 harg2 arg3 harg3 arg4 harg4 arg5 harg5 arg6 harg6 x0 x1 x2) (ix2 b ⟨i, h⟩) else 0)
    (fun i hi => by rw [dif_pos hi]; exact posv_at c arg0 harg0 arg1 harg1 arg2 harg2 arg3 harg3 arg4 harg4 arg5 harg5 arg6 harg6 x0 x1 x2 b ⟨i, hi⟩) (bx arg0 arg1 arg2 x0 x1 x2 (ch.castLE (by decide)) b) o.val r (by omega) hk hc 4 (by decide))
  rw [chunk_at]
  refine Finset.sum_congr rfl fun k _ => ?_
  have hk' : 128 * 4 + k.val < 1024 := by omega
  rw [dif_pos hk']
  refine congrArg₂ (fun x y : EReal => x * y) ?_ rfl
  fin_cases ch
  · exact ld_521 c arg0 harg0 arg1 harg1 arg2 harg2 arg3 harg3 arg4 harg4 arg5 harg5 arg6 harg6 x0 x1 x2 b k
  · exact ld_524 c arg0 harg0 arg1 harg1 arg2 harg2 arg3 harg3 arg4 harg4 arg5 harg5 arg6 harg6 x0 x1 x2 b k
  · exact ld_527 c arg0 harg0 arg1 harg1 arg2 harg2 arg3 harg3 arg4 harg4 arg5 harg5 arg6 harg6 x0 x1 x2 b k
  · exact ld_530 c arg0 harg0 arg1 harg1 arg2 harg2 arg3 harg3 arg4 harg4 arg5 harg5 arg6 harg6 x0 x1 x2 b k
  · exact ld_533 c arg0 harg0 arg1 harg1 arg2 harg2 arg3 harg3 arg4 harg4 arg5 harg5 arg6 harg6 x0 x1 x2 b k

theorem chunk_5 (b : Fin 16) (ch : Fin 5) (o : Fin 256) (r : ℕ) (hr : r < 1000) (hk : kpt (bx arg0 arg1 arg2 x0 x1 x2) b r = true)
    (hc : Nat.count (fun i => kpt (bx arg0 arg1 arg2 x0 x1 x2) b i = true) r = o.val) :
    chunk (posv c arg0 harg0 arg1 harg1 arg2 harg2 arg3 harg3 arg4 harg4 arg5 harg5 arg6 harg6 x0 x1 x2) 5 (bodyRun.sl.v545 c arg0 harg0 arg1 harg1 arg2 harg2 arg3 harg3 arg4 harg4 arg5 harg5 arg6 harg6 x0 x1 x2) (bodyRun.sl.v548 c arg0 harg0 arg1 harg1 arg2 harg2 arg3 harg3 arg4 harg4 arg5 harg5 arg6 harg6 x0 x1 x2) (bodyRun.sl.v551 c arg0 harg0 arg1 harg1 arg2 harg2 arg3 harg3 arg4 harg4 arg5 harg5 arg6 harg6 x0 x1 x2) (bodyRun.sl.v554 c arg0 harg0 arg1 harg1 arg2 harg2 arg3 harg3 arg4 harg4 arg5 harg5 arg6 harg6 x0 x1 x2) (bodyRun.sl.v557 c arg0 harg0 arg1 harg1 arg2 harg2 arg3 harg3 arg4 harg4 arg5 harg5 arg6 harg6 x0 x1 x2) (ix3 b (ch.castLE (by decide)) o)
      = if 5 = r / 128 then bx arg0 arg1 arg2 x0 x1 x2 (ch.castLE (by decide)) b r else 0 := by
  refine Eq.trans ?_ (pick_block (kpt (bx arg0 arg1 arg2 x0 x1 x2) b) (fun i => if h : i < 1024 then (posv c arg0 harg0 arg1 harg1 arg2 harg2 arg3 harg3 arg4 harg4 arg5 harg5 arg6 harg6 x0 x1 x2) (ix2 b ⟨i, h⟩) else 0)
    (fun i hi => by rw [dif_pos hi]; exact posv_at c arg0 harg0 arg1 harg1 arg2 harg2 arg3 harg3 arg4 harg4 arg5 harg5 arg6 harg6 x0 x1 x2 b ⟨i, hi⟩) (bx arg0 arg1 arg2 x0 x1 x2 (ch.castLE (by decide)) b) o.val r (by omega) hk hc 5 (by decide))
  rw [chunk_at]
  refine Finset.sum_congr rfl fun k _ => ?_
  have hk' : 128 * 5 + k.val < 1024 := by omega
  rw [dif_pos hk']
  refine congrArg₂ (fun x y : EReal => x * y) ?_ rfl
  fin_cases ch
  · exact ld_545 c arg0 harg0 arg1 harg1 arg2 harg2 arg3 harg3 arg4 harg4 arg5 harg5 arg6 harg6 x0 x1 x2 b k
  · exact ld_548 c arg0 harg0 arg1 harg1 arg2 harg2 arg3 harg3 arg4 harg4 arg5 harg5 arg6 harg6 x0 x1 x2 b k
  · exact ld_551 c arg0 harg0 arg1 harg1 arg2 harg2 arg3 harg3 arg4 harg4 arg5 harg5 arg6 harg6 x0 x1 x2 b k
  · exact ld_554 c arg0 harg0 arg1 harg1 arg2 harg2 arg3 harg3 arg4 harg4 arg5 harg5 arg6 harg6 x0 x1 x2 b k
  · exact ld_557 c arg0 harg0 arg1 harg1 arg2 harg2 arg3 harg3 arg4 harg4 arg5 harg5 arg6 harg6 x0 x1 x2 b k

theorem chunk_6 (b : Fin 16) (ch : Fin 5) (o : Fin 256) (r : ℕ) (hr : r < 1000) (hk : kpt (bx arg0 arg1 arg2 x0 x1 x2) b r = true)
    (hc : Nat.count (fun i => kpt (bx arg0 arg1 arg2 x0 x1 x2) b i = true) r = o.val) :
    chunk (posv c arg0 harg0 arg1 harg1 arg2 harg2 arg3 harg3 arg4 harg4 arg5 harg5 arg6 harg6 x0 x1 x2) 6 (bodyRun.sl.v569 c arg0 harg0 arg1 harg1 arg2 harg2 arg3 harg3 arg4 harg4 arg5 harg5 arg6 harg6 x0 x1 x2) (bodyRun.sl.v572 c arg0 harg0 arg1 harg1 arg2 harg2 arg3 harg3 arg4 harg4 arg5 harg5 arg6 harg6 x0 x1 x2) (bodyRun.sl.v575 c arg0 harg0 arg1 harg1 arg2 harg2 arg3 harg3 arg4 harg4 arg5 harg5 arg6 harg6 x0 x1 x2) (bodyRun.sl.v578 c arg0 harg0 arg1 harg1 arg2 harg2 arg3 harg3 arg4 harg4 arg5 harg5 arg6 harg6 x0 x1 x2) (bodyRun.sl.v581 c arg0 harg0 arg1 harg1 arg2 harg2 arg3 harg3 arg4 harg4 arg5 harg5 arg6 harg6 x0 x1 x2) (ix3 b (ch.castLE (by decide)) o)
      = if 6 = r / 128 then bx arg0 arg1 arg2 x0 x1 x2 (ch.castLE (by decide)) b r else 0 := by
  refine Eq.trans ?_ (pick_block (kpt (bx arg0 arg1 arg2 x0 x1 x2) b) (fun i => if h : i < 1024 then (posv c arg0 harg0 arg1 harg1 arg2 harg2 arg3 harg3 arg4 harg4 arg5 harg5 arg6 harg6 x0 x1 x2) (ix2 b ⟨i, h⟩) else 0)
    (fun i hi => by rw [dif_pos hi]; exact posv_at c arg0 harg0 arg1 harg1 arg2 harg2 arg3 harg3 arg4 harg4 arg5 harg5 arg6 harg6 x0 x1 x2 b ⟨i, hi⟩) (bx arg0 arg1 arg2 x0 x1 x2 (ch.castLE (by decide)) b) o.val r (by omega) hk hc 6 (by decide))
  rw [chunk_at]
  refine Finset.sum_congr rfl fun k _ => ?_
  have hk' : 128 * 6 + k.val < 1024 := by omega
  rw [dif_pos hk']
  refine congrArg₂ (fun x y : EReal => x * y) ?_ rfl
  fin_cases ch
  · exact ld_569 c arg0 harg0 arg1 harg1 arg2 harg2 arg3 harg3 arg4 harg4 arg5 harg5 arg6 harg6 x0 x1 x2 b k
  · exact ld_572 c arg0 harg0 arg1 harg1 arg2 harg2 arg3 harg3 arg4 harg4 arg5 harg5 arg6 harg6 x0 x1 x2 b k
  · exact ld_575 c arg0 harg0 arg1 harg1 arg2 harg2 arg3 harg3 arg4 harg4 arg5 harg5 arg6 harg6 x0 x1 x2 b k
  · exact ld_578 c arg0 harg0 arg1 harg1 arg2 harg2 arg3 harg3 arg4 harg4 arg5 harg5 arg6 harg6 x0 x1 x2 b k
  · exact ld_581 c arg0 harg0 arg1 harg1 arg2 harg2 arg3 harg3 arg4 harg4 arg5 harg5 arg6 harg6 x0 x1 x2 b k

theorem chunk_7 (b : Fin 16) (ch : Fin 5) (o : Fin 256) (r : ℕ) (hr : r < 1000) (hk : kpt (bx arg0 arg1 arg2 x0 x1 x2) b r = true)
    (hc : Nat.count (fun i => kpt (bx arg0 arg1 arg2 x0 x1 x2) b i = true) r = o.val) :
    chunk (posv c arg0 harg0 arg1 harg1 arg2 harg2 arg3 harg3 arg4 harg4 arg5 harg5 arg6 harg6 x0 x1 x2) 7 (bodyRun.sl.v593 c arg0 harg0 arg1 harg1 arg2 harg2 arg3 harg3 arg4 harg4 arg5 harg5 arg6 harg6 x0 x1 x2) (bodyRun.sl.v596 c arg0 harg0 arg1 harg1 arg2 harg2 arg3 harg3 arg4 harg4 arg5 harg5 arg6 harg6 x0 x1 x2) (bodyRun.sl.v599 c arg0 harg0 arg1 harg1 arg2 harg2 arg3 harg3 arg4 harg4 arg5 harg5 arg6 harg6 x0 x1 x2) (bodyRun.sl.v602 c arg0 harg0 arg1 harg1 arg2 harg2 arg3 harg3 arg4 harg4 arg5 harg5 arg6 harg6 x0 x1 x2) (bodyRun.sl.v605 c arg0 harg0 arg1 harg1 arg2 harg2 arg3 harg3 arg4 harg4 arg5 harg5 arg6 harg6 x0 x1 x2) (ix3 b (ch.castLE (by decide)) o)
      = if 7 = r / 128 then bx arg0 arg1 arg2 x0 x1 x2 (ch.castLE (by decide)) b r else 0 := by
  refine Eq.trans ?_ (pick_block (kpt (bx arg0 arg1 arg2 x0 x1 x2) b) (fun i => if h : i < 1024 then (posv c arg0 harg0 arg1 harg1 arg2 harg2 arg3 harg3 arg4 harg4 arg5 harg5 arg6 harg6 x0 x1 x2) (ix2 b ⟨i, h⟩) else 0)
    (fun i hi => by rw [dif_pos hi]; exact posv_at c arg0 harg0 arg1 harg1 arg2 harg2 arg3 harg3 arg4 harg4 arg5 harg5 arg6 harg6 x0 x1 x2 b ⟨i, hi⟩) (bx arg0 arg1 arg2 x0 x1 x2 (ch.castLE (by decide)) b) o.val r (by omega) hk hc 7 (by decide))
  rw [chunk_at]
  refine Finset.sum_congr rfl fun k _ => ?_
  have hk' : 128 * 7 + k.val < 1024 := by omega
  rw [dif_pos hk']
  refine congrArg₂ (fun x y : EReal => x * y) ?_ rfl
  fin_cases ch
  · exact ld_593 c arg0 harg0 arg1 harg1 arg2 harg2 arg3 harg3 arg4 harg4 arg5 harg5 arg6 harg6 x0 x1 x2 b k
  · exact ld_596 c arg0 harg0 arg1 harg1 arg2 harg2 arg3 harg3 arg4 harg4 arg5 harg5 arg6 harg6 x0 x1 x2 b k
  · exact ld_599 c arg0 harg0 arg1 harg1 arg2 harg2 arg3 harg3 arg4 harg4 arg5 harg5 arg6 harg6 x0 x1 x2 b k
  · exact ld_602 c arg0 harg0 arg1 harg1 arg2 harg2 arg3 harg3 arg4 harg4 arg5 harg5 arg6 harg6 x0 x1 x2 b k
  · exact ld_605 c arg0 harg0 arg1 harg1 arg2 harg2 arg3 harg3 arg4 harg4 arg5 harg5 arg6 harg6 x0 x1 x2 b k

/-- The candidate kept at place `o` is stored there. -/
theorem out_kept (b : Fin 16) (ch : Fin 5) (o : Fin 256) (r : ℕ) (hr : r < 1000) (hk : kpt (bx arg0 arg1 arg2 x0 x1 x2) b r = true)
    (hc : Nat.count (fun i => kpt (bx arg0 arg1 arg2 x0 x1 x2) b i = true) r = o.val) :
    outPay c arg0 harg0 arg1 harg1 arg2 harg2 arg3 harg3 arg4 harg4 arg5 harg5 arg6 harg6 x0 x1 x2 (ix3 b (ch.castLE (by decide)) o)
      = if ch.val < 4 then min 1 (max 0 (bx arg0 arg1 arg2 x0 x1 x2 (ch.castLE (by decide)) b r)) else bx arg0 arg1 arg2 x0 x1 x2 (ch.castLE (by decide)) b r := by
  have hlt : o.val < Nat.count (fun i => kpt (bx arg0 arg1 arg2 x0 x1 x2) b i = true) 1024 := by
    rw [← hc]
    exact count_lt_of_lt _ (by omega) hk
  rw [out_eq, epi_at, count_at, if_pos ((nat_lt _ _).mpr hlt)]
  have hA : (addf (addf (addf (addf (addf (addf (addf (addf (broadcast S16x8x256 (Scalar.ofBits .f32 0x00000000#32)) (chunk (posv c arg0 harg0 arg1 harg1 arg2 harg2 arg3 harg3 arg4 harg4 arg5 harg5 arg6 harg6 x0 x1 x2) 0 (bodyRun.sl.v425 c arg0 harg0 arg1 harg1 arg2 harg2 arg3 harg3 arg4 harg4 arg5 harg5 arg6 harg6 x0 x1 x2) (bodyRun.sl.v428 c arg0 harg0 arg1 harg1 arg2 harg2 arg3 harg3 arg4 harg4 arg5 harg5 arg6 harg6 x0 x1 x2) (bodyRun.sl.v431 c arg0 harg0 arg1 harg1 arg2 harg2 arg3 harg3 arg4 harg4 arg5 harg5 arg6 harg6 x0 x1 x2) (bodyRun.sl.v434 c arg0 harg0 arg1 harg1 arg2 harg2 arg3 harg3 arg4 harg4 arg5 harg5 arg6 harg6 x0 x1 x2) (bodyRun.sl.v437 c arg0 harg0 arg1 harg1 arg2 harg2 arg3 harg3 arg4 harg4 arg5 harg5 arg6 harg6 x0 x1 x2))) (chunk (posv c arg0 harg0 arg1 harg1 arg2 harg2 arg3 harg3 arg4 harg4 arg5 harg5 arg6 harg6 x0 x1 x2) 1 (bodyRun.sl.v449 c arg0 harg0 arg1 harg1 arg2 harg2 arg3 harg3 arg4 harg4 arg5 harg5 arg6 harg6 x0 x1 x2) (bodyRun.sl.v452 c arg0 harg0 arg1 harg1 arg2 harg2 arg3 harg3 arg4 harg4 arg5 harg5 arg6 harg6 x0 x1 x2) (bodyRun.sl.v455 c arg0 harg0 arg1 harg1 arg2 harg2 arg3 harg3 arg4 harg4 arg5 harg5 arg6 harg6 x0 x1 x2) (bodyRun.sl.v458 c arg0 harg0 arg1 harg1 arg2 harg2 arg3 harg3 arg4 harg4 arg5 harg5 arg6 harg6 x0 x1 x2) (bodyRun.sl.v461 c arg0 harg0 arg1 harg1 arg2 harg2 arg3 harg3 arg4 harg4 arg5 harg5 arg6 harg6 x0 x1 x2))) (chunk (posv c arg0 harg0 arg1 harg1 arg2 harg2 arg3 harg3 arg4 harg4 arg5 harg5 arg6 harg6 x0 x1 x2) 2 (bodyRun.sl.v473 c arg0 harg0 arg1 harg1 arg2 harg2 arg3 harg3 arg4 harg4 arg5 harg5 arg6 harg6 x0 x1 x2) (bodyRun.sl.v476 c arg0 harg0 arg1 harg1 arg2 harg2 arg3 harg3 arg4 harg4 arg5 harg5 arg6 harg6 x0 x1 x2) (bodyRun.sl.v479 c arg0 harg0 arg1 harg1 arg2 harg2 arg3 harg3 arg4 harg4 arg5 harg5 arg6 harg6 x0 x1 x2) (bodyRun.sl.v482 c arg0 harg0 arg1 harg1 arg2 harg2 arg3 harg3 arg4 harg4 arg5 harg5 arg6 harg6 x0 x1 x2) (bodyRun.sl.v485 c arg0 harg0 arg1 harg1 arg2 harg2 arg3 harg3 arg4 harg4 arg5 harg5 arg6 harg6 x0 x1 x2))) (chunk (posv c arg0 harg0 arg1 harg1 arg2 harg2 arg3 harg3 arg4 harg4 arg5 harg5 arg6 harg6 x0 x1 x2) 3 (bodyRun.sl.v497 c arg0 harg0 arg1 harg1 arg2 harg2 arg3 harg3 arg4 harg4 arg5 harg5 arg6 harg6 x0 x1 x2) (bodyRun.sl.v500 c arg0 harg0 arg1 harg1 arg2 harg2 arg3 harg3 arg4 harg4 arg5 harg5 arg6 harg6 x0 x1 x2) (bodyRun.sl.v503 c arg0 harg0 arg1 harg1 arg2 harg2 arg3 harg3 arg4 harg4 arg5 harg5 arg6 harg6 x0 x1 x2) (bodyRun.sl.v506 c arg0 harg0 arg1 harg1 arg2 harg2 arg3 harg3 arg4 harg4 arg5 harg5 arg6 harg6 x0 x1 x2) (bodyRun.sl.v509 c arg0 harg0 arg1 harg1 arg2 harg2 arg3 harg3 arg4 harg4 arg5 harg5 arg6 harg6 x0 x1 x2))) (chunk (posv c arg0 harg0 arg1 harg1 arg2 harg2 arg3 harg3 arg4 harg4 arg5 harg5 arg6 harg6 x0 x1 x2) 4 (bodyRun.sl.v521 c arg0 harg0 arg1 harg1 arg2 harg2 arg3 harg3 arg4 harg4 arg5 harg5 arg6 harg6 x0 x1 x2) (bodyRun.sl.v524 c arg0 harg0 arg1 harg1 arg2 harg2 arg3 harg3 arg4 harg4 arg5 harg5 arg6 harg6 x0 x1 x2) (bodyRun.sl.v527 c arg0 harg0 arg1 harg1 arg2 harg2 arg3 harg3 arg4 harg4 arg5 harg5 arg6 harg6 x0 x1 x2) (bodyRun.sl.v530 c arg0 harg0 arg1 harg1 arg2 harg2 arg3 harg3 arg4 harg4 arg5 harg5 arg6 harg6 x0 x1 x2) (bodyRun.sl.v533 c arg0 harg0 arg1 harg1 arg2 harg2 arg3 harg3 arg4 harg4 arg5 harg5 arg6 harg6 x0 x1 x2))) (chunk (posv c arg0 harg0 arg1 harg1 arg2 harg2 arg3 harg3 arg4 harg4 arg5 harg5 arg6 harg6 x0 x1 x2) 5 (bodyRun.sl.v545 c arg0 harg0 arg1 harg1 arg2 harg2 arg3 harg3 arg4 harg4 arg5 harg5 arg6 harg6 x0 x1 x2) (bodyRun.sl.v548 c arg0 harg0 arg1 harg1 arg2 harg2 arg3 harg3 arg4 harg4 arg5 harg5 arg6 harg6 x0 x1 x2) (bodyRun.sl.v551 c arg0 harg0 arg1 harg1 arg2 harg2 arg3 harg3 arg4 harg4 arg5 harg5 arg6 harg6 x0 x1 x2) (bodyRun.sl.v554 c arg0 harg0 arg1 harg1 arg2 harg2 arg3 harg3 arg4 harg4 arg5 harg5 arg6 harg6 x0 x1 x2) (bodyRun.sl.v557 c arg0 harg0 arg1 harg1 arg2 harg2 arg3 harg3 arg4 harg4 arg5 harg5 arg6 harg6 x0 x1 x2))) (chunk (posv c arg0 harg0 arg1 harg1 arg2 harg2 arg3 harg3 arg4 harg4 arg5 harg5 arg6 harg6 x0 x1 x2) 6 (bodyRun.sl.v569 c arg0 harg0 arg1 harg1 arg2 harg2 arg3 harg3 arg4 harg4 arg5 harg5 arg6 harg6 x0 x1 x2) (bodyRun.sl.v572 c arg0 harg0 arg1 harg1 arg2 harg2 arg3 harg3 arg4 harg4 arg5 harg5 arg6 harg6 x0 x1 x2) (bodyRun.sl.v575 c arg0 harg0 arg1 harg1 arg2 harg2 arg3 harg3 arg4 harg4 arg5 harg5 arg6 harg6 x0 x1 x2) (bodyRun.sl.v578 c arg0 harg0 arg1 harg1 arg2 harg2 arg3 harg3 arg4 harg4 arg5 harg5 arg6 harg6 x0 x1 x2) (bodyRun.sl.v581 c arg0 harg0 arg1 harg1 arg2 harg2 arg3 harg3 arg4 harg4 arg5 harg5 arg6 harg6 x0 x1 x2))) (chunk (posv c arg0 harg0 arg1 harg1 arg2 harg2 arg3 harg3 arg4 harg4 arg5 harg5 arg6 harg6 x0 x1 x2) 7 (bodyRun.sl.v593 c arg0 harg0 arg1 harg1 arg2 harg2 arg3 harg3 arg4 harg4 arg5 harg5 arg6 harg6 x0 x1 x2) (bodyRun.sl.v596 c arg0 harg0 arg1 harg1 arg2 harg2 arg3 harg3 arg4 harg4 arg5 harg5 arg6 harg6 x0 x1 x2) (bodyRun.sl.v599 c arg0 harg0 arg1 harg1 arg2 harg2 arg3 harg3 arg4 harg4 arg5 harg5 arg6 harg6 x0 x1 x2) (bodyRun.sl.v602 c arg0 harg0 arg1 harg1 arg2 harg2 arg3 harg3 arg4 harg4 arg5 harg5 arg6 harg6 x0 x1 x2) (bodyRun.sl.v605 c arg0 harg0 arg1 harg1 arg2 harg2 arg3 harg3 arg4 harg4 arg5 harg5 arg6 harg6 x0 x1 x2))) (ix3 b (ch.castLE (by decide)) o) = bx arg0 arg1 arg2 x0 x1 x2 (ch.castLE (by decide)) b r := by
    have e : ∀ (A C : FVec Ideal S16x8x256 .f32) (i : S16x8x256.Idx), addf A C i = A i + C i := fun A C i => rfl
    simp only [e]
    rw [chunk_0 c arg0 harg0 arg1 harg1 arg2 harg2 arg3 harg3 arg4 harg4 arg5 harg5 arg6 harg6 x0 x1 x2 b ch o r hr hk hc, chunk_1 c arg0 harg0 arg1 harg1 arg2 harg2 arg3 harg3 arg4 harg4 arg5 harg5 arg6 harg6 x0 x1 x2 b ch o r hr hk hc, chunk_2 c arg0 harg0 arg1 harg1 arg2 harg2 arg3 harg3 arg4 harg4 arg5 harg5 arg6 harg6 x0 x1 x2 b ch o r hr hk hc, chunk_3 c arg0 harg0 arg1 harg1 arg2 harg2 arg3 harg3 arg4 harg4 arg5 harg5 arg6 harg6 x0 x1 x2 b ch o r hr hk hc, chunk_4 c arg0 harg0 arg1 harg1 arg2 harg2 arg3 harg3 arg4 harg4 arg5 harg5 arg6 harg6 x0 x1 x2 b ch o r hr hk hc, chunk_5 c arg0 harg0 arg1 harg1 arg2 harg2 arg3 harg3 arg4 harg4 arg5 harg5 arg6 harg6 x0 x1 x2 b ch o r hr hk hc, chunk_6 c arg0 harg0 arg1 harg1 arg2 harg2 arg3 harg3 arg4 harg4 arg5 harg5 arg6 harg6 x0 x1 x2 b ch o r hr hk hc, chunk_7 c arg0 harg0 arg1 harg1 arg2 harg2 arg3 harg3 arg4 harg4 arg5 harg5 arg6 harg6 x0 x1 x2 b ch o r hr hk hc]
    have hz : (broadcast S16x8x256 (Scalar.ofBits (F := Ideal) .f32 0x00000000#32) : FVec Ideal S16x8x256 .f32) (ix3 b (ch.castLE (by decide)) o) = 0 := Ideal.ofBits_zero_f32
    rw [hz]
    have h8 : r / 128 < 8 := by omega
    generalize r / 128 = d at h8
    interval_cases d <;> simp
  rw [hA]
  rfl

end Cert.KernelIdeal.Run
-- ==== Proof.KernelVal.lean ====
/- The launch of `KernelIdeal` with the stored result named, and what the host lines after it make of it. -/
module

public import proofs.«01_k».proof.Proof.IdealFrame
public import proofs.«01_k».proof.Proof.OutFin

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

section
variable (c : Dev nD)
  (arg0 : Memref sig .tc (Space.vmem) S4x16x16384 .f32) (harg0 : arg0.IsWhole)
  (arg1 : Memref sig .tc (Space.vmem) S16x16384 .f32) (harg1 : arg1.IsWhole)
  (arg2 : Memref sig .tc (Space.vmem) S4x1x16384 .f32) (harg2 : arg2.IsWhole)
  (arg3 : Memref sig .tc (Space.vmem) S16x8x256 .f32) (harg3 : arg3.IsWhole)
  (arg4 : Memref sig .tc (Space.vmem) S5x16x16384 .f32) (harg4 : arg4.IsWhole)
  (arg5 : Memref sig .tc (Space.vmem) S16x16384 .i32) (harg5 : arg5.IsWhole)
  (arg6 : Memref sig .tc (Space.vmem) S7x8x16x128 .f32) (harg6 : arg6.IsWhole)
  (x0 : arg0.view.ty.Contents (Elt Ideal)) (x1 : arg1.view.ty.Contents (Elt Ideal)) (x2 : arg2.view.ty.Contents (Elt Ideal))

theorem zero3 : (![0, 0, 0] : Fin 3 → Nat) = fun _ => 0 := funext fun a => by fin_cases a <;> rfl

include harg0 harg1 harg2 harg3 harg4 harg5 harg6 in
set_option maxHeartbeats 1000000 in
/-- What the result's buffer reads after the body. -/
theorem run_val (f3 : arg3.view.ty.Contents (Elt Ideal)) (f4 : arg4.view.ty.Contents (Elt Ideal)) (f5 : arg5.view.ty.Contents (Elt Ideal)) (f6 : arg6.view.ty.Contents (Elt Ideal)) :
    arg3.view.read (Elt Ideal) (arg3.view.writes (Elt Ideal) f3 ((bodyRun c arg0 harg0 arg1 harg1 arg2 harg2 arg3 harg3 arg4 harg4 arg5 harg5 arg6 harg6 x0 x1 x2).1 f4 f5 f6))
      = outPay c arg0 harg0 arg1 harg1 arg2 harg2 arg3 harg3 arg4 harg4 arg5 harg5 arg6 harg6 x0 x1 x2 := by
  have e : (bodyRun c arg0 harg0 arg1 harg1 arg2 harg2 arg3 harg3 arg4 harg4 arg5 harg5 arg6 harg6 x0 x1 x2).1 f4 f5 f6
      = [(⟨Rect.unit (s := S16x8x256) ![0, 0, 0] S16x8x256.size (by decide), outPay c arg0 harg0 arg1 harg1 arg2 harg2 arg3 harg3 arg4 harg4 arg5 harg5 arg6 harg6 x0 x1 x2⟩ : View.Piece (Elt Ideal) S16x8x256 .f32)] := by
    unfold bodyRun
    rfl
  rw [e]
  funext y
  exact View.read_writes_cons_unit_of_mem arg3.view f3 (s := S16x8x256) (off := ![0, 0, 0]) (size := S16x8x256.size) (by decide) (outPay c arg0 harg0 arg1 harg1 arg2 harg2 arg3 harg3 arg4 harg4 arg5 harg5 arg6 harg6 x0 x1 x2) [] y y rfl (fun a => by have h := congrFun zero3 a; show (y a).val = (![0, 0, 0] : Fin 3 → Nat) a + (y a).val; rw [h]; simp)

end

variable (m : (ℓ : Loc nD τ sig) → Buf (Elt Ideal) ℓ) (ρ : Dev nD → PrngReg)

/-- What the body leaves in the result's block. -/
def outV (c : Dev nD) (t : Fin cfg0.N) : FVec Ideal S16x8x256 .f32 :=
  outPay c (win0_0.stage (cfg0.slots t 0)) (hstage0_0 0) (win0_1.stage (cfg0.slots t 1)) (hstage0_1 0) (win0_2.stage (cfg0.slots t 2)) (hstage0_2 0)
    (win0_3.stage (cfg0.slots t 3)) (hstage0_3 0) (Memref.whole cc0_scratch0) (Memref.isWhole_whole cc0_scratch0) (Memref.whole cc0_scratch1) (Memref.isWhole_whole cc0_scratch1)
    (Memref.whole cc0_scratch2) (Memref.isWhole_whole cc0_scratch2)
    ((hstage0_0 0).unread (iblk m c 0 t)) ((hstage0_1 0).unread (iblk m c 1 t)) ((hstage0_2 0).unread (iblk m c 2 t))

/-- The proof data, the result's block named. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outV m c t
  Φ _ := Pipeline.ΦA spec0 c
  q _ := fullShare
  owed _ := 0

theorem datsV_A (c : Dev nD) (w : Fin cfg0.W) : (datsV m 0 c).A w = V m c (Pipeline.arrRef spec0 w) := by
  dsimp only [datsV]
theorem datsV_after0 (c : Dev nD) (t : Fin cfg0.N) : (datsV m 0 c).after 0 t = iblk m c 0 t := by dsimp only [datsV]
theorem datsV_after1 (c : Dev nD) (t : Fin cfg0.N) : (datsV m 0 c).after 1 t = iblk m c 1 t := by dsimp only [datsV]
theorem datsV_after2 (c : Dev nD) (t : Fin cfg0.N) : (datsV m 0 c).after 2 t = iblk m c 2 t := by dsimp only [datsV]
theorem datsV_after3 (c : Dev nD) (t : Fin cfg0.N) : (datsV m 0 c).after 3 t = outV m c t := by dsimp only [datsV]

/-- What the body is handed. -/
def preV (c : Dev nD) (t : Fin cfg0.N) : sProp 𝕄 :=
  iprop((datsV m 0 c).Φ t.castSucc ∗ (datsV m 0 c).owesAt () t.castSucc
    ∗ (∃ d, owns (c : Thread nD τ) (win0_0.stage (cfg0.slots t 0)) fullShare ((datsV m 0 c).before 0 t d))
    ∗ (∃ d, owns (c : Thread nD τ) (win0_1.stage (cfg0.slots t 1)) fullShare ((datsV m 0 c).before 1 t d))
    ∗ (∃ d, owns (c : Thread nD τ) (win0_2.stage (cfg0.slots t 2)) fullShare ((datsV m 0 c).before 2 t d))
    ∗ (∃ d, owns (c : Thread nD τ) (win0_3.stage (cfg0.slots t 3)) fullShare ((datsV m 0 c).before 3 t d)))
/-- What it leaves. -/
def postV (c : Dev nD) (t : Fin cfg0.N) : sProp 𝕄 :=
  iprop((datsV m 0 c).Φ t.succ ∗ (datsV m 0 c).owesAt () t.succ
    ∗ owns (c : Thread nD τ) (win0_0.stage (cfg0.slots t 0)) fullShare ((datsV m 0 c).after 0 t)
    ∗ owns (c : Thread nD τ) (win0_1.stage (cfg0.slots t 1)) fullShare ((datsV m 0 c).after 1 t)
    ∗ owns (c : Thread nD τ) (win0_2.stage (cfg0.slots t 2)) fullShare ((datsV m 0 c).after 2 t)
    ∗ owns (c : Thread nD τ) (win0_3.stage (cfg0.slots t 3)) fullShare ((datsV m 0 c).after 3 t))

set_option maxHeartbeats 1000000 in
theorem soundV (c : Dev nD) (t : Fin cfg0.N) :
    preV m c t ⊢ wp Idealize.ShloMosaic.frame (wpE (defs₀ (F := Ideal)) Variants.none c none) Set.univ (bodyAt0 t) (fun _ => postV m c t) := by
  unfold preV postV bodyAt0
  rw [show (datsV m 0 c).Φ t.succ = (datsV m 0 c).Φ t.castSucc from rfl, datsV_after0, datsV_after1, datsV_after2, datsV_after3]
  rw [show (datsV m 0 c).owesAt () t.succ = (datsV m 0 c).owesAt () t.castSucc from rfl]
  rw [show (datsV m 0 c).Φ t.castSucc = Pipeline.ΦA spec0 c from rfl]
  unfold Pipeline.ΦA
  rw [scopedRest0_eq]
  have hb0 := fun d => before0_0_of m (datsV m 0 c) (datsV_A m c 0) (datsV_after0 m c) t d
  have hb1 := fun d => before0_1_of m (datsV m 0 c) (datsV_A m c 1) (datsV_after1 m c) t d
  have hb2 := fun d => before0_2_of m (datsV m 0 c) (datsV_A m c 2) (datsV_after2 m c) t d
  simp only [hb0, hb1, hb2]
  unfold owns
  iintro ⟨⟨⟨⟨%f4, H4⟩, ⟨%f5, H5⟩, ⟨%f6, H6⟩⟩, Hg⟩, HW, ⟨%d0, ⟨%x0, %hx0, H0⟩⟩, ⟨%d1, ⟨%x1, %hx1, H1⟩⟩, ⟨%d2, ⟨%x2, %hx2, H2⟩⟩, ⟨%d3, ⟨%x3, %hx3, H3⟩⟩⟩
  obtain rfl := (hstage0_0 0).eq_unread hx0
  obtain rfl := (hstage0_1 0).eq_unread hx1
  obtain rfl := (hstage0_2 0).eq_unread hx2
  have hB := run_val c _ (hstage0_0 0) _ (hstage0_1 0) _ (hstage0_2 0) _ (hstage0_3 0) _ (Memref.isWhole_whole cc0_scratch0) _ (Memref.isWhole_whole cc0_scratch1) _ (Memref.isWhole_whole cc0_scratch2) ((hstage0_0 0).unread (iblk m c 0 t)) ((hstage0_1 0).unread (iblk m c 1 t)) ((hstage0_2 0).unread (iblk m c 2 t))
  generalize bodyRun c _ (hstage0_0 0) _ (hstage0_1 0) _ (hstage0_2 0) _ (hstage0_3 0) _ (Memref.isWhole_whole cc0_scratch0) _ (Memref.isWhole_whole cc0_scratch1) _ (Memref.isWhole_whole cc0_scratch2) ((hstage0_0 0).unread (iblk m c 0 t)) ((hstage0_1 0).unread (iblk m c 1 t)) ((hstage0_2 0).unread (iblk m c 2 t)) = BR at hB
  obtain ⟨L, hL⟩ := BR
  have hR := fun f3 => hB f3 f4 f5 f6
  clear hB
  have hL' := hL x3 f4 f5 f6
  simp only [Memref.view_whole, pt_whole c cc0_scratch0, pt_whole c cc0_scratch1, pt_whole c cc0_scratch2] at hL'
  iapply (wp_wand_r Idealize.ShloMosaic.frame (wpE (defs₀ (F := Ideal)) Variants.none (c : Thread nD τ) none) Set.univ)
  isplitl [H0 H1 H2 H3 H4 H5 H6]
  · iapply hL'
    isplitl [H0]; · iexact H0
    isplitl [H1]; · iexact H1
    isplitl [H2]; · iexact H2
    isplitl [H3]; · iexact H3
    isplitl [H4]; · iexact H4
    isplitl [H5]; · iexact H5
    iexact H6
  iintro %u ⟨H0, H1, H2, H3, ⟨%g4, H4⟩, ⟨%g5, H5⟩, ⟨%g6, H6⟩⟩
  isplitl [H4 H5 H6 Hg]
  · isplitl [H4 H5 H6]
    · isplitl [H4]; · iexists g4; iexact H4
      isplitl [H5]; · iexists g5; iexact H5
      iexists g6; iexact H6
    iexact Hg
  isplitl [HW]; · iexact HW
  isplitl [H0]; · iexists _; isplitr; swap; · iexact H0
                  ipureintro; exact hx0
  isplitl [H1]; · iexists _; isplitr; swap; · iexact H1
                  ipureintro; exact hx1
  isplitl [H2]; · iexists _; isplitr; swap; · iexact H2
                  ipureintro; exact hx2
  iexists _; isplitr; swap; · iexact H3
  ipureintro; exact hR x3

set_option maxHeartbeats 1000000 in
theorem obligationV (c : Dev nD) :
    Pipeline.BodyObligationLoose (datsV m 0 c) (defs₀ (F := Ideal)) Variants.none () Set.univ := fun t => by
  rw [bigSep_W0, bigSep_W0, defs₀_row]
  exact triple_restated (soundV m c t) rfl .rfl fun _ => .rfl

/-- The run with every buffer named. -/
theorem runV : θ_run defs (onTc (τ := τ) (main (F := Ideal))) (s₀ m ρ)
    (fun r => Pipeline.FramePost cfgs (datsV m) 0 (Pipeline.afterTail₀ cfgs (datsV m) 0 (V0 m) [hostOps1]) r ∧ r.2.sem = fun _ => 0) :=
  Pipeline.θ_run_frame_around (Q' := _) cfgs (datsV m) 0 launch0 defs₀ Variants.none m ρ main
    (hbody := obligationV m) (hshare := fun c => (datsV m 0 c).share_full fun _ => rfl) (howed := fun _ _ => rfl)
    (V₀ := V0 m) (opss := [hostOps1]) (hsub := sfx_sub) (hfresh := sfx_fresh) (hkeep := sfx_keeps)
    (hmain := hmain m Variants.none) (hA := datsV_A m) (hΦ := fun _ _ => rfl)

theorem flushed_eq (c : Dev nD) (t : Fin cfg0.N) :
    (datsV m 0 c).flushed 3 t = (win0_3.blk t).view.read (Elt Ideal) (outV m c t0_0) := by
  show (cfg0.win 3).cut (grid0.coords t) ((datsV m 0 c).after 3 t) = _
  rw [datsV_after3]
  obtain rfl := fin_N0 t
  generalize outV m c t0_0 = G
  have e : ∀ a, win0_3.index t0_0 a * win0_3.size a = 0 := by decide +kernel
  exact funext fun x => congrArg G (funext fun a => Fin.ext (by
    show (x a).val = win0_3.index t0_0 a * win0_3.size a + 1 * (x a).val
    rw [e a]; omega))

theorem cover3 (i : S16x8x256.Idx) :
    ∃ t : Fin cfg0.N, (cfg0.win 3).flush t = true ∧ i ∈ ((cfg0.win 3).blk t).view.set := by
  refine ⟨t0_0, flush0_3 _, ?_⟩
  show i ∈ ((View.whole main_call0_v8).slice (win0_3.rect t0_0)).set
  rw [View.set_slice_whole, Rect.mem_set_unit]
  have e : ∀ a, win0_3.index t0_0 a * win0_3.size a = 0 ∧ win0_3.xsize (grid0.coords t0_0) a = S16x8x256.size a := by
    decide +kernel
  intro a
  show win0_3.index t0_0 a * win0_3.size a ≤ (i a : Nat) ∧ (i a : Nat) < win0_3.index t0_0 a * win0_3.size a + win0_3.xsize (grid0.coords t0_0) a
  rw [(e a).1, (e a).2, Nat.zero_add]
  exact ⟨Nat.zero_le _, (i a).isLt⟩

theorem final3 (c : Dev nD) : (datsV m 0 c).arrAt 3 cfg0.N = outV m c t0_0 :=
  (datsV m 0 c).arrAt_eq_of_cover 3 (outV m c t0_0) (fun t _ => flushed_eq m c t) cover3

/-- The first result as the host leaves it. -/
theorem tail_v0_0 (c : Dev nD) : Pipeline.afterTail₀ cfgs (datsV m) 0 (V0 m) [hostOps1] c main_v0_0
    = transpose S16x256x4 [0, 2, 1] (extractStridedSlice S16x4x256 ![0, 0, 0] (outV m c t0_0) slices_S16x8x256_S16x4x256_0_0_0) transposes_S16x4x256_S16x256x4_0_2_1 := by
  unfold Pipeline.afterTail₀
  show StableHlo.after hostOps1 _ (Proc.devRef .tc main_v0_0) = _
  after_results
  rw [show Pipeline.withArrays (cfgs 0).spec c (V0 m c) (fun w => (datsV m 0 c).arrAt w (cfgs 0).N) (Proc.devRef .tc main_call0_v8) = outV m c t0_0 from
    (Pipeline.withArrays_arr spec0 (by decide) c (V0 m c) (fun w => (datsV m 0 c).arrAt w cfg0.N) 3).trans (final3 m c)]
  rfl

/-- The second. -/
theorem tail_v0_1 (c : Dev nD) : Pipeline.afterTail₀ cfgs (datsV m) 0 (V0 m) [hostOps1] c main_v0_1
    = shapeCast S16x256 (extractStridedSlice S16x1x256 ![0, 4, 0] (outV m c t0_0) slices_S16x8x256_S16x1x256_0_4_0) shapeCasts_S16x1x256_S16x256 := by
  unfold Pipeline.afterTail₀
  show StableHlo.after hostOps1 _ (Proc.devRef .tc main_v0_1) = _
  after_results
  rw [show Pipeline.withArrays (cfgs 0).spec c (V0 m c) (fun w => (datsV m 0 c).arrAt w (cfgs 0).N) (Proc.devRef .tc main_call0_v8) = outV m c t0_0 from
    (Pipeline.withArrays_arr spec0 (by decide) c (V0 m c) (fun w => (datsV m 0 c).arrAt w cfg0.N) 3).trans (final3 m c)]
  rfl

/-- The arrays the region reads. -/
theorem V_deltas (c : Dev nD) : V m c main_call0_v2
    = pad S4x16x16384 ![0, 0, 0] ![0, 0, 7735] ![0, 0, 0] (transpose S4x16x8649 [2, 0, 1] (shapeCast S16x8649x4 (m ((c : Thread nD τ).loc main_arg0)) shapeCasts_S16x31x31x36_S16x8649x4) transposes_S16x8649x4_S4x16x8649_2_0_1)
        (sitofp (F := Ideal) .f32 (constantI S_ 32 0#32)) pads_S4x16x8649_S4x16x16384_000_000_077350 h_S_ := by
  show StableHlo.after hostOps0 _ (Proc.devRef .tc main_call0_v2) = _
  after_results
  rfl

theorem V_scores (c : Dev nD) : V m c main_call0_v4
    = pad S16x16384 ![0, 0] ![0, 7735] ![0, 0] (shapeCast S16x8649 (m ((c : Thread nD τ).loc main_arg1)) shapeCasts_S16x31x31x9_S16x8649)
        (constant (F := Ideal) S_ .f32 0xBF800000#32) pads_S16x8649_S16x16384_000_077350 h_S_ := by
  show StableHlo.after hostOps0 _ (Proc.devRef .tc main_call0_v4) = _
  after_results
  rfl

theorem V_anchors (c : Dev nD) : V m c main_call0_v7
    = pad S4x1x16384 ![0, 0, 0] ![0, 0, 7735] ![0, 0, 0] (broadcastInDim S4x1x8649 ![0, 2] bcast_S4x8649_S4x1x8649_0_2 (transpose S4x8649 [1, 0] (m ((c : Thread nD τ).loc main_arg3)) transposes_S8649x4_S4x8649_1_0))
        (sitofp (F := Ideal) .f32 (constantI S_ 32 0#32)) pads_S4x1x8649_S4x1x16384_000_000_077350 h_S_ := by
  show StableHlo.after hostOps0 _ (Proc.devRef .tc main_call0_v7) = _
  after_results
  rfl

/-- The result's block, by the arrays. -/
theorem iblk0 (c : Dev nD) : iblk m c 0 t0_0 = V m c main_call0_v2 := by
  unfold iblk
  show (win0_0.blk t0_0).view.read (Elt Ideal) (V m c main_call0_v2) = _
  generalize V m c main_call0_v2 = G
  have e : ∀ a, win0_0.index t0_0 a * win0_0.size a = 0 := by decide +kernel
  exact funext fun x => congrArg G (funext fun a => Fin.ext (by
    show win0_0.index t0_0 a * win0_0.size a + 1 * (x a).val = (x a).val
    rw [e a]; omega))
theorem iblk1 (c : Dev nD) : iblk m c 1 t0_0 = V m c main_call0_v4 := by
  unfold iblk
  show (win0_1.blk t0_0).view.read (Elt Ideal) (V m c main_call0_v4) = _
  generalize V m c main_call0_v4 = G
  have e : ∀ a, win0_1.index t0_0 a * win0_1.size a = 0 := by decide +kernel
  exact funext fun x => congrArg G (funext fun a => Fin.ext (by
    show win0_1.index t0_0 a * win0_1.size a + 1 * (x a).val = (x a).val
    rw [e a]; omega))
theorem iblk2 (c : Dev nD) : iblk m c 2 t0_0 = V m c main_call0_v7 := by
  unfold iblk
  show (win0_2.blk t0_0).view.read (Elt Ideal) (V m c main_call0_v7) = _
  generalize V m c main_call0_v7 = G
  have e : ∀ a, win0_2.index t0_0 a * win0_2.size a = 0 := by decide +kernel
  exact funext fun x => congrArg G (funext fun a => Fin.ext (by
    show win0_2.index t0_0 a * win0_2.size a + 1 * (x a).val = (x a).val
    rw [e a]; omega))

end Cert.KernelIdeal.Run

end
-- ==== Proof.RefLoop.lean ====
/- One round of the reference's suppression loop, entry by entry. -/
module

public import proofs.«01_k».proof.Proof.OutFin
public import proofs.«01_k».proof.Proof.Gen.ReferenceIdeal.Run

@[expose] public section

set_option maxRecDepth 16384
set_option maxHeartbeats 1000000

noncomputable section

namespace Cert.ReferenceIdeal.Val

open Cert.ReferenceIdeal Cert.ReferenceIdeal.Gen Cert.ReferenceIdeal.Value Cert.Pure
open Idealize.ShloMosaic Idealize.ShloMosaic.TcCoe Idealize.ShloMosaic.Tactic Idealize.ShloMosaic.StableHlo
open Cert.KernelIdeal.Run (supOf over areaOf iouOf kpt)

/-- The boxes and their areas, as one table. -/
def tab (X : S16x1000x4.Idx → EReal) (ch : Fin 7) (b : Fin 16) (r : ℕ) : EReal :=
  match ch with
  | 0 => X (ix3 b ⟨r % 1000, Nat.mod_lt _ (by decide)⟩ 0)
  | 1 => X (ix3 b ⟨r % 1000, Nat.mod_lt _ (by decide)⟩ 1)
  | 2 => X (ix3 b ⟨r % 1000, Nat.mod_lt _ (by decide)⟩ 2)
  | 3 => X (ix3 b ⟨r % 1000, Nat.mod_lt _ (by decide)⟩ 3)
  | 4 => 0
  | 5 => 0
  | 6 => areaOf (X (ix3 b ⟨r % 1000, Nat.mod_lt _ (by decide)⟩ 0)) (X (ix3 b ⟨r % 1000, Nat.mod_lt _ (by decide)⟩ 1))
      (X (ix3 b ⟨r % 1000, Nat.mod_lt _ (by decide)⟩ 2)) (X (ix3 b ⟨r % 1000, Nat.mod_lt _ (by decide)⟩ 3))

/-- The intersections of one box with all. -/
def interF (X : FVec Ideal S16x1000x4 .f32) (R : FVec Ideal S16x1x4 .f32) : FVec Ideal S16x1000 .f32 :=
  mulf (maximumf (subf (minimumf (broadcastInDim S16x1000 ![0, 1] bcast_S16x1_S16x1000_0_1 (shapeCast S16x1 (extractStridedSlice S16x1x1 ![0, 0, 2] R slices_S16x1x4_S16x1x1_0_0_2) shapeCasts_S16x1x1_S16x1)) (shapeCast S16x1000 (extractStridedSlice S16x1000x1 ![0, 0, 2] X slices_S16x1000x4_S16x1000x1_0_0_2) shapeCasts_S16x1000x1_S16x1000)) (maximumf (broadcastInDim S16x1000 ![0, 1] bcast_S16x1_S16x1000_0_1 (shapeCast S16x1 (extractStridedSlice S16x1x1 ![0, 0, 0] R slices_S16x1x4_S16x1x1_0_0_0) shapeCasts_S16x1x1_S16x1)) (shapeCast S16x1000 (extractStridedSlice S16x1000x1 ![0, 0, 0] X slices_S16x1000x4_S16x1000x1_0_0_0) shapeCasts_S16x1000x1_S16x1000))) (broadcastInDim S16x1000 ![] bcast_S_S16x1000 (constant S_ .f32 0x00000000#32))) (maximumf (subf (minimumf (broadcastInDim S16x1000 ![0, 1] bcast_S16x1_S16x1000_0_1 (shapeCast S16x1 (extractStridedSlice S16x1x1 ![0, 0, 3] R slices_S16x1x4_S16x1x1_0_0_3) shapeCasts_S16x1x1_S16x1)) (shapeCast S16x1000 (extractStridedSlice S16x1000x1 ![0, 0, 3] X slices_S16x1000x4_S16x1000x1_0_0_3) shapeCasts_S16x1000x1_S16x1000)) (maximumf (broadcastInDim S16x1000 ![0, 1] bcast_S16x1_S16x1000_0_1 (shapeCast S16x1 (extractStridedSlice S16x1x1 ![0, 0, 1] R slices_S16x1x4_S16x1x1_0_0_1) shapeCasts_S16x1x1_S16x1)) (shapeCast S16x1000 (extractStridedSlice S16x1000x1 ![0, 0, 1] X slices_S16x1000x4_S16x1000x1_0_0_1) shapeCasts_S16x1000x1_S16x1000))) (broadcastInDim S16x1000 ![] bcast_S_S16x1000 (constant S_ .f32 0x00000000#32)))

/-- The flags after one round. -/
def stepF (X : FVec Ideal S16x1000x4 .f32) (R : FVec Ideal S16x1x4 .f32) (J : FVec Ideal S16x1000 .f32) (cc : IVec S_ 32) (K : IVec S16x1000 1) (D : IVec S16x1 1) : IVec S16x1000 1 :=
  id (andi K (noti (andi (andi (cmpf .ogt (Host.divf J (addf (subf (addf (broadcastInDim S16x1000 ![0, 1] bcast_S16x1_S16x1000_0_1 (mulf (maximumf (subf (shapeCast S16x1 (extractStridedSlice S16x1x1 ![0, 0, 2] R slices_S16x1x4_S16x1x1_0_0_2) shapeCasts_S16x1x1_S16x1) (shapeCast S16x1 (extractStridedSlice S16x1x1 ![0, 0, 0] R slices_S16x1x4_S16x1x1_0_0_0) shapeCasts_S16x1x1_S16x1)) (broadcastInDim S16x1 ![] bcast_S_S16x1 (constant S_ .f32 0x00000000#32))) (maximumf (subf (shapeCast S16x1 (extractStridedSlice S16x1x1 ![0, 0, 3] R slices_S16x1x4_S16x1x1_0_0_3) shapeCasts_S16x1x1_S16x1) (shapeCast S16x1 (extractStridedSlice S16x1x1 ![0, 0, 1] R slices_S16x1x4_S16x1x1_0_0_1) shapeCasts_S16x1x1_S16x1)) (broadcastInDim S16x1 ![] bcast_S_S16x1 (constant S_ .f32 0x00000000#32))))) (mulf (maximumf (subf (shapeCast S16x1000 (extractStridedSlice S16x1000x1 ![0, 0, 2] X slices_S16x1000x4_S16x1000x1_0_0_2) shapeCasts_S16x1000x1_S16x1000) (shapeCast S16x1000 (extractStridedSlice S16x1000x1 ![0, 0, 0] X slices_S16x1000x4_S16x1000x1_0_0_0) shapeCasts_S16x1000x1_S16x1000)) (broadcastInDim S16x1000 ![] bcast_S_S16x1000 (constant S_ .f32 0x00000000#32))) (maximumf (subf (shapeCast S16x1000 (extractStridedSlice S16x1000x1 ![0, 0, 3] X slices_S16x1000x4_S16x1000x1_0_0_3) shapeCasts_S16x1000x1_S16x1000) (shapeCast S16x1000 (extractStridedSlice S16x1000x1 ![0, 0, 1] X slices_S16x1000x4_S16x1000x1_0_0_1) shapeCasts_S16x1000x1_S16x1000)) (broadcastInDim S16x1000 ![] bcast_S_S16x1000 (constant S_ .f32 0x00000000#32))))) J) (broadcastInDim S16x1000 ![] bcast_S_S16x1000 (constant S_ .f32 0x322BCC77#32)))) (broadcastInDim S16x1000 ![] bcast_S_S16x1000 (constant S_ .f32 0x3F4CCCCD#32))) (broadcastInDim S16x1000 ![0, 1] bcast_S1x1000_S16x1000_0_1 (broadcastInDim S1x1000 ![1] bcast_S1000_S1x1000_1 (cmpi .sgt (iotaInDim S1000 32 0) (broadcastInDim S1000 ![] bcast_S_S1000 (id cc)))))) (broadcastInDim S16x1000 ![0, 1] bcast_S16x1_S16x1000_0_1 D))))

/-- The row of the boxes a round compares with. -/
def rowF (X : FVec Ideal S16x1000x4 .f32) (cc : IVec S_ 32) : FVec Ideal S16x1x4 .f32 :=
  Host.dynamicSlice S16x1x4 X (fun k => (((![constantI S_ 32 0#32, select (cmpi .slt cc (constantI S_ 32 0#32)) (addi (id cc) (constantI S_ 32 1000#32)) cc, constantI S_ 32 0#32] : Fin 3 → (⟨S_, .i32⟩ : BufTy).Contents (Elt Ideal))) k (Shape.Idx.first h_S_)).toInt) sliceFits_S16x1000x4_S16x1x4

/-- The flag of that row. -/
def flagF (K : IVec S16x1000 1) (cc : IVec S_ 32) : IVec S16x1 1 :=
  (Host.dynamicSlice S16x1 K (fun k => (((![constantI S_ 32 0#32, select (cmpi .slt cc (constantI S_ 32 0#32)) (addi (id cc) (constantI S_ 32 1000#32)) cc] : Fin 2 → (⟨S_, .i32⟩ : BufTy).Contents (Elt Ideal))) k (Shape.Idx.first h_S_)).toInt) sliceFits_S16x1000_S16x1)

theorem step_eq (V0 : Valuation τ sig (Elt Ideal)) :
    step_main_v74_3 V0 = stepF (V0 (Proc.devRef .tc main_v74_0)) (rowF (V0 (Proc.devRef .tc main_v74_0)) (V0 (Proc.devRef .tc main_v74_2)))
      (interF (V0 (Proc.devRef .tc main_v74_0)) (rowF (V0 (Proc.devRef .tc main_v74_0)) (V0 (Proc.devRef .tc main_v74_2))))
      (V0 (Proc.devRef .tc main_v74_2)) (V0 (Proc.devRef .tc main_v74_3)) (flagF (V0 (Proc.devRef .tc main_v74_3)) (V0 (Proc.devRef .tc main_v74_2))) := rfl

theorem word_nat (t : ℕ) (ht : t < 1000) : (BitVec.ofNat 32 t).toInt = (t : ℤ) := by
  rw [BitVec.toInt_eq_toNat_of_lt] <;> simp only [BitVec.toNat_ofNat] <;> omega

theorem word_fix (t n : ℕ) (ht : t < 10000) : Scalar.select (IntOp.cmpi .slt (BitVec.ofNat 32 t) 0#32) (IntOp.addi (BitVec.ofNat 32 t) (BitVec.ofNat 32 n)) (BitVec.ofNat 32 t) = BitVec.ofNat 32 t := by
  have h : (BitVec.ofNat 32 t).slt 0#32 = false := by
    rw [BitVec.slt_eq_decide, BitVec.toInt_eq_toNat_of_lt (by rw [BitVec.toNat_ofNat]; omega), BitVec.toNat_ofNat]
    simp; omega
  simp [IntOp.cmpi, h, Scalar.select]

theorem row_at (X : FVec Ideal S16x1000x4 .f32) (t : ℕ) (ht : t < 1000) (b : Fin 16) (ch : Fin 4) :
    rowF X (fun _ => BitVec.ofNat 32 t) (ix3 b 0 ch) = X (ix3 b ⟨t, ht⟩ ch) := by
  unfold rowF
  rw [Host.dynamicSlice_apply]
  refine congrArg X (funext fun a => Fin.ext ?_)
  have h := word_fix t 1000 (by omega)
  have hb := b.isLt
  have hc := ch.isLt
  fin_cases a
  · show (min (max ((0#32 : BitVec 32).toInt) 0) 0).toNat + b.val = b.val
    simp
  · show (min (max ((Scalar.select (IntOp.cmpi .slt (BitVec.ofNat 32 t) 0#32) (IntOp.addi (BitVec.ofNat 32 t) (BitVec.ofNat 32 1000)) (BitVec.ofNat 32 t)).toInt) 0) 999).toNat + 0 = t
    rw [h, word_nat t ht]; omega
  · show (min (max ((0#32 : BitVec 32).toInt) 0) 0).toNat + ch.val = ch.val
    simp

theorem flag_at (K : IVec S16x1000 1) (t : ℕ) (ht : t < 1000) (b : Fin 16) :
    flagF K (fun _ => BitVec.ofNat 32 t) (ix2 b 0) = K (ix2 b ⟨t, ht⟩) := by
  unfold flagF
  rw [Host.dynamicSlice_apply]
  refine congrArg K (funext fun a => Fin.ext ?_)
  have h := word_fix t 1000 (by omega)
  have hb := b.isLt
  fin_cases a
  · show (min (max ((0#32 : BitVec 32).toInt) 0) 0).toNat + b.val = b.val
    simp
  · show (min (max ((Scalar.select (IntOp.cmpi .slt (BitVec.ofNat 32 t) 0#32) (IntOp.addi (BitVec.ofNat 32 t) (BitVec.ofNat 32 1000)) (BitVec.ofNat 32 t)).toInt) 0) 999).toNat + 0 = t
    rw [h, word_nat t ht]; omega

theorem inter_at (X : FVec Ideal S16x1000x4 .f32) (R : FVec Ideal S16x1x4 .f32) (b : Fin 16) (r : Fin 1000) :
    interF X R (ix2 b r) = max (min (R (ix3 b 0 2)) (X (ix3 b r 2)) - max (R (ix3 b 0 0)) (X (ix3 b r 0))) 0
      * max (min (R (ix3 b 0 3)) (X (ix3 b r 3)) - max (R (ix3 b 0 1)) (X (ix3 b r 1))) 0 := by
  pointwise [interF]
  try rfl

theorem stepF_at (X : FVec Ideal S16x1000x4 .f32) (R : FVec Ideal S16x1x4 .f32) (J : FVec Ideal S16x1000 .f32) (w : BitVec 32) (K : IVec S16x1000 1) (D : IVec S16x1 1) (b : Fin 16) (r : Fin 1000) :
    stepF X R J (fun _ => w) K D (ix2 b r) = IntOp.andi (K (ix2 b r)) (~~~ IntOp.andi (IntOp.andi (BitVec.ofBool (decide (Ideal.ofBits .f32 0x3F4CCCCD#32 <
        Ideal.div (J (ix2 b r)) (areaOf (R (ix3 b 0 0)) (R (ix3 b 0 1)) (R (ix3 b 0 2)) (R (ix3 b 0 3)) + areaOf (X (ix3 b r 0)) (X (ix3 b r 1)) (X (ix3 b r 2)) (X (ix3 b r 3)) - J (ix2 b r)
          + Ideal.ofBits .f32 0x322BCC77#32))))
      (IntOp.cmpi .sgt (BitVec.ofNat 32 r.val) w)) (D (ix2 b 0))) := by
  unfold areaOf
  rw [stepF, id]
  pointwise
  rfl

theorem word_gt (t r : ℕ) (ht : t < 1000) (hr : r < 1000) : IntOp.cmpi .sgt (BitVec.ofNat 32 r) (BitVec.ofNat 32 t) = BitVec.ofBool (decide (t < r)) := by
  simp only [IntOp.cmpi]
  rw [BitVec.slt_eq_decide, word_nat t ht, word_nat r hr]
  simp

theorem word_step (k a b c : Bool) : IntOp.andi (BitVec.ofBool k) (~~~ IntOp.andi (IntOp.andi (BitVec.ofBool a) (BitVec.ofBool b)) (BitVec.ofBool c)) = BitVec.ofBool (k && !(a && b && c)) := by
  cases k <;> cases a <;> cases b <;> cases c <;> decide

/-- One round on the flags. -/
theorem round_at (X : FVec Ideal S16x1000x4 .f32) (K : IVec S16x1000 1) (t : ℕ) (ht : t < 1000) (q : ℕ → Bool) (b : Fin 16) (hK : ∀ r : Fin 1000, K (ix2 b r) = BitVec.ofBool (q r)) (r : Fin 1000) :
    stepF X (rowF X (fun _ => BitVec.ofNat 32 t)) (interF X (rowF X (fun _ => BitVec.ofNat 32 t))) (fun _ => BitVec.ofNat 32 t) K (flagF K (fun _ => BitVec.ofNat 32 t)) (ix2 b r)
      = BitVec.ofBool (q r && !(supOf (tab X) b t r && decide (t < r.val) && q t)) := by
  rw [stepF_at, inter_at, flag_at K t ht, row_at X t ht, row_at X t ht, row_at X t ht, row_at X t ht, hK r, hK ⟨t, ht⟩, word_gt t r ht r.isLt, word_step]
  have e1 : (⟨t % 1000, Nat.mod_lt _ (by decide)⟩ : Fin 1000) = ⟨t, ht⟩ := Fin.ext (Nat.mod_eq_of_lt ht)
  have e2 : (⟨r.val % 1000, Nat.mod_lt _ (by decide)⟩ : Fin 1000) = r := Fin.ext (Nat.mod_eq_of_lt r.isLt)
  unfold supOf over iouOf tab
  simp only [e1, e2]

theorem loop_at (V0 : Valuation τ sig (Elt Ideal)) (h2 : V0 (Proc.devRef .tc main_v74_2) = fun _ => BitVec.ofNat 32 0) (h3 : V0 (Proc.devRef .tc main_v74_3) = fun _ => 1#1) :
    ∀ t : ℕ, t ≤ 1000 → (STEP^[t] V0) (Proc.devRef .tc main_v74_0) = V0 (Proc.devRef .tc main_v74_0)
      ∧ (STEP^[t] V0) (Proc.devRef .tc main_v74_2) = (fun _ => BitVec.ofNat 32 t)
      ∧ ∀ (b : Fin 16) (r : Fin 1000), (show IVec S16x1000 1 from (STEP^[t] V0) (Proc.devRef .tc main_v74_3)) (ix2 b r) = BitVec.ofBool (kp (supOf (tab (V0 (Proc.devRef .tc main_v74_0))) b) t r)
  | 0, _ => ⟨rfl, h2, fun b r => by rw [Function.iterate_zero, id, h3]; rfl⟩
  | t + 1, ht => by
    obtain ⟨i0, i2, i3⟩ := loop_at V0 h2 h3 t (by omega)
    rw [Function.iterate_succ_apply']
    refine ⟨(STEP_main_v74_0 _).trans i0, ?_, fun b r => ?_⟩
    · rw [STEP_main_v74_2]
      show addi ((STEP^[t] V0) (Proc.devRef .tc main_v74_2)) (constantI S_ 32 1#32) = _
      rw [i2]
      funext x
      show BitVec.ofNat 32 t + 1#32 = _
      rw [BitVec.ofNat_add]
    · rw [STEP_main_v74_3, step_eq, i0, i2]
      exact round_at _ _ t (by omega) _ b (i3 b) r

end Cert.ReferenceIdeal.Val

end
-- ==== Proof.RefOps.lean ====
/- Sorting and taking rows, read at an index. -/
module

public import proofs.«01_k».proof.Proof.RefLoop

@[expose] public section

set_option maxRecDepth 16384
set_option maxHeartbeats 1000000

noncomputable section

namespace Cert.ReferenceIdeal.Val

open Cert.ReferenceIdeal Cert.ReferenceIdeal.Gen Cert.ReferenceIdeal.Value Cert.Pure
open Idealize.ShloMosaic Idealize.ShloMosaic.TcCoe Idealize.ShloMosaic.Tactic Idealize.ShloMosaic.StableHlo

variable {α : Type}

/-- Rows of a batched table, taken by a batched index. -/
abbrev rowDims (B N R C : ℕ)
    (wf : GatherDims.WF ⟨3, ![B, N, C]⟩ ⟨3, ![B, R, 1]⟩ ⟨3, ![B, R, C]⟩ [2] [1] [0] [1] [0] 2 ![1, 1, C]) :
    GatherDims ⟨3, ![B, N, C]⟩ ⟨3, ![B, R, 1]⟩ ⟨3, ![B, R, C]⟩ where
  offsetDims := [2]
  collapsedSliceDims := [1]
  operandBatchingDims := [0]
  startIndicesBatchingDims := [0]
  startIndexMap := [1]
  indexVectorDim := 2
  sliceSizes := ![1, 1, C]
  wf := wf

theorem rows_taken {B N R C w : ℕ} (hN : 0 < N)
    (wf : GatherDims.WF ⟨3, ![B, N, C]⟩ ⟨3, ![B, R, 1]⟩ ⟨3, ![B, R, C]⟩ [2] [1] [0] [1] [0] 2 ![1, 1, C])
    (x : (⟨3, ![B, N, C]⟩ : Shape).Idx → α) (idx : IVec ⟨3, ![B, R, 1]⟩ w) (b : Fin B) (r : Fin R) (c : Fin C) :
    Host.gather (rowDims B N R C wf) x idx (ix3 b r c) = x (ix3 b ⟨min (idx (ix3 b r 0)).toInt.toNat (N - 1), by omega⟩ c) := by
  refine congrArg x (funext fun a => Fin.ext ?_)
  show (rowDims B N R C wf).start (ix3 b r c) idx a + (rowDims B N R C wf).batchCoord (ix3 b r c) a + (rowDims B N R C wf).offCoord (ix3 b r c) a = _
  match a with
  | ⟨0, _⟩ =>
    have h0 : (⟨0, by decide⟩ : Fin 3) ∈ (rowDims B N R C wf).operandBatchingDims := List.mem_singleton.mpr rfl
    rw [GatherDims.start_batching _ _ _ _ h0,
      GatherDims.offCoord_eq_zero _ _ _ (fun h => ((GatherDims.mem_sKept _ _).mp h).2 h0)]
    simp only [Nat.zero_add, Nat.add_zero]
    unfold GatherDims.batchCoord
    rw [dif_pos h0]
    rfl
  | ⟨1, _⟩ =>
    have h1 : (⟨1, by decide⟩ : Fin 3) ∈ (rowDims B N R C wf).collapsedSliceDims := List.mem_singleton.mpr rfl
    have h2 : (⟨1, by decide⟩ : Fin 3) ∈ (rowDims B N R C wf).startIndexMap := List.mem_singleton.mpr rfl
    rw [GatherDims.batchCoord_eq_zero _ _ _ (fun h => by simp at h),
      GatherDims.offCoord_eq_zero _ _ _ (fun h => ((GatherDims.mem_sKept _ _).mp h).1 h1)]
    simp only [Nat.add_zero]
    unfold GatherDims.start
    rw [dif_pos h2]
    have hsi : (rowDims B N R C wf).siIdx (ix3 b r c) ⟨List.idxOf (⟨1, by decide⟩ : Fin 3) (rowDims B N R C wf).startIndexMap,
        List.idxOf_lt_length_iff.2 h2⟩ = ix3 b r 0 := by
      funext q
      refine Fin.ext ?_
      match q with
      | ⟨0, _⟩ => rfl
      | ⟨1, _⟩ => rfl
      | ⟨2, _⟩ => rfl
    rw [hsi]
    rfl
  | ⟨2, _⟩ =>
    have hb : ¬ (⟨2, by decide⟩ : Fin 3) ∈ (rowDims B N R C wf).operandBatchingDims := fun h => by simp at h
    have hs : ¬ (⟨2, by decide⟩ : Fin 3) ∈ (rowDims B N R C wf).startIndexMap := fun h => by simp at h
    have hk : (⟨2, by decide⟩ : Fin 3) ∈ (rowDims B N R C wf).sKept := (GatherDims.mem_sKept _ _).mpr ⟨fun h => by simp at h, hb⟩
    rw [GatherDims.batchCoord_eq_zero _ _ _ hb]
    unfold GatherDims.start GatherDims.offCoord
    rw [dif_neg hs, dif_pos hk]
    simp only [Nat.zero_add]
    rfl

/-- Entries of a batched row, taken by a batched index. -/
abbrev entryDims (B N R : ℕ)
    (wf : GatherDims.WF ⟨2, ![B, N]⟩ ⟨3, ![B, R, 1]⟩ ⟨2, ![B, R]⟩ [] [1] [0] [1] [0] 2 ![1, 1]) :
    GatherDims ⟨2, ![B, N]⟩ ⟨3, ![B, R, 1]⟩ ⟨2, ![B, R]⟩ where
  offsetDims := []
  collapsedSliceDims := [1]
  operandBatchingDims := [0]
  startIndicesBatchingDims := [0]
  startIndexMap := [1]
  indexVectorDim := 2
  sliceSizes := ![1, 1]
  wf := wf

theorem entries_taken {B N R w : ℕ} (hN : 0 < N)
    (wf : GatherDims.WF ⟨2, ![B, N]⟩ ⟨3, ![B, R, 1]⟩ ⟨2, ![B, R]⟩ [] [1] [0] [1] [0] 2 ![1, 1])
    (x : (⟨2, ![B, N]⟩ : Shape).Idx → α) (idx : IVec ⟨3, ![B, R, 1]⟩ w) (b : Fin B) (r : Fin R) :
    Host.gather (entryDims B N R wf) x idx (ix2 b r) = x (ix2 b ⟨min (idx (ix3 b r 0)).toInt.toNat (N - 1), by omega⟩) := by
  refine congrArg x (funext fun a => Fin.ext ?_)
  show (entryDims B N R wf).start (ix2 b r) idx a + (entryDims B N R wf).batchCoord (ix2 b r) a + (entryDims B N R wf).offCoord (ix2 b r) a = _
  match a with
  | ⟨0, _⟩ =>
    have h0 : (⟨0, by decide⟩ : Fin 2) ∈ (entryDims B N R wf).operandBatchingDims := List.mem_singleton.mpr rfl
    rw [GatherDims.start_batching _ _ _ _ h0,
      GatherDims.offCoord_eq_zero _ _ _ (fun h => ((GatherDims.mem_sKept _ _).mp h).2 h0)]
    simp only [Nat.zero_add, Nat.add_zero]
    unfold GatherDims.batchCoord
    rw [dif_pos h0]
    rfl
  | ⟨1, _⟩ =>
    have h1 : (⟨1, by decide⟩ : Fin 2) ∈ (entryDims B N R wf).collapsedSliceDims := List.mem_singleton.mpr rfl
    have h2 : (⟨1, by decide⟩ : Fin 2) ∈ (entryDims B N R wf).startIndexMap := List.mem_singleton.mpr rfl
    rw [GatherDims.batchCoord_eq_zero _ _ _ (fun h => by simp at h),
      GatherDims.offCoord_eq_zero _ _ _ (fun h => ((GatherDims.mem_sKept _ _).mp h).1 h1)]
    simp only [Nat.add_zero]
    unfold GatherDims.start
    rw [dif_pos h2]
    have hsi : (entryDims B N R wf).siIdx (ix2 b r) ⟨List.idxOf (⟨1, by decide⟩ : Fin 2) (entryDims B N R wf).startIndexMap,
        List.idxOf_lt_length_iff.2 h2⟩ = ix3 b r 0 := by
      funext q
      refine Fin.ext ?_
      match q with
      | ⟨0, _⟩ => rfl
      | ⟨1, _⟩ => rfl
      | ⟨2, _⟩ => rfl
    rw [hsi]
    rfl

theorem along_1 {B N : ℕ} (b : Fin B) (j k : Fin N) : Shape.Idx.along (s := ⟨2, ![B, N]⟩) (ix2 b j) ⟨1, Nat.one_lt_two⟩ k = ix2 b k := by
  funext a
  match a with
  | ⟨0, _⟩ => exact Function.update_of_ne (by simp) _ _
  | ⟨1, _⟩ => exact Function.update_self _ _ _

theorem ofBool_beq (p : Bool) : (BitVec.ofBool p == 1#1) = p := by cases p <;> decide

theorem sort_at {B N : ℕ} {β : Type} (cmp : EReal × β → EReal × β → BitVec 1) (x : (⟨2, ![B, N]⟩ : Shape).Idx → EReal) (y : (⟨2, ![B, N]⟩ : Shape).Idx → β)
    (s : Fin B → Fin N → EReal) (hc : ∀ b k k', cmp (x (ix2 b k), y (ix2 b k)) (x (ix2 b k'), y (ix2 b k')) = BitVec.ofBool (decide (s b k' < s b k))) (b : Fin B) (j : Fin N) :
    (Host.sort2 ⟨2, ![B, N]⟩ 1 cmp x y).1 (ix2 b j) = x (ix2 b (sortedFrom (bef (s b)) j))
      ∧ (Host.sort2 ⟨2, ![B, N]⟩ 1 cmp x y).2 (ix2 b j) = y (ix2 b (sortedFrom (bef (s b)) j)) := by
  have hπ : sortedFrom (fun k k' => cmp (x (Shape.Idx.along (s := ⟨2, ![B, N]⟩) (ix2 b j) ⟨1, Nat.one_lt_two⟩ k), y (Shape.Idx.along (s := ⟨2, ![B, N]⟩) (ix2 b j) ⟨1, Nat.one_lt_two⟩ k))
      (x (Shape.Idx.along (s := ⟨2, ![B, N]⟩) (ix2 b j) ⟨1, Nat.one_lt_two⟩ k'), y (Shape.Idx.along (s := ⟨2, ![B, N]⟩) (ix2 b j) ⟨1, Nat.one_lt_two⟩ k')) == 1#1) = sortedFrom (bef (s b)) := by
    refine sortedFrom_tie (s b) _ fun k k' => ?_
    have e1 := along_1 b j k
    have e2 := along_1 b j k'
    rw [e1, e2, hc, ofBool_beq, decide_eq_true_iff]
  constructor
  · show x (Shape.Idx.along (s := ⟨2, ![B, N]⟩) (ix2 b j) ⟨1, Nat.one_lt_two⟩ (sortedFrom _ j)) = _
    exact congrArg x ((congrArg (fun f => Shape.Idx.along (s := ⟨2, ![B, N]⟩) (ix2 b j) ⟨1, Nat.one_lt_two⟩ (f j)) hπ).trans (along_1 b j _))
  · show y (Shape.Idx.along (s := ⟨2, ![B, N]⟩) (ix2 b j) ⟨1, Nat.one_lt_two⟩ (sortedFrom _ j)) = _
    exact congrArg y ((congrArg (fun f => Shape.Idx.along (s := ⟨2, ![B, N]⟩) (ix2 b j) ⟨1, Nat.one_lt_two⟩ (f j)) hπ).trans (along_1 b j _))

theorem top_at {B N k : ℕ} (hk : k ≤ N) (x : FVec Ideal (⟨2, ![B, N]⟩ : Shape) .f32) (h : (⟨2, ![B, N]⟩ : Shape).Slices (fun _ => 0) ⟨2, ![B, k]⟩) (b : Fin B) (j : Fin k) :
    (Host.topK ⟨2, ![B, k]⟩ 1 (FloatOps.cmpfTotal .gt) x h).1 (ix2 b j) = x (ix2 b (sortedFrom (bef fun i => x (ix2 b i)) (j.castLE hk)))
      ∧ (Host.topK ⟨2, ![B, k]⟩ 1 (FloatOps.cmpfTotal .gt) x h).2 (ix2 b j) = BitVec.ofNat 32 (sortedFrom (bef fun i => x (ix2 b i)) (j.castLE hk)).val := by
  have hs := sort_at (B := B) (N := N) (fun l r : EReal × BitVec 32 => FloatOps.cmpfTotal (F := Ideal) (φ := .f32) .gt l.1 r.1) x (iotaInDim ⟨2, ![B, N]⟩ 32 ⟨1, Nat.one_lt_two⟩)
    (fun b i => x (ix2 b i)) (fun b k k' => rfl) b (j.castLE hk)
  have hi : (fun i : (⟨2, ![B, N]⟩ : Shape).Idx => if hd : 1 < (⟨2, ![B, N]⟩ : Shape).rank then iotaInDim ⟨2, ![B, N]⟩ 32 ⟨1, hd⟩ i else 0#32) = iotaInDim ⟨2, ![B, N]⟩ 32 ⟨1, Nat.one_lt_two⟩ := by
    funext i
    rw [dif_pos]
  have e : ∀ {γ : Type} (z : (⟨2, ![B, N]⟩ : Shape).Idx → γ), extractStridedSlice (⟨2, ![B, k]⟩ : Shape) (fun _ => 0) z h (ix2 b j) = z (ix2 b (j.castLE hk)) := by
    intro γ z
    refine congrArg z (funext fun a => ?_)
    match a with
    | ⟨0, _⟩ => exact Fin.ext (Nat.zero_add _)
    | ⟨1, _⟩ => exact Fin.ext (Nat.zero_add _)
  unfold Host.topK
  dsimp only
  rw [e, e, hi]
  exact ⟨hs.1, hs.2.trans rfl⟩

theorem canon_at (x : EReal) (y : EReal) : Scalar.select (FloatOps.cmpf (F := Ideal) (φ := .f32) .une x x) y (Scalar.select (FloatOps.cmpf (F := Ideal) (φ := .f32) .oeq x (FloatOps.ofBits (F := Ideal) .f32 0x00000000#32)) (FloatOps.ofBits (F := Ideal) .f32 0x00000000#32) x) = x := by
  have h1 : FloatOps.cmpf (F := Ideal) (φ := .f32) .une x x = 0#1 := by
    show BitVec.ofBool (decide (x ≠ x)) = _
    simp
  have h0 : FloatOps.ofBits (F := Ideal) .f32 0x00000000#32 = (0 : EReal) := Ideal.ofBits_zero_f32
  rw [h1, h0]
  show Scalar.select (BitVec.ofBool (decide (x = 0))) 0 x = x
  by_cases hx : x = 0
  · subst hx; simp [Scalar.select]
  · simp [Scalar.select, hx]

theorem comparator_at (u v : EReal) (i j : BitVec 32) : comparator_f32_i32_d1 (F := Ideal) (-u, i) (-v, j) = BitVec.ofBool (decide (v < u)) := by
  unfold comparator_f32_i32_d1
  dsimp only
  rw [canon_at, canon_at]
  show BitVec.ofBool (decide (-u < -v)) = _
  simp only [EReal.neg_lt_neg_iff]

theorem negf_at {s : Shape} (v : FVec Ideal s .f32) (i : s.Idx) : Host.negf v i = (-(v i) : EReal) := rfl

theorem iota_at {B N : ℕ} (b : Fin B) (j : Fin N) : iotaInDim ⟨2, ![B, N]⟩ 32 ⟨1, Nat.one_lt_two⟩ (ix2 b j) = BitVec.ofNat 32 j.val := rfl

theorem resort_gen {B N : ℕ} (v : FVec Ideal (⟨2, ![B, N]⟩ : Shape) .f32) (b : Fin B) (j : Fin N) :
    (Host.sort2 ⟨2, ![B, N]⟩ 1 comparator_f32_i32_d1 (Host.negf v) (iotaInDim ⟨2, ![B, N]⟩ 32 ⟨1, Nat.one_lt_two⟩)).2 (ix2 b j) = BitVec.ofNat 32 (sortedFrom (bef fun i => v (ix2 b i)) j).val := by
  have hs := sort_at (comparator_f32_i32_d1 (F := Ideal)) (Host.negf v) (iotaInDim ⟨2, ![B, N]⟩ 32 ⟨1, Nat.one_lt_two⟩) (fun b i => v (ix2 b i)) (fun b k k' => by
    rw [negf_at, negf_at]; exact comparator_at (v (ix2 b k)) (v (ix2 b k')) _ _) b j
  rw [hs.2, iota_at]

/-- The reference's second sort: by the negated values, so by the values from the greatest. -/
theorem resort_at (v : FVec Ideal S16x1000 .f32) (b : Fin 16) (j : Fin 1000) :
    (Host.sort2 S16x1000 1 comparator_f32_i32_d1 (Host.negf v) (iotaInDim S16x1000 32 1)).2 (ix2 b j) = BitVec.ofNat 32 (sortedFrom (bef fun i => v (ix2 b i)) j).val :=
  resort_gen v b j

end Cert.ReferenceIdeal.Val

end
-- ==== Proof.RefPre.lean ====
/- What the reference's operations before the loop compute. -/
module

public import proofs.«01_k».proof.Proof.RefOps

@[expose] public section

set_option maxRecDepth 16384
set_option maxHeartbeats 4000000

noncomputable section

namespace Cert.ReferenceIdeal.Val

open Cert.ReferenceIdeal Cert.ReferenceIdeal.Gen Cert.ReferenceIdeal.Value Cert.Pure
open Idealize.ShloMosaic Idealize.ShloMosaic.TcCoe Idealize.ShloMosaic.Tactic Idealize.ShloMosaic.StableHlo
open Cert.KernelIdeal.Run (lowC highC)

variable {F : FTy → Type} [FloatOps F]

/-- The decoding of the boxes. -/
abbrev opsA : List (HloOp τ sig (Elt F)) :=
  [ StableHlo.nullary main_cst (fun i => FloatOps.ofBits .f32 (lit0 (S4.rowMajor i))),
    StableHlo.reshape main_arg0 main_v0 (rfl : (.f32 : EltTy) = .f32) shapeCasts_S16x31x31x36_S16x8649x4,
    StableHlo.reshape main_arg1 main_v1 (rfl : (.f32 : EltTy) = .f32) shapeCasts_S16x31x31x9_S16x8649,
    StableHlo.unary main_cst main_v2 (broadcastInDim S1x1x4 ![2] bcast_S4_S1x1x4_2 : (⟨S4, .f32⟩ : BufTy).Contents (Elt F) → (⟨S1x1x4, .f32⟩ : BufTy).Contents (Elt F)),
    StableHlo.unary main_v2 main_v3 (broadcastInDim S16x8649x4 ![0, 1, 2] bcast_S1x1x4_S16x8649x4_0_1_2 : (⟨S1x1x4, .f32⟩ : BufTy).Contents (Elt F) → (⟨S16x8649x4, .f32⟩ : BufTy).Contents (Elt F)),
    StableHlo.binary main_v0 main_v3 main_v4 (mulf : (⟨S16x8649x4, .f32⟩ : BufTy).Contents (Elt F) → (⟨S16x8649x4, .f32⟩ : BufTy).Contents (Elt F) → (⟨S16x8649x4, .f32⟩ : BufTy).Contents (Elt F)),
    StableHlo.unary main_arg3 main_v5 ((extractStridedSlice S8649x1 ![0, 2] · slices_S8649x4_S8649x1_0_2) : (⟨S8649x4, .f32⟩ : BufTy).Contents (Elt F) → (⟨S8649x1, .f32⟩ : BufTy).Contents (Elt F)),
    StableHlo.reshape main_v5 main_v6 (rfl : (.f32 : EltTy) = .f32) shapeCasts_S8649x1_S8649,
    StableHlo.unary main_arg3 main_v7 ((extractStridedSlice S8649x1 ![0, 0] · slices_S8649x4_S8649x1_0_0) : (⟨S8649x4, .f32⟩ : BufTy).Contents (Elt F) → (⟨S8649x1, .f32⟩ : BufTy).Contents (Elt F)),
    StableHlo.reshape main_v7 main_v8 (rfl : (.f32 : EltTy) = .f32) shapeCasts_S8649x1_S8649,
    StableHlo.binary main_v6 main_v8 main_v9 (subf : (⟨S8649, .f32⟩ : BufTy).Contents (Elt F) → (⟨S8649, .f32⟩ : BufTy).Contents (Elt F) → (⟨S8649, .f32⟩ : BufTy).Contents (Elt F)),
    StableHlo.unary main_arg3 main_v10 ((extractStridedSlice S8649x1 ![0, 3] · slices_S8649x4_S8649x1_0_3) : (⟨S8649x4, .f32⟩ : BufTy).Contents (Elt F) → (⟨S8649x1, .f32⟩ : BufTy).Contents (Elt F)),
    StableHlo.reshape main_v10 main_v11 (rfl : (.f32 : EltTy) = .f32) shapeCasts_S8649x1_S8649,
    StableHlo.unary main_arg3 main_v12 ((extractStridedSlice S8649x1 ![0, 1] · slices_S8649x4_S8649x1_0_1) : (⟨S8649x4, .f32⟩ : BufTy).Contents (Elt F) → (⟨S8649x1, .f32⟩ : BufTy).Contents (Elt F)),
    StableHlo.reshape main_v12 main_v13 (rfl : (.f32 : EltTy) = .f32) shapeCasts_S8649x1_S8649,
    StableHlo.binary main_v11 main_v13 main_v14 (subf : (⟨S8649, .f32⟩ : BufTy).Contents (Elt F) → (⟨S8649, .f32⟩ : BufTy).Contents (Elt F) → (⟨S8649, .f32⟩ : BufTy).Contents (Elt F)),
    StableHlo.unary main_arg3 main_v15 ((extractStridedSlice S8649x1 ![0, 0] · slices_S8649x4_S8649x1_0_0) : (⟨S8649x4, .f32⟩ : BufTy).Contents (Elt F) → (⟨S8649x1, .f32⟩ : BufTy).Contents (Elt F)),
    StableHlo.reshape main_v15 main_v16 (rfl : (.f32 : EltTy) = .f32) shapeCasts_S8649x1_S8649,
    StableHlo.nullary main_cst_0 (constant S_ .f32 0x3F000000#32),
    StableHlo.unary main_cst_0 main_v17 (broadcastInDim S8649 ![] bcast_S_S8649 : (⟨S_, .f32⟩ : BufTy).Contents (Elt F) → (⟨S8649, .f32⟩ : BufTy).Contents (Elt F)),
    StableHlo.binary main_v17 main_v9 main_v18 (mulf : (⟨S8649, .f32⟩ : BufTy).Contents (Elt F) → (⟨S8649, .f32⟩ : BufTy).Contents (Elt F) → (⟨S8649, .f32⟩ : BufTy).Contents (Elt F)),
    StableHlo.binary main_v16 main_v18 main_v19 (addf : (⟨S8649, .f32⟩ : BufTy).Contents (Elt F) → (⟨S8649, .f32⟩ : BufTy).Contents (Elt F) → (⟨S8649, .f32⟩ : BufTy).Contents (Elt F)),
    StableHlo.unary main_arg3 main_v20 ((extractStridedSlice S8649x1 ![0, 1] · slices_S8649x4_S8649x1_0_1) : (⟨S8649x4, .f32⟩ : BufTy).Contents (Elt F) → (⟨S8649x1, .f32⟩ : BufTy).Contents (Elt F)),
    StableHlo.reshape main_v20 main_v21 (rfl : (.f32 : EltTy) = .f32) shapeCasts_S8649x1_S8649,
    StableHlo.nullary main_cst_1 (constant S_ .f32 0x3F000000#32),
    StableHlo.unary main_cst_1 main_v22 (broadcastInDim S8649 ![] bcast_S_S8649 : (⟨S_, .f32⟩ : BufTy).Contents (Elt F) → (⟨S8649, .f32⟩ : BufTy).Contents (Elt F)),
    StableHlo.binary main_v22 main_v14 main_v23 (mulf : (⟨S8649, .f32⟩ : BufTy).Contents (Elt F) → (⟨S8649, .f32⟩ : BufTy).Contents (Elt F) → (⟨S8649, .f32⟩ : BufTy).Contents (Elt F)),
    StableHlo.binary main_v21 main_v23 main_v24 (addf : (⟨S8649, .f32⟩ : BufTy).Contents (Elt F) → (⟨S8649, .f32⟩ : BufTy).Contents (Elt F) → (⟨S8649, .f32⟩ : BufTy).Contents (Elt F)),
    StableHlo.unary main_v4 main_v25 ((extractStridedSlice S16x8649x1 ![0, 0, 2] · slices_S16x8649x4_S16x8649x1_0_0_2) : (⟨S16x8649x4, .f32⟩ : BufTy).Contents (Elt F) → (⟨S16x8649x1, .f32⟩ : BufTy).Contents (Elt F)),
    StableHlo.reshape main_v25 main_v26 (rfl : (.f32 : EltTy) = .f32) shapeCasts_S16x8649x1_S16x8649,
    StableHlo.unary main_v26 main_v27 (Host.exp : (⟨S16x8649, .f32⟩ : BufTy).Contents (Elt F) → (⟨S16x8649, .f32⟩ : BufTy).Contents (Elt F)),
    StableHlo.unary main_v9 main_v28 (broadcastInDim S1x8649 ![1] bcast_S8649_S1x8649_1 : (⟨S8649, .f32⟩ : BufTy).Contents (Elt F) → (⟨S1x8649, .f32⟩ : BufTy).Contents (Elt F)),
    StableHlo.unary main_v28 main_v29 (broadcastInDim S16x8649 ![0, 1] bcast_S1x8649_S16x8649_0_1 : (⟨S1x8649, .f32⟩ : BufTy).Contents (Elt F) → (⟨S16x8649, .f32⟩ : BufTy).Contents (Elt F)),
    StableHlo.binary main_v27 main_v29 main_v30 (mulf : (⟨S16x8649, .f32⟩ : BufTy).Contents (Elt F) → (⟨S16x8649, .f32⟩ : BufTy).Contents (Elt F) → (⟨S16x8649, .f32⟩ : BufTy).Contents (Elt F)),
    StableHlo.unary main_v4 main_v31 ((extractStridedSlice S16x8649x1 ![0, 0, 3] · slices_S16x8649x4_S16x8649x1_0_0_3) : (⟨S16x8649x4, .f32⟩ : BufTy).Contents (Elt F) → (⟨S16x8649x1, .f32⟩ : BufTy).Contents (Elt F)),
    StableHlo.reshape main_v31 main_v32 (rfl : (.f32 : EltTy) = .f32) shapeCasts_S16x8649x1_S16x8649,
    StableHlo.unary main_v32 main_v33 (Host.exp : (⟨S16x8649, .f32⟩ : BufTy).Contents (Elt F) → (⟨S16x8649, .f32⟩ : BufTy).Contents (Elt F)),
    StableHlo.unary main_v14 main_v34 (broadcastInDim S1x8649 ![1] bcast_S8649_S1x8649_1 : (⟨S8649, .f32⟩ : BufTy).Contents (Elt F) → (⟨S1x8649, .f32⟩ : BufTy).Contents (Elt F)),
    StableHlo.unary main_v34 main_v35 (broadcastInDim S16x8649 ![0, 1] bcast_S1x8649_S16x8649_0_1 : (⟨S1x8649, .f32⟩ : BufTy).Contents (Elt F) → (⟨S16x8649, .f32⟩ : BufTy).Contents (Elt F)),
    StableHlo.binary main_v33 main_v35 main_v36 (mulf : (⟨S16x8649, .f32⟩ : BufTy).Contents (Elt F) → (⟨S16x8649, .f32⟩ : BufTy).Contents (Elt F) → (⟨S16x8649, .f32⟩ : BufTy).Contents (Elt F)),
    StableHlo.unary main_v4 main_v37 ((extractStridedSlice S16x8649x1 ![0, 0, 0] · slices_S16x8649x4_S16x8649x1_0_0_0) : (⟨S16x8649x4, .f32⟩ : BufTy).Contents (Elt F) → (⟨S16x8649x1, .f32⟩ : BufTy).Contents (Elt F)),
    StableHlo.reshape main_v37 main_v38 (rfl : (.f32 : EltTy) = .f32) shapeCasts_S16x8649x1_S16x8649,
    StableHlo.unary main_v9 main_v39 (broadcastInDim S1x8649 ![1] bcast_S8649_S1x8649_1 : (⟨S8649, .f32⟩ : BufTy).Contents (Elt F) → (⟨S1x8649, .f32⟩ : BufTy).Contents (Elt F)),
    StableHlo.unary main_v39 main_v40 (broadcastInDim S16x8649 ![0, 1] bcast_S1x8649_S16x8649_0_1 : (⟨S1x8649, .f32⟩ : BufTy).Contents (Elt F) → (⟨S16x8649, .f32⟩ : BufTy).Contents (Elt F)),
    StableHlo.binary main_v38 main_v40 main_v41 (mulf : (⟨S16x8649, .f32⟩ : BufTy).Contents (Elt F) → (⟨S16x8649, .f32⟩ : BufTy).Contents (Elt F) → (⟨S16x8649, .f32⟩ : BufTy).Contents (Elt F)),
    StableHlo.unary main_v19 main_v42 (broadcastInDim S1x8649 ![1] bcast_S8649_S1x8649_1 : (⟨S8649, .f32⟩ : BufTy).Contents (Elt F) → (⟨S1x8649, .f32⟩ : BufTy).Contents (Elt F)),
    StableHlo.unary main_v42 main_v43 (broadcastInDim S16x8649 ![0, 1] bcast_S1x8649_S16x8649_0_1 : (⟨S1x8649, .f32⟩ : BufTy).Contents (Elt F) → (⟨S16x8649, .f32⟩ : BufTy).Contents (Elt F)),
    StableHlo.binary main_v41 main_v43 main_v44 (addf : (⟨S16x8649, .f32⟩ : BufTy).Contents (Elt F) → (⟨S16x8649, .f32⟩ : BufTy).Contents (Elt F) → (⟨S16x8649, .f32⟩ : BufTy).Contents (Elt F)),
    StableHlo.unary main_v4 main_v45 ((extractStridedSlice S16x8649x1 ![0, 0, 1] · slices_S16x8649x4_S16x8649x1_0_0_1) : (⟨S16x8649x4, .f32⟩ : BufTy).Contents (Elt F) → (⟨S16x8649x1, .f32⟩ : BufTy).Contents (Elt F)),
    StableHlo.reshape main_v45 main_v46 (rfl : (.f32 : EltTy) = .f32) shapeCasts_S16x8649x1_S16x8649,
    StableHlo.unary main_v14 main_v47 (broadcastInDim S1x8649 ![1] bcast_S8649_S1x8649_1 : (⟨S8649, .f32⟩ : BufTy).Contents (Elt F) → (⟨S1x8649, .f32⟩ : BufTy).Contents (Elt F)),
    StableHlo.unary main_v47 main_v48 (broadcastInDim S16x8649 ![0, 1] bcast_S1x8649_S16x8649_0_1 : (⟨S1x8649, .f32⟩ : BufTy).Contents (Elt F) → (⟨S16x8649, .f32⟩ : BufTy).Contents (Elt F)),
    StableHlo.binary main_v46 main_v48 main_v49 (mulf : (⟨S16x8649, .f32⟩ : BufTy).Contents (Elt F) → (⟨S16x8649, .f32⟩ : BufTy).Contents (Elt F) → (⟨S16x8649, .f32⟩ : BufTy).Contents (Elt F)),
    StableHlo.unary main_v24 main_v50 (broadcastInDim S1x8649 ![1] bcast_S8649_S1x8649_1 : (⟨S8649, .f32⟩ : BufTy).Contents (Elt F) → (⟨S1x8649, .f32⟩ : BufTy).Contents (Elt F)),
    StableHlo.unary main_v50 main_v51 (broadcastInDim S16x8649 ![0, 1] bcast_S1x8649_S16x8649_0_1 : (⟨S1x8649, .f32⟩ : BufTy).Contents (Elt F) → (⟨S16x8649, .f32⟩ : BufTy).Contents (Elt F)),
    StableHlo.binary main_v49 main_v51 main_v52 (addf : (⟨S16x8649, .f32⟩ : BufTy).Contents (Elt F) → (⟨S16x8649, .f32⟩ : BufTy).Contents (Elt F) → (⟨S16x8649, .f32⟩ : BufTy).Contents (Elt F)),
    StableHlo.nullary main_cst_2 (constant S_ .f32 0x3F000000#32),
    StableHlo.unary main_cst_2 main_v53 (broadcastInDim S16x8649 ![] bcast_S_S16x8649 : (⟨S_, .f32⟩ : BufTy).Contents (Elt F) → (⟨S16x8649, .f32⟩ : BufTy).Contents (Elt F)),
    StableHlo.binary main_v53 main_v30 main_v54 (mulf : (⟨S16x8649, .f32⟩ : BufTy).Contents (Elt F) → (⟨S16x8649, .f32⟩ : BufTy).Contents (Elt F) → (⟨S16x8649, .f32⟩ : BufTy).Contents (Elt F)),
    StableHlo.binary main_v44 main_v54 main_v55 (subf : (⟨S16x8649, .f32⟩ : BufTy).Contents (Elt F) → (⟨S16x8649, .f32⟩ : BufTy).Contents (Elt F) → (⟨S16x8649, .f32⟩ : BufTy).Contents (Elt F)),
    StableHlo.nullary main_cst_3 (constant S_ .f32 0x3F000000#32),
    StableHlo.unary main_cst_3 main_v56 (broadcastInDim S16x8649 ![] bcast_S_S16x8649 : (⟨S_, .f32⟩ : BufTy).Contents (Elt F) → (⟨S16x8649, .f32⟩ : BufTy).Contents (Elt F)),
    StableHlo.binary main_v56 main_v36 main_v57 (mulf : (⟨S16x8649, .f32⟩ : BufTy).Contents (Elt F) → (⟨S16x8649, .f32⟩ : BufTy).Contents (Elt F) → (⟨S16x8649, .f32⟩ : BufTy).Contents (Elt F)),
    StableHlo.binary main_v52 main_v57 main_v58 (subf : (⟨S16x8649, .f32⟩ : BufTy).Contents (Elt F) → (⟨S16x8649, .f32⟩ : BufTy).Contents (Elt F) → (⟨S16x8649, .f32⟩ : BufTy).Contents (Elt F)),
    StableHlo.binary main_v55 main_v30 main_v59 (addf : (⟨S16x8649, .f32⟩ : BufTy).Contents (Elt F) → (⟨S16x8649, .f32⟩ : BufTy).Contents (Elt F) → (⟨S16x8649, .f32⟩ : BufTy).Contents (Elt F)),
    StableHlo.binary main_v58 main_v36 main_v60 (addf : (⟨S16x8649, .f32⟩ : BufTy).Contents (Elt F) → (⟨S16x8649, .f32⟩ : BufTy).Contents (Elt F) → (⟨S16x8649, .f32⟩ : BufTy).Contents (Elt F)),
    StableHlo.unary main_v55 main_v61 (broadcastInDim S16x8649x1 ![0, 1] bcast_S16x8649_S16x8649x1_0_1 : (⟨S16x8649, .f32⟩ : BufTy).Contents (Elt F) → (⟨S16x8649x1, .f32⟩ : BufTy).Contents (Elt F)),
    StableHlo.unary main_v58 main_v62 (broadcastInDim S16x8649x1 ![0, 1] bcast_S16x8649_S16x8649x1_0_1 : (⟨S16x8649, .f32⟩ : BufTy).Contents (Elt F) → (⟨S16x8649x1, .f32⟩ : BufTy).Contents (Elt F)),
    StableHlo.unary main_v59 main_v63 (broadcastInDim S16x8649x1 ![0, 1] bcast_S16x8649_S16x8649x1_0_1 : (⟨S16x8649, .f32⟩ : BufTy).Contents (Elt F) → (⟨S16x8649x1, .f32⟩ : BufTy).Contents (Elt F)),
    StableHlo.unary main_v60 main_v64 (broadcastInDim S16x8649x1 ![0, 1] bcast_S16x8649_S16x8649x1_0_1 : (⟨S16x8649, .f32⟩ : BufTy).Contents (Elt F) → (⟨S16x8649x1, .f32⟩ : BufTy).Contents (Elt F)) ]

/-- Stacking the corners, and the first selection. -/
abbrev opsB : List (HloOp τ sig (Elt F)) :=
  [ StableHlo.nary ![main_v61, main_v62, main_v63, main_v64] main_v65 (fun u => (concatenate S16x8649x4 2 [⟨S16x8649x1, (u 0 : (⟨S16x8649x1, .f32⟩ : BufTy).Contents (Elt F))⟩, ⟨S16x8649x1, (u 1 : (⟨S16x8649x1, .f32⟩ : BufTy).Contents (Elt F))⟩, ⟨S16x8649x1, (u 2 : (⟨S16x8649x1, .f32⟩ : BufTy).Contents (Elt F))⟩, ⟨S16x8649x1, (u 3 : (⟨S16x8649x1, .f32⟩ : BufTy).Contents (Elt F))⟩] concatenates_S16x8649x1_S16x8649x1_S16x8649x1_S16x8649x1_S16x8649x4_d2 : (⟨S16x8649x4, .f32⟩ : BufTy).Contents (Elt F))),
    StableHlo.unary main_v1 main_values ((fun x => (Host.topK S16x1000 1 (FloatOps.cmpfTotal .gt) x sliceFits_S16x8649_S16x1000).1) : (⟨S16x8649, .f32⟩ : BufTy).Contents (Elt F) → (⟨S16x1000, .f32⟩ : BufTy).Contents (Elt F)),
    StableHlo.unary main_v1 main_indices ((fun x => (Host.topK S16x1000 1 (FloatOps.cmpfTotal .gt) x sliceFits_S16x8649_S16x1000).2) : (⟨S16x8649, .f32⟩ : BufTy).Contents (Elt F) → (⟨S16x1000, .i32⟩ : BufTy).Contents (Elt F)),
    StableHlo.unary main_indices main_v66 (broadcastInDim S16x1000x1 ![0, 1] bcast_S16x1000_S16x1000x1_0_1 : (⟨S16x1000, .i32⟩ : BufTy).Contents (Elt F) → (⟨S16x1000x1, .i32⟩ : BufTy).Contents (Elt F)) ]

theorem ops_split : (hostOps0 : List (HloOp τ sig (Elt F))) = opsA ++ opsB := rfl

variable (V : Valuation τ sig (Elt Ideal))

theorem lit_0 : (lit0 : Fin 4 → BitVec 32) 0 = 0x3DCCCCCD#32 ∧ (lit0 : Fin 4 → BitVec 32) 1 = 0x3DCCCCCD#32 ∧ (lit0 : Fin 4 → BitVec 32) 2 = 0x3E4CCCCD#32 ∧ (lit0 : Fin 4 → BitVec 32) 3 = 0x3E4CCCCD#32 := by decide

/-- The factors of the four deltas. -/
def scl : FVec Ideal S4 .f32 := fun i => FloatOps.ofBits .f32 (lit0 (S4.rowMajor i))

theorem scl_at : scl (ix1 0) = Ideal.ofBits .f32 0x3DCCCCCD#32 ∧ scl (ix1 1) = Ideal.ofBits .f32 0x3DCCCCCD#32 ∧ scl (ix1 2) = Ideal.ofBits .f32 0x3E4CCCCD#32 ∧ scl (ix1 3) = Ideal.ofBits .f32 0x3E4CCCCD#32 := by
  exact ⟨rfl, rfl, rfl, rfl⟩

def side0 (A : FVec Ideal S8649x4 .f32) : FVec Ideal S8649 .f32 := subf (shapeCast S8649 (extractStridedSlice S8649x1 ![0, 2] A slices_S8649x4_S8649x1_0_2) shapeCasts_S8649x1_S8649) (shapeCast S8649 (extractStridedSlice S8649x1 ![0, 0] A slices_S8649x4_S8649x1_0_0) shapeCasts_S8649x1_S8649)

theorem side0_at (A : FVec Ideal S8649x4 .f32) (i : Fin 8649) : side0 A (ix1 i) = A (ix2 i 2) - A (ix2 i 0) := by
  pointwise [side0]
  try rfl

def mid0 (A : FVec Ideal S8649x4 .f32) : FVec Ideal S8649 .f32 := addf (shapeCast S8649 (extractStridedSlice S8649x1 ![0, 0] A slices_S8649x4_S8649x1_0_0) shapeCasts_S8649x1_S8649) (mulf (broadcastInDim S8649 ![] bcast_S_S8649 (constant S_ .f32 0x3F000000#32)) (side0 A))

theorem mid0_at (A : FVec Ideal S8649x4 .f32) (i : Fin 8649) : mid0 A (ix1 i) = A (ix2 i 0) + Ideal.ofBits .f32 0x3F000000#32 * (A (ix2 i 2) - A (ix2 i 0)) := by
  rw [mid0]
  generalize hS : side0 A = S
  have hs := side0_at A i
  rw [hS] at hs
  rw [← hs]
  pointwise
  try rfl

def del0 (X : FVec Ideal S16x8649x4 .f32) : FVec Ideal S16x8649 .f32 := shapeCast S16x8649 (extractStridedSlice S16x8649x1 ![0, 0, 0] (mulf X (broadcastInDim S16x8649x4 ![0, 1, 2] bcast_S1x1x4_S16x8649x4_0_1_2 (broadcastInDim S1x1x4 ![2] bcast_S4_S1x1x4_2 scl))) slices_S16x8649x4_S16x8649x1_0_0_0) shapeCasts_S16x8649x1_S16x8649

theorem del0_at (X : FVec Ideal S16x8649x4 .f32) (b : Fin 16) (i : Fin 8649) : del0 X (ix2 b i) = X (ix3 b i 0) * scl (ix1 0) := by
  pointwise [del0]
  try rfl

def ext0 (X : FVec Ideal S16x8649x4 .f32) (A : FVec Ideal S8649x4 .f32) : FVec Ideal S16x8649 .f32 := mulf (Host.exp (shapeCast S16x8649 (extractStridedSlice S16x8649x1 ![0, 0, 2] (mulf X (broadcastInDim S16x8649x4 ![0, 1, 2] bcast_S1x1x4_S16x8649x4_0_1_2 (broadcastInDim S1x1x4 ![2] bcast_S4_S1x1x4_2 scl))) slices_S16x8649x4_S16x8649x1_0_0_2) shapeCasts_S16x8649x1_S16x8649)) (broadcastInDim S16x8649 ![0, 1] bcast_S1x8649_S16x8649_0_1 (broadcastInDim S1x8649 ![1] bcast_S8649_S1x8649_1 (side0 A)))

theorem ext0_at (X : FVec Ideal S16x8649x4 .f32) (A : FVec Ideal S8649x4 .f32) (b : Fin 16) (i : Fin 8649) : ext0 X A (ix2 b i) = Ideal.exp (X (ix3 b i 2) * scl (ix1 2)) * side0 A (ix1 i) := by
  rw [ext0]
  generalize side0 A = S
  pointwise
  try rfl

def lowF0 (X : FVec Ideal S16x8649x4 .f32) (A : FVec Ideal S8649x4 .f32) : FVec Ideal S16x8649 .f32 := subf (addf (mulf (del0 X) (broadcastInDim S16x8649 ![0, 1] bcast_S1x8649_S16x8649_0_1 (broadcastInDim S1x8649 ![1] bcast_S8649_S1x8649_1 (side0 A)))) (broadcastInDim S16x8649 ![0, 1] bcast_S1x8649_S16x8649_0_1 (broadcastInDim S1x8649 ![1] bcast_S8649_S1x8649_1 (mid0 A)))) (mulf (broadcastInDim S16x8649 ![] bcast_S_S16x8649 (constant S_ .f32 0x3F000000#32)) (ext0 X A))

theorem lowF0_at (X : FVec Ideal S16x8649x4 .f32) (A : FVec Ideal S8649x4 .f32) (b : Fin 16) (i : Fin 8649) : lowF0 X A (ix2 b i) = lowC (A (ix2 i 0)) (A (ix2 i 2)) (X (ix3 b i 0)) (X (ix3 b i 2)) := by
  have e0 := del0_at X b i
  have e1 := side0_at A i
  have e2 := mid0_at A i
  have e3 := ext0_at X A b i
  rw [lowF0]
  unfold lowC
  rw [scl_at.1] at e0
  rw [scl_at.2.2.1, e1] at e3
  rw [← e0, ← e3, ← e2, ← e1]
  generalize del0 X = D, side0 A = S, mid0 A = M, ext0 X A = E
  pointwise
  try rfl

def highF0 (X : FVec Ideal S16x8649x4 .f32) (A : FVec Ideal S8649x4 .f32) : FVec Ideal S16x8649 .f32 := addf (lowF0 X A) (ext0 X A)

theorem highF0_at (X : FVec Ideal S16x8649x4 .f32) (A : FVec Ideal S8649x4 .f32) (b : Fin 16) (i : Fin 8649) : highF0 X A (ix2 b i) = highC (A (ix2 i 0)) (A (ix2 i 2)) (X (ix3 b i 0)) (X (ix3 b i 2)) := by
  have e1 := side0_at A i
  have e3 := ext0_at X A b i
  rw [scl_at.2.2.1, e1] at e3
  unfold highC
  rw [← lowF0_at X A b i, ← e3]
  rfl

theorem main_v61_eq : StableHlo.after opsA V (Proc.devRef .tc main_v61) = (broadcastInDim S16x8649x1 ![0, 1] bcast_S16x8649_S16x8649x1_0_1 (lowF0 (shapeCast S16x8649x4 (V (Proc.devRef .tc main_arg0)) shapeCasts_S16x31x31x36_S16x8649x4) (V (Proc.devRef .tc main_arg3))) : FVec Ideal S16x8649x1 .f32) := by
  after_results
  rfl

theorem main_v63_eq : StableHlo.after opsA V (Proc.devRef .tc main_v63) = (broadcastInDim S16x8649x1 ![0, 1] bcast_S16x8649_S16x8649x1_0_1 (highF0 (shapeCast S16x8649x4 (V (Proc.devRef .tc main_arg0)) shapeCasts_S16x31x31x36_S16x8649x4) (V (Proc.devRef .tc main_arg3))) : FVec Ideal S16x8649x1 .f32) := by
  after_results
  rfl

def side1 (A : FVec Ideal S8649x4 .f32) : FVec Ideal S8649 .f32 := subf (shapeCast S8649 (extractStridedSlice S8649x1 ![0, 3] A slices_S8649x4_S8649x1_0_3) shapeCasts_S8649x1_S8649) (shapeCast S8649 (extractStridedSlice S8649x1 ![0, 1] A slices_S8649x4_S8649x1_0_1) shapeCasts_S8649x1_S8649)

theorem side1_at (A : FVec Ideal S8649x4 .f32) (i : Fin 8649) : side1 A (ix1 i) = A (ix2 i 3) - A (ix2 i 1) := by
  pointwise [side1]
  try rfl

def mid1 (A : FVec Ideal S8649x4 .f32) : FVec Ideal S8649 .f32 := addf (shapeCast S8649 (extractStridedSlice S8649x1 ![0, 1] A slices_S8649x4_S8649x1_0_1) shapeCasts_S8649x1_S8649) (mulf (broadcastInDim S8649 ![] bcast_S_S8649 (constant S_ .f32 0x3F000000#32)) (side1 A))

theorem mid1_at (A : FVec Ideal S8649x4 .f32) (i : Fin 8649) : mid1 A (ix1 i) = A (ix2 i 1) + Ideal.ofBits .f32 0x3F000000#32 * (A (ix2 i 3) - A (ix2 i 1)) := by
  rw [mid1]
  generalize hS : side1 A = S
  have hs := side1_at A i
  rw [hS] at hs
  rw [← hs]
  pointwise
  try rfl

def del1 (X : FVec Ideal S16x8649x4 .f32) : FVec Ideal S16x8649 .f32 := shapeCast S16x8649 (extractStridedSlice S16x8649x1 ![0, 0, 1] (mulf X (broadcastInDim S16x8649x4 ![0, 1, 2] bcast_S1x1x4_S16x8649x4_0_1_2 (broadcastInDim S1x1x4 ![2] bcast_S4_S1x1x4_2 scl))) slices_S16x8649x4_S16x8649x1_0_0_1) shapeCasts_S16x8649x1_S16x8649

theorem del1_at (X : FVec Ideal S16x8649x4 .f32) (b : Fin 16) (i : Fin 8649) : del1 X (ix2 b i) = X (ix3 b i 1) * scl (ix1 1) := by
  pointwise [del1]
  try rfl

def ext1 (X : FVec Ideal S16x8649x4 .f32) (A : FVec Ideal S8649x4 .f32) : FVec Ideal S16x8649 .f32 := mulf (Host.exp (shapeCast S16x8649 (extractStridedSlice S16x8649x1 ![0, 0, 3] (mulf X (broadcastInDim S16x8649x4 ![0, 1, 2] bcast_S1x1x4_S16x8649x4_0_1_2 (broadcastInDim S1x1x4 ![2] bcast_S4_S1x1x4_2 scl))) slices_S16x8649x4_S16x8649x1_0_0_3) shapeCasts_S16x8649x1_S16x8649)) (broadcastInDim S16x8649 ![0, 1] bcast_S1x8649_S16x8649_0_1 (broadcastInDim S1x8649 ![1] bcast_S8649_S1x8649_1 (side1 A)))

theorem ext1_at (X : FVec Ideal S16x8649x4 .f32) (A : FVec Ideal S8649x4 .f32) (b : Fin 16) (i : Fin 8649) : ext1 X A (ix2 b i) = Ideal.exp (X (ix3 b i 3) * scl (ix1 3)) * side1 A (ix1 i) := by
  rw [ext1]
  generalize side1 A = S
  pointwise
  try rfl

def lowF1 (X : FVec Ideal S16x8649x4 .f32) (A : FVec Ideal S8649x4 .f32) : FVec Ideal S16x8649 .f32 := subf (addf (mulf (del1 X) (broadcastInDim S16x8649 ![0, 1] bcast_S1x8649_S16x8649_0_1 (broadcastInDim S1x8649 ![1] bcast_S8649_S1x8649_1 (side1 A)))) (broadcastInDim S16x8649 ![0, 1] bcast_S1x8649_S16x8649_0_1 (broadcastInDim S1x8649 ![1] bcast_S8649_S1x8649_1 (mid1 A)))) (mulf (broadcastInDim S16x8649 ![] bcast_S_S16x8649 (constant S_ .f32 0x3F000000#32)) (ext1 X A))

theorem lowF1_at (X : FVec Ideal S16x8649x4 .f32) (A : FVec Ideal S8649x4 .f32) (b : Fin 16) (i : Fin 8649) : lowF1 X A (ix2 b i) = lowC (A (ix2 i 1)) (A (ix2 i 3)) (X (ix3 b i 1)) (X (ix3 b i 3)) := by
  have e0 := del1_at X b i
  have e1 := side1_at A i
  have e2 := mid1_at A i
  have e3 := ext1_at X A b i
  rw [lowF1]
  unfold lowC
  rw [scl_at.2.1] at e0
  rw [scl_at.2.2.2, e1] at e3
  rw [← e0, ← e3, ← e2, ← e1]
  generalize del1 X = D, side1 A = S, mid1 A = M, ext1 X A = E
  pointwise
  try rfl

def highF1 (X : FVec Ideal S16x8649x4 .f32) (A : FVec Ideal S8649x4 .f32) : FVec Ideal S16x8649 .f32 := addf (lowF1 X A) (ext1 X A)

theorem highF1_at (X : FVec Ideal S16x8649x4 .f32) (A : FVec Ideal S8649x4 .f32) (b : Fin 16) (i : Fin 8649) : highF1 X A (ix2 b i) = highC (A (ix2 i 1)) (A (ix2 i 3)) (X (ix3 b i 1)) (X (ix3 b i 3)) := by
  have e1 := side1_at A i
  have e3 := ext1_at X A b i
  rw [scl_at.2.2.2, e1] at e3
  unfold highC
  rw [← lowF1_at X A b i, ← e3]
  rfl

theorem main_v62_eq : StableHlo.after opsA V (Proc.devRef .tc main_v62) = (broadcastInDim S16x8649x1 ![0, 1] bcast_S16x8649_S16x8649x1_0_1 (lowF1 (shapeCast S16x8649x4 (V (Proc.devRef .tc main_arg0)) shapeCasts_S16x31x31x36_S16x8649x4) (V (Proc.devRef .tc main_arg3))) : FVec Ideal S16x8649x1 .f32) := by
  after_results
  rfl

theorem main_v64_eq : StableHlo.after opsA V (Proc.devRef .tc main_v64) = (broadcastInDim S16x8649x1 ![0, 1] bcast_S16x8649_S16x8649x1_0_1 (highF1 (shapeCast S16x8649x4 (V (Proc.devRef .tc main_arg0)) shapeCasts_S16x31x31x36_S16x8649x4) (V (Proc.devRef .tc main_arg3))) : FVec Ideal S16x8649x1 .f32) := by
  after_results
  rfl

theorem main_v1_eq : StableHlo.after opsA V (Proc.devRef .tc main_v1) = (shapeCast S16x8649 (V (Proc.devRef .tc main_arg1)) shapeCasts_S16x31x31x9_S16x8649 : FVec Ideal S16x8649 .f32) := by
  after_results
  rfl

def stackF (Y0 Y1 Y2 Y3 : FVec Ideal S16x8649 .f32) : FVec Ideal S16x8649x4 .f32 :=
  concatenate S16x8649x4 2 [⟨S16x8649x1, broadcastInDim S16x8649x1 ![0, 1] bcast_S16x8649_S16x8649x1_0_1 Y0⟩, ⟨S16x8649x1, broadcastInDim S16x8649x1 ![0, 1] bcast_S16x8649_S16x8649x1_0_1 Y1⟩,
    ⟨S16x8649x1, broadcastInDim S16x8649x1 ![0, 1] bcast_S16x8649_S16x8649x1_0_1 Y2⟩, ⟨S16x8649x1, broadcastInDim S16x8649x1 ![0, 1] bcast_S16x8649_S16x8649x1_0_1 Y3⟩]
    concatenates_S16x8649x1_S16x8649x1_S16x8649x1_S16x8649x1_S16x8649x4_d2

theorem stackF_0 (Y0 Y1 Y2 Y3 : FVec Ideal S16x8649 .f32) (b : Fin 16) (i : Fin 8649) : stackF Y0 Y1 Y2 Y3 (ix3 b i 0) = Y0 (ix2 b i) := by
  pointwise [stackF]
  try rfl

theorem stackF_1 (Y0 Y1 Y2 Y3 : FVec Ideal S16x8649 .f32) (b : Fin 16) (i : Fin 8649) : stackF Y0 Y1 Y2 Y3 (ix3 b i 1) = Y1 (ix2 b i) := by
  pointwise [stackF]
  try rfl

theorem stackF_2 (Y0 Y1 Y2 Y3 : FVec Ideal S16x8649 .f32) (b : Fin 16) (i : Fin 8649) : stackF Y0 Y1 Y2 Y3 (ix3 b i 2) = Y2 (ix2 b i) := by
  pointwise [stackF]
  try rfl

theorem stackF_3 (Y0 Y1 Y2 Y3 : FVec Ideal S16x8649 .f32) (b : Fin 16) (i : Fin 8649) : stackF Y0 Y1 Y2 Y3 (ix3 b i 3) = Y3 (ix2 b i) := by
  pointwise [stackF]
  try rfl

/-- The boxes. -/
def boxF (V : Valuation τ sig (Elt Ideal)) : FVec Ideal S16x8649x4 .f32 :=
  stackF (lowF0 (shapeCast S16x8649x4 (V (Proc.devRef .tc main_arg0)) shapeCasts_S16x31x31x36_S16x8649x4) (V (Proc.devRef .tc main_arg3)))
    (lowF1 (shapeCast S16x8649x4 (V (Proc.devRef .tc main_arg0)) shapeCasts_S16x31x31x36_S16x8649x4) (V (Proc.devRef .tc main_arg3)))
    (highF0 (shapeCast S16x8649x4 (V (Proc.devRef .tc main_arg0)) shapeCasts_S16x31x31x36_S16x8649x4) (V (Proc.devRef .tc main_arg3)))
    (highF1 (shapeCast S16x8649x4 (V (Proc.devRef .tc main_arg0)) shapeCasts_S16x31x31x36_S16x8649x4) (V (Proc.devRef .tc main_arg3)))

/-- The scores. -/
def scoreF (V : Valuation τ sig (Elt Ideal)) : FVec Ideal S16x8649 .f32 := shapeCast S16x8649 (V (Proc.devRef .tc main_arg1)) shapeCasts_S16x31x31x9_S16x8649

theorem main_v65_eq : StableHlo.after hostOps0 V (Proc.devRef .tc main_v65) = boxF V := by
  rw [ops_split, StableHlo.after_append]
  have h1 := main_v61_eq V
  have h2 := main_v62_eq V
  have h3 := main_v63_eq V
  have h4 := main_v64_eq V
  generalize StableHlo.after opsA V = W at h1 h2 h3 h4 ⊢
  have h : StableHlo.after opsB W (Proc.devRef .tc main_v65) = (concatenate S16x8649x4 2 [⟨S16x8649x1, W (Proc.devRef .tc main_v61)⟩, ⟨S16x8649x1, W (Proc.devRef .tc main_v62)⟩,
    ⟨S16x8649x1, W (Proc.devRef .tc main_v63)⟩, ⟨S16x8649x1, W (Proc.devRef .tc main_v64)⟩] concatenates_S16x8649x1_S16x8649x1_S16x8649x1_S16x8649x1_S16x8649x4_d2 : FVec Ideal S16x8649x4 .f32) := by
    after_results
    rfl
  rw [h, h1, h2, h3, h4]
  rfl

theorem main_values_eq : StableHlo.after hostOps0 V (Proc.devRef .tc main_values) = ((Host.topK S16x1000 1 (FloatOps.cmpfTotal .gt) (scoreF V) sliceFits_S16x8649_S16x1000).1 : FVec Ideal S16x1000 .f32) := by
  rw [ops_split, StableHlo.after_append]
  have h1 := main_v1_eq V
  generalize StableHlo.after opsA V = W at h1 ⊢
  after_results
  rw [h1]
  rfl

theorem main_v66_eq : StableHlo.after hostOps0 V (Proc.devRef .tc main_v66) = (broadcastInDim S16x1000x1 ![0, 1] bcast_S16x1000_S16x1000x1_0_1 (Host.topK S16x1000 1 (FloatOps.cmpfTotal .gt) (scoreF V) sliceFits_S16x8649_S16x1000).2 : IVec S16x1000x1 32) := by
  rw [ops_split, StableHlo.after_append]
  have h1 := main_v1_eq V
  generalize StableHlo.after opsA V = W at h1 ⊢
  after_results
  rw [h1]
  rfl

end Cert.ReferenceIdeal.Val

end
-- ==== Proof.RefEntry.lean ====
/- What the reference's buffers hold when its loop begins. -/
module

public import proofs.«01_k».proof.Proof.RefPre

@[expose] public section

set_option maxRecDepth 16384
set_option maxHeartbeats 1000000

noncomputable section

namespace Cert.ReferenceIdeal.Val

open Cert.ReferenceIdeal Cert.ReferenceIdeal.Gen Cert.ReferenceIdeal.Value Cert.Pure
open Idealize.ShloMosaic Idealize.ShloMosaic.TcCoe Idealize.ShloMosaic.Tactic Idealize.ShloMosaic.StableHlo

/-- Counting a negative index from the end. -/
def fix3 (n : BitVec 32) (x : IVec S16x1000x1 32) : IVec S16x1000x1 32 :=
  select (cmpi .slt x (broadcastInDim S16x1000x1 ![] bcast_S_S16x1000x1 (constantI S_ 32 0#32))) (addi x (broadcastInDim S16x1000x1 ![] bcast_S_S16x1000x1 (constantI S_ 32 n))) x

def fix2 (n : BitVec 32) (x : IVec S16x1000 32) : IVec S16x1000x1 32 :=
  shapeCast S16x1000x1 (select (cmpi .slt x (broadcastInDim S16x1000 ![] bcast_S_S16x1000 (constantI S_ 32 0#32))) (addi x (broadcastInDim S16x1000 ![] bcast_S_S16x1000 (constantI S_ 32 n))) x) shapeCasts_S16x1000_S16x1000x1

variable (V : Valuation τ sig (Elt Ideal))

theorem s1 : StableHlo.after hostOps0_1 V (Proc.devRef .tc main_v67) = (Host.gather gather_S16x8649x4_S16x1000x1_S16x1000x4_2_1_0_0_1_2_114 (V (Proc.devRef .tc main_v65)) (fix3 8649#32 (V (Proc.devRef .tc main_v66))) : FVec Ideal S16x1000x4 .f32) := by
  after_results
  rfl

theorem s2 : StableHlo.after hostOps0_2 V (Proc.devRef .tc main_v68) = (Host.negf (V (Proc.devRef .tc main_values)) : FVec Ideal S16x1000 .f32) := by
  after_results
  try rfl

theorem s3 : StableHlo.after hostOps0_3 V (Proc.devRef .tc main_v69) = ((Host.sort2 S16x1000 1 comparator_f32_i32_d1 (show FVec Ideal S16x1000 .f32 from V (Proc.devRef .tc main_v68)) (iotaInDim S16x1000 32 1)).2 : IVec S16x1000 32) := by
  after_results
  rfl

theorem s4 : StableHlo.after hostOps0_4 V (Proc.devRef .tc main_v70) = (broadcastInDim S16x1000x1 ![0, 1] bcast_S16x1000_S16x1000x1_0_1 (V (Proc.devRef .tc main_v69)) : IVec S16x1000x1 32) := by
  after_results
  try rfl

theorem s5 : StableHlo.after hostOps0_5 V (Proc.devRef .tc main_v71) = (Host.gather gather_S16x1000x4_S16x1000x1_S16x1000x4_2_1_0_0_1_2_114 (V (Proc.devRef .tc main_v67)) (fix3 1000#32 (V (Proc.devRef .tc main_v70))) : FVec Ideal S16x1000x4 .f32) := by
  after_results
  rfl

theorem s6 : StableHlo.after hostOps0_6 V (Proc.devRef .tc main_v72) = (Host.gather gather_S16x1000_S16x1000x1_S16x1000_n_1_0_0_1_2_11 (V (Proc.devRef .tc main_values)) (fix2 1000#32 (V (Proc.devRef .tc main_v69))) : FVec Ideal S16x1000 .f32) := by
  after_results
  rfl

theorem s7_0 : StableHlo.after hostOps0_7 V (Proc.devRef .tc main_v74_0) = V (Proc.devRef .tc main_v71) := by
  after_results
  try rfl

theorem s7_2 : StableHlo.after hostOps0_7 V (Proc.devRef .tc main_v74_2) = fun _ => 0#32 := by
  after_results
  try rfl

theorem s7_3 : StableHlo.after hostOps0_7 V (Proc.devRef .tc main_v74_3) = fun _ => 1#1 := by
  after_results
  try rfl

/-- The scores of the first selection. -/
abbrev topV : FVec Ideal S16x1000 .f32 := (Host.topK S16x1000 1 (FloatOps.cmpfTotal .gt) (scoreF V) sliceFits_S16x8649_S16x1000).1

abbrev topI : IVec S16x1000 32 := (Host.topK S16x1000 1 (FloatOps.cmpfTotal .gt) (scoreF V) sliceFits_S16x8649_S16x1000).2

/-- The order of the second sort. -/
abbrev reI : IVec S16x1000 32 := (Host.sort2 S16x1000 1 comparator_f32_i32_d1 (Host.negf (topV V)) (iotaInDim S16x1000 32 1)).2

/-- The selected boxes. -/
def selB : FVec Ideal S16x1000x4 .f32 :=
  Host.gather gather_S16x1000x4_S16x1000x1_S16x1000x4_2_1_0_0_1_2_114
    (Host.gather gather_S16x8649x4_S16x1000x1_S16x1000x4_2_1_0_0_1_2_114 (boxF V) (fix3 8649#32 (broadcastInDim S16x1000x1 ![0, 1] bcast_S16x1000_S16x1000x1_0_1 (topI V))))
    (fix3 1000#32 (broadcastInDim S16x1000x1 ![0, 1] bcast_S16x1000_S16x1000x1_0_1 (reI V)))

/-- The selected scores. -/
def selS : FVec Ideal S16x1000 .f32 := Host.gather gather_S16x1000_S16x1000x1_S16x1000_n_1_0_0_1_2_11 (topV V) (fix2 1000#32 (reI V))

theorem v69_entry : StableHlo.after hostOps0_3 (StableHlo.after hostOps0_2 (StableHlo.after hostOps0_1 (StableHlo.after hostOps0 V))) (Proc.devRef .tc main_v69) = reI V := by
  rw [s3, s2, after_of_writes_sub hostOps0_1 _ hostOps0_1_writes (r := main_values) (by decide), main_values_eq]

theorem v71_entry : StableHlo.after hostOps0_5 (StableHlo.after hostOps0_4 (StableHlo.after hostOps0_3 (StableHlo.after hostOps0_2 (StableHlo.after hostOps0_1 (StableHlo.after hostOps0 V))))) (Proc.devRef .tc main_v71) = selB V := by
  rw [s5, s4, v69_entry, after_of_writes_sub hostOps0_4 _ hostOps0_4_writes (r := main_v67) (by decide), after_of_writes_sub hostOps0_3 _ hostOps0_3_writes (r := main_v67) (by decide),
    after_of_writes_sub hostOps0_2 _ hostOps0_2_writes (r := main_v67) (by decide), s1, main_v65_eq, main_v66_eq]
  rfl

theorem entry_71 : StableHlo.afterL preI V (Proc.devRef .tc main_v71) = selB V := by
  simp only [afterL_cons, afterL_nil]
  rw [after_of_writes_sub hostOps0_7 _ hostOps0_7_writes (r := main_v71) (by decide), after_of_writes_sub hostOps0_6 _ hostOps0_6_writes (r := main_v71) (by decide), v71_entry]

theorem entry_74_0 : StableHlo.afterL preI V (Proc.devRef .tc main_v74_0) = selB V := by
  simp only [afterL_cons, afterL_nil]
  rw [s7_0, after_of_writes_sub hostOps0_6 _ hostOps0_6_writes (r := main_v71) (by decide), v71_entry]

theorem entry_74_2 : StableHlo.afterL preI V (Proc.devRef .tc main_v74_2) = fun _ => BitVec.ofNat 32 0 := by
  simp only [afterL_cons, afterL_nil]
  rw [s7_2]

theorem entry_74_3 : StableHlo.afterL preI V (Proc.devRef .tc main_v74_3) = fun _ => 1#1 := by
  simp only [afterL_cons, afterL_nil]
  rw [s7_3]

theorem entry_72 : StableHlo.afterL preI V (Proc.devRef .tc main_v72) = selS V := by
  simp only [afterL_cons, afterL_nil]
  rw [after_of_writes_sub hostOps0_7 _ hostOps0_7_writes (r := main_v72) (by decide), s6,
    after_of_writes_sub hostOps0_5 _ hostOps0_5_writes (r := main_v69) (by decide), after_of_writes_sub hostOps0_4 _ hostOps0_4_writes (r := main_v69) (by decide), v69_entry,
    after_of_writes_sub hostOps0_5 _ hostOps0_5_writes (r := main_values) (by decide), after_of_writes_sub hostOps0_4 _ hostOps0_4_writes (r := main_values) (by decide),
    after_of_writes_sub hostOps0_3 _ hostOps0_3_writes (r := main_values) (by decide), after_of_writes_sub hostOps0_2 _ hostOps0_2_writes (r := main_values) (by decide),
    after_of_writes_sub hostOps0_1 _ hostOps0_1_writes (r := main_values) (by decide), main_values_eq]
  rfl

/-- Where selected row `r` comes from. -/
abbrev ord (S : FVec Ideal S16x8649 .f32) (b : Fin 16) (r : Fin 1000) : Fin 8649 := sortedFrom (bef fun i => S (ix2 b i)) (r.castLE (by decide))

theorem word_nat' (t : ℕ) (ht : t < 10000) : (BitVec.ofNat 32 t).toInt = (t : ℤ) := by
  rw [BitVec.toInt_eq_toNat_of_lt] <;> simp only [BitVec.toNat_ofNat] <;> omega

theorem fix3_at (n : ℕ) (x : IVec S16x1000x1 32) (b : Fin 16) (r : Fin 1000) (t : ℕ) (ht : t < 10000) (hx : x (ix3 b r 0) = BitVec.ofNat 32 t) : fix3 (BitVec.ofNat 32 n) x (ix3 b r 0) = BitVec.ofNat 32 t := by
  have h : fix3 (BitVec.ofNat 32 n) x (ix3 b r 0) = Scalar.select (IntOp.cmpi .slt (x (ix3 b r 0)) 0#32) (IntOp.addi (x (ix3 b r 0)) (BitVec.ofNat 32 n)) (x (ix3 b r 0)) := by
    pointwise [fix3]
  rw [h, hx, word_fix t n ht]

theorem fix2_at (n : ℕ) (x : IVec S16x1000 32) (b : Fin 16) (r : Fin 1000) (t : ℕ) (ht : t < 10000) (hx : x (ix2 b r) = BitVec.ofNat 32 t) : fix2 (BitVec.ofNat 32 n) x (ix3 b r 0) = BitVec.ofNat 32 t := by
  have h : fix2 (BitVec.ofNat 32 n) x (ix3 b r 0) = Scalar.select (IntOp.cmpi .slt (x (ix2 b r)) 0#32) (IntOp.addi (x (ix2 b r)) (BitVec.ofNat 32 n)) (x (ix2 b r)) := by
    pointwise [fix2]
  rw [h, hx, word_fix t n ht]

theorem bc_at (x : IVec S16x1000 32) (b : Fin 16) (r : Fin 1000) : broadcastInDim S16x1000x1 ![0, 1] bcast_S16x1000_S16x1000x1_0_1 x (ix3 b r 0) = x (ix2 b r) := by
  pointwise

theorem topV_at (b : Fin 16) (r : Fin 1000) : topV V (ix2 b r) = scoreF V (ix2 b (ord (scoreF V) b r)) := (top_at (B := 16) (N := 8649) (k := 1000) (by decide) (scoreF V) _ b r).1

theorem topI_at (b : Fin 16) (r : Fin 1000) : topI V (ix2 b r) = BitVec.ofNat 32 (ord (scoreF V) b r).val := (top_at (B := 16) (N := 8649) (k := 1000) (by decide) (scoreF V) _ b r).2

theorem ord_anti (S : FVec Ideal S16x8649 .f32) (b : Fin 16) (i j : Fin 1000) (h : i < j) : S (ix2 b (ord S b j)) ≤ S (ix2 b (ord S b i)) := by
  have hb := (bef_iff _ _ _).mp (sortedFrom_bef (fun k => S (ix2 b k)) (i.castLE (by decide)) (j.castLE (by decide)) h)
  rcases hb with hb | hb
  · exact hb.le
  · exact hb.1.ge

theorem reI_at (b : Fin 16) (r : Fin 1000) : reI V (ix2 b r) = BitVec.ofNat 32 r.val := by
  rw [reI, resort_at, sortedFrom_id]
  intro i j h
  show topV V (ix2 b j) ≤ topV V (ix2 b i)
  rw [topV_at, topV_at]
  exact ord_anti _ b i j h

theorem selB_at (b : Fin 16) (r : Fin 1000) (c : Fin 4) : selB V (ix3 b r c) = boxF V (ix3 b (ord (scoreF V) b r) c) := by
  have e1 : fix3 1000#32 (broadcastInDim S16x1000x1 ![0, 1] bcast_S16x1000_S16x1000x1_0_1 (reI V)) (ix3 b r 0) = BitVec.ofNat 32 r.val :=
    fix3_at 1000 _ b r r.val (by omega) ((bc_at _ b r).trans (reI_at V b r))
  have e2 : fix3 8649#32 (broadcastInDim S16x1000x1 ![0, 1] bcast_S16x1000_S16x1000x1_0_1 (topI V)) (ix3 b r 0) = BitVec.ofNat 32 (ord (scoreF V) b r).val :=
    fix3_at 8649 _ b r _ (by omega) ((bc_at _ b r).trans (topI_at V b r))
  unfold selB
  refine (rows_taken (B := 16) (N := 1000) (R := 1000) (C := 4) (by decide) gather_S16x1000x4_S16x1000x1_S16x1000x4_2_1_0_0_1_2_114_wf _ _ b r c).trans ?_
  have f1 : (⟨min (fix3 1000#32 (broadcastInDim S16x1000x1 ![0, 1] bcast_S16x1000_S16x1000x1_0_1 (reI V)) (ix3 b r 0)).toInt.toNat (1000 - 1), by omega⟩ : Fin 1000) = r := by
    apply Fin.ext
    show min (fix3 1000#32 (broadcastInDim S16x1000x1 ![0, 1] bcast_S16x1000_S16x1000x1_0_1 (reI V)) (ix3 b r 0)).toInt.toNat (1000 - 1) = r.val
    rw [e1, word_nat' _ (by omega)]
    omega
  rw [f1]
  refine (rows_taken (B := 16) (N := 8649) (R := 1000) (C := 4) (by decide) gather_S16x8649x4_S16x1000x1_S16x1000x4_2_1_0_0_1_2_114_wf _ _ b r c).trans ?_
  refine congrArg (fun k => boxF V (ix3 b k c)) (Fin.ext ?_)
  show min (fix3 8649#32 (broadcastInDim S16x1000x1 ![0, 1] bcast_S16x1000_S16x1000x1_0_1 (topI V)) (ix3 b r 0)).toInt.toNat (8649 - 1) = _
  rw [e2, word_nat' _ (by omega)]
  omega

theorem selS_at (b : Fin 16) (r : Fin 1000) : selS V (ix2 b r) = scoreF V (ix2 b (ord (scoreF V) b r)) := by
  have e1 : fix2 1000#32 (reI V) (ix3 b r 0) = BitVec.ofNat 32 r.val := fix2_at 1000 _ b r r.val (by omega) (reI_at V b r)
  unfold selS
  refine (entries_taken (B := 16) (N := 1000) (R := 1000) (by decide) gather_S16x1000_S16x1000x1_S16x1000_n_1_0_0_1_2_11_wf _ _ b r).trans ?_
  rw [← topV_at]
  refine congrArg (fun k => topV V (ix2 b k)) (Fin.ext ?_)
  show min (fix2 1000#32 (reI V) (ix3 b r 0)).toInt.toNat (1000 - 1) = r.val
  rw [e1, word_nat' _ (by omega)]
  omega

end Cert.ReferenceIdeal.Val

end
-- ==== Proof.RefPost.lean ====
/- What the reference's operations after the loop compute. -/
module

public import proofs.«01_k».proof.Proof.RefEntry

@[expose] public section

set_option maxRecDepth 16384
set_option maxHeartbeats 1000000

noncomputable section

namespace Cert.ReferenceIdeal.Val

open Cert.ReferenceIdeal Cert.ReferenceIdeal.Gen Cert.ReferenceIdeal.Value Cert.Pure
open Idealize.ShloMosaic Idealize.ShloMosaic.TcCoe Idealize.ShloMosaic.Tactic Idealize.ShloMosaic.StableHlo

def fixL (n : BitVec 32) (x : IVec S16x256x1 32) : IVec S16x256x1 32 :=
  select (cmpi .slt x (broadcastInDim S16x256x1 ![] bcast_S_S16x256x1 (constantI S_ 32 0#32))) (addi x (broadcastInDim S16x256x1 ![] bcast_S_S16x256x1 (constantI S_ 32 n))) x

variable (V : Valuation τ sig (Elt Ideal))

theorem t8_main_v71 : StableHlo.after hostOps0_8 V (Proc.devRef .tc main_v71) = V (Proc.devRef .tc main_v71) := by
  after_results
  try rfl

theorem t8_main_v72 : StableHlo.after hostOps0_8 V (Proc.devRef .tc main_v72) = V (Proc.devRef .tc main_v72) := by
  after_results
  try rfl

theorem t8_main_v74_3 : StableHlo.after hostOps0_8 V (Proc.devRef .tc main_v74_3) = V (Proc.devRef .tc main_v74_3) := by
  after_results
  try rfl

theorem t8_main_cst_6 : StableHlo.after hostOps0_8 V (Proc.devRef .tc main_cst_6) = (constant S_ .f32 0xCE6E6B28#32 : FVec Ideal S_ .f32) := by
  after_results
  try rfl

theorem t9_main_v71 : StableHlo.after hostOps0_9 V (Proc.devRef .tc main_v71) = V (Proc.devRef .tc main_v71) := by
  after_results
  try rfl

theorem t9_main_v75 : StableHlo.after hostOps0_9 V (Proc.devRef .tc main_v75) = (select (show IVec S16x1000 1 from V (Proc.devRef .tc main_v74_3)) (show FVec Ideal S16x1000 .f32 from V (Proc.devRef .tc main_v72)) (broadcastInDim S16x1000 ![] bcast_S_S16x1000 (V (Proc.devRef .tc main_cst_6))) : FVec Ideal S16x1000 .f32) := by
  after_results
  try rfl

theorem t10_main_v71 : StableHlo.after hostOps0_10 V (Proc.devRef .tc main_v71) = V (Proc.devRef .tc main_v71) := by
  after_results
  try rfl

theorem t10_main_values_7 : StableHlo.after hostOps0_10 V (Proc.devRef .tc main_values_7) = ((Host.topK S16x256 1 (FloatOps.cmpfTotal .gt) (show FVec Ideal S16x1000 .f32 from V (Proc.devRef .tc main_v75)) sliceFits_S16x1000_S16x256).1 : FVec Ideal S16x256 .f32) := by
  after_results
  try rfl

theorem t10_main_v76 : StableHlo.after hostOps0_10 V (Proc.devRef .tc main_v76) = (broadcastInDim S16x256x1 ![0, 1] bcast_S16x256_S16x256x1_0_1 (Host.topK S16x256 1 (FloatOps.cmpfTotal .gt) (show FVec Ideal S16x1000 .f32 from V (Proc.devRef .tc main_v75)) sliceFits_S16x1000_S16x256).2 : IVec S16x256x1 32) := by
  after_results
  try rfl

theorem t11_main_values_7 : StableHlo.after hostOps0_11 V (Proc.devRef .tc main_values_7) = V (Proc.devRef .tc main_values_7) := by
  after_results
  try rfl

theorem t11_main_v77 : StableHlo.after hostOps0_11 V (Proc.devRef .tc main_v77) = (Host.gather gather_S16x1000x4_S16x256x1_S16x256x4_2_1_0_0_1_2_114 (V (Proc.devRef .tc main_v71)) (fixL 1000#32 (V (Proc.devRef .tc main_v76))) : FVec Ideal S16x256x4 .f32) := by
  after_results
  try rfl

theorem t12_main_values_7 : StableHlo.after hostOps0_12 V (Proc.devRef .tc main_values_7) = V (Proc.devRef .tc main_values_7) := by
  after_results
  try rfl

theorem t12_main_v77 : StableHlo.after hostOps0_12 V (Proc.devRef .tc main_v77) = V (Proc.devRef .tc main_v77) := by
  after_results
  try rfl

theorem t12_main_v79 : StableHlo.after hostOps0_12 V (Proc.devRef .tc main_v79) = (cmpf .ogt (show FVec Ideal S16x256 .f32 from V (Proc.devRef .tc main_values_7)) (broadcastInDim S16x256 ![] bcast_S_S16x256 (constant S_ .f32 0xCCBEBC20#32)) : IVec S16x256 1) := by
  after_results
  try rfl

theorem t12_main_cst_10 : StableHlo.after hostOps0_12 V (Proc.devRef .tc main_cst_10) = (constant S_ .f32 0x00000000#32 : FVec Ideal S_ .f32) := by
  after_results
  try rfl

theorem t13_main_v79 : StableHlo.after hostOps0_13 V (Proc.devRef .tc main_v79) = V (Proc.devRef .tc main_v79) := by
  after_results
  try rfl

theorem t13_main_v77 : StableHlo.after hostOps0_13 V (Proc.devRef .tc main_v77) = V (Proc.devRef .tc main_v77) := by
  after_results
  try rfl

theorem t13_main_v80 : StableHlo.after hostOps0_13 V (Proc.devRef .tc main_v80) = (select (show IVec S16x256 1 from V (Proc.devRef .tc main_v79)) (show FVec Ideal S16x256 .f32 from V (Proc.devRef .tc main_values_7)) (broadcastInDim S16x256 ![] bcast_S_S16x256 (V (Proc.devRef .tc main_cst_10))) : FVec Ideal S16x256 .f32) := by
  after_results
  try rfl

theorem t14_main_v77 : StableHlo.after hostOps0_14 V (Proc.devRef .tc main_v77) = V (Proc.devRef .tc main_v77) := by
  after_results
  try rfl

theorem t14_main_v80 : StableHlo.after hostOps0_14 V (Proc.devRef .tc main_v80) = V (Proc.devRef .tc main_v80) := by
  after_results
  try rfl

theorem t14_main_v81 : StableHlo.after hostOps0_14 V (Proc.devRef .tc main_v81) = (broadcastInDim S16x256x1 ![0, 1] bcast_S16x256_S16x256x1_0_1 (V (Proc.devRef .tc main_v79)) : IVec S16x256x1 1) := by
  after_results
  try rfl

theorem t14_main_cst_11 : StableHlo.after hostOps0_14 V (Proc.devRef .tc main_cst_11) = (constant S_ .f32 0x00000000#32 : FVec Ideal S_ .f32) := by
  after_results
  try rfl

theorem t14_main_cst_12 : StableHlo.after hostOps0_14 V (Proc.devRef .tc main_cst_12) = (constant S_ .f32 0x3F800000#32 : FVec Ideal S_ .f32) := by
  after_results
  try rfl

theorem t15_main_v81 : StableHlo.after hostOps0_15 V (Proc.devRef .tc main_v81) = V (Proc.devRef .tc main_v81) := by
  after_results
  try rfl

theorem t15_main_v80 : StableHlo.after hostOps0_15 V (Proc.devRef .tc main_v80) = V (Proc.devRef .tc main_v80) := by
  after_results
  try rfl

theorem t15_main_v82 : StableHlo.after hostOps0_15 V (Proc.devRef .tc main_v82) = (minimumf (broadcastInDim S16x256x4 ![] bcast_S_S16x256x4 (V (Proc.devRef .tc main_cst_12))) (maximumf (broadcastInDim S16x256x4 ![] bcast_S_S16x256x4 (V (Proc.devRef .tc main_cst_11))) (show FVec Ideal S16x256x4 .f32 from V (Proc.devRef .tc main_v77))) : FVec Ideal S16x256x4 .f32) := by
  after_results
  try rfl

theorem t16_main_v82 : StableHlo.after hostOps0_16 V (Proc.devRef .tc main_v82) = V (Proc.devRef .tc main_v82) := by
  after_results
  try rfl

theorem t16_main_v81 : StableHlo.after hostOps0_16 V (Proc.devRef .tc main_v81) = V (Proc.devRef .tc main_v81) := by
  after_results
  try rfl

theorem t16_main_v80 : StableHlo.after hostOps0_16 V (Proc.devRef .tc main_v80) = V (Proc.devRef .tc main_v80) := by
  after_results
  try rfl

theorem t16_main_cst_13 : StableHlo.after hostOps0_16 V (Proc.devRef .tc main_cst_13) = (constant S_ .f32 0x00000000#32 : FVec Ideal S_ .f32) := by
  after_results
  try rfl

theorem t17_main_v80 : StableHlo.after hostOps0_17 V (Proc.devRef .tc main_v80) = V (Proc.devRef .tc main_v80) := by
  after_results
  try rfl

theorem t17_main_v83 : StableHlo.after hostOps0_17 V (Proc.devRef .tc main_v83) = (select (broadcastInDim S16x256x4 ![0, 1, 2] bcast_S16x256x1_S16x256x4_0_1_2 (show IVec S16x256x1 1 from V (Proc.devRef .tc main_v81))) (show FVec Ideal S16x256x4 .f32 from V (Proc.devRef .tc main_v82)) (broadcastInDim S16x256x4 ![] bcast_S_S16x256x4 (V (Proc.devRef .tc main_cst_13))) : FVec Ideal S16x256x4 .f32) := by
  after_results
  try rfl

/-- The scores with the suppressed ones put last. -/
def maskF (K : IVec S16x1000 1) (S : FVec Ideal S16x1000 .f32) : FVec Ideal S16x1000 .f32 :=
  select K S (broadcastInDim S16x1000 ![] bcast_S_S16x1000 (constant S_ .f32 0xCE6E6B28#32))

abbrev lastV (K : IVec S16x1000 1) (S : FVec Ideal S16x1000 .f32) : FVec Ideal S16x256 .f32 := (Host.topK S16x256 1 (FloatOps.cmpfTotal .gt) (maskF K S) sliceFits_S16x1000_S16x256).1

abbrev lastI (K : IVec S16x1000 1) (S : FVec Ideal S16x1000 .f32) : IVec S16x256 32 := (Host.topK S16x256 1 (FloatOps.cmpfTotal .gt) (maskF K S) sliceFits_S16x1000_S16x256).2

def okF (Y : FVec Ideal S16x256 .f32) : IVec S16x256 1 := cmpf .ogt Y (broadcastInDim S16x256 ![] bcast_S_S16x256 (constant S_ .f32 0xCCBEBC20#32))

def outSF (Y : FVec Ideal S16x256 .f32) : FVec Ideal S16x256 .f32 := select (okF Y) Y (broadcastInDim S16x256 ![] bcast_S_S16x256 (constant S_ .f32 0x00000000#32))

def outBF (Y : FVec Ideal S16x256 .f32) (G : FVec Ideal S16x256x4 .f32) : FVec Ideal S16x256x4 .f32 :=
  select (broadcastInDim S16x256x4 ![0, 1, 2] bcast_S16x256x1_S16x256x4_0_1_2 (broadcastInDim S16x256x1 ![0, 1] bcast_S16x256_S16x256x1_0_1 (okF Y)))
    (minimumf (broadcastInDim S16x256x4 ![] bcast_S_S16x256x4 (constant S_ .f32 0x3F800000#32)) (maximumf (broadcastInDim S16x256x4 ![] bcast_S_S16x256x4 (constant S_ .f32 0x00000000#32)) G))
    (broadcastInDim S16x256x4 ![] bcast_S_S16x256x4 (constant S_ .f32 0x00000000#32))

def gatF (K : IVec S16x1000 1) (S : FVec Ideal S16x1000 .f32) (X : FVec Ideal S16x1000x4 .f32) : FVec Ideal S16x256x4 .f32 :=
  Host.gather gather_S16x1000x4_S16x256x1_S16x256x4_2_1_0_0_1_2_114 X (fixL 1000#32 (broadcastInDim S16x256x1 ![0, 1] bcast_S16x256_S16x256x1_0_1 (lastI K S)))

theorem post_v80 : StableHlo.afterL postI V (Proc.devRef .tc main_v80) = outSF (lastV (V (Proc.devRef .tc main_v74_3)) (V (Proc.devRef .tc main_v72))) := by
  simp only [afterL_cons, afterL_nil]
  rw [t17_main_v80, t16_main_v80, t15_main_v80, t14_main_v80, t13_main_v80, t12_main_v79, t12_main_values_7, t12_main_cst_10, t11_main_values_7, t10_main_values_7, t9_main_v75, t8_main_v74_3, t8_main_v72, t8_main_cst_6]
  rfl

theorem post_v83 : StableHlo.afterL postI V (Proc.devRef .tc main_v83) = outBF (lastV (V (Proc.devRef .tc main_v74_3)) (V (Proc.devRef .tc main_v72)))
    (gatF (V (Proc.devRef .tc main_v74_3)) (V (Proc.devRef .tc main_v72)) (V (Proc.devRef .tc main_v71))) := by
  simp only [afterL_cons, afterL_nil]
  rw [t17_main_v83, t16_main_cst_13, t16_main_v81, t16_main_v82, t15_main_v81, t15_main_v82, t14_main_v81, t14_main_cst_11, t14_main_cst_12, t14_main_v77, t13_main_v79, t13_main_v77, t12_main_v79, t12_main_v77,
    t11_main_values_7, t11_main_v77, t10_main_values_7, t10_main_v76, t10_main_v71, t9_main_v75, t9_main_v71, t8_main_v71, t8_main_v74_3, t8_main_v72, t8_main_cst_6]
  rfl

theorem maskF_at (K : IVec S16x1000 1) (S : FVec Ideal S16x1000 .f32) (b : Fin 16) (r : Fin 1000) : maskF K S (ix2 b r) = Scalar.select (K (ix2 b r)) (S (ix2 b r)) (Ideal.ofBits .f32 0xCE6E6B28#32) := by
  pointwise [maskF]
  try rfl

theorem okF_at (Y : FVec Ideal S16x256 .f32) (b : Fin 16) (o : Fin 256) : okF Y (ix2 b o) = BitVec.ofBool (decide (Ideal.ofBits .f32 0xCCBEBC20#32 < Y (ix2 b o))) := by
  pointwise [okF]
  try rfl

theorem outSF_at (Y : FVec Ideal S16x256 .f32) (b : Fin 16) (o : Fin 256) : outSF Y (ix2 b o) = if Ideal.ofBits .f32 0xCCBEBC20#32 < Y (ix2 b o) then Y (ix2 b o) else 0 := by
  have h : outSF Y (ix2 b o) = Scalar.select (okF Y (ix2 b o)) (Y (ix2 b o)) (Ideal.ofBits .f32 0#32) := by
    rw [outSF]
    generalize okF Y = Z
    pointwise
    try rfl
  rw [h, okF_at, Ideal.ofBits_zero_f32]
  by_cases hy : Ideal.ofBits .f32 0xCCBEBC20#32 < Y (ix2 b o)
  · simp [Scalar.select, hy]
  · simp [Scalar.select, hy]

theorem one_f32 : Ideal.ofBits .f32 0x3F800000#32 = 1 := by
  simp [Ideal.ofBits, Ideal.ieee]
  rw [← EReal.coe_mul]
  norm_num

theorem neg_one_f32 : Ideal.ofBits .f32 0xBF800000#32 = ((-1 : ℝ) : EReal) := by
  simp [Ideal.ofBits, Ideal.ieee]
  rw [← EReal.coe_mul]
  norm_num

theorem lo_f32 : Ideal.ofBits .f32 0xCE6E6B28#32 = ((-1000000000 : ℝ) : EReal) := by
  simp [Ideal.ofBits, Ideal.ieee]
  rw [← EReal.coe_pow, ← EReal.coe_mul]
  norm_num

theorem mark_f32 : Ideal.ofBits .f32 0xCCBEBC20#32 = ((-100000000 : ℝ) : EReal) := by
  simp [Ideal.ofBits, Ideal.ieee]
  rw [← EReal.coe_pow, ← EReal.coe_mul]
  norm_num

theorem outBF_at (Y : FVec Ideal S16x256 .f32) (G : FVec Ideal S16x256x4 .f32) (b : Fin 16) (o : Fin 256) (c : Fin 4) :
    outBF Y G (ix3 b o c) = if Ideal.ofBits .f32 0xCCBEBC20#32 < Y (ix2 b o) then min 1 (max 0 (G (ix3 b o c))) else 0 := by
  have h : outBF Y G (ix3 b o c) = Scalar.select (okF Y (ix2 b o)) (min (Ideal.ofBits .f32 0x3F800000#32) (max (Ideal.ofBits .f32 0#32) (G (ix3 b o c)))) (Ideal.ofBits .f32 0#32) := by
    rw [outBF]
    generalize okF Y = Z
    pointwise
    try rfl
  rw [h, okF_at, Ideal.ofBits_zero_f32, one_f32]
  by_cases hy : Ideal.ofBits .f32 0xCCBEBC20#32 < Y (ix2 b o)
  · simp [Scalar.select, hy]
  · simp [Scalar.select, hy]

/-- Where the last selection's entry `o` comes from. -/
abbrev pick (M : FVec Ideal S16x1000 .f32) (b : Fin 16) (o : Fin 256) : Fin 1000 := sortedFrom (bef fun i => M (ix2 b i)) (o.castLE (by decide))

theorem lastV_at (K : IVec S16x1000 1) (S : FVec Ideal S16x1000 .f32) (b : Fin 16) (o : Fin 256) : lastV K S (ix2 b o) = maskF K S (ix2 b (pick (maskF K S) b o)) :=
  (top_at (B := 16) (N := 1000) (k := 256) (by decide) (maskF K S) _ b o).1

theorem lastI_at (K : IVec S16x1000 1) (S : FVec Ideal S16x1000 .f32) (b : Fin 16) (o : Fin 256) : lastI K S (ix2 b o) = BitVec.ofNat 32 (pick (maskF K S) b o).val :=
  (top_at (B := 16) (N := 1000) (k := 256) (by decide) (maskF K S) _ b o).2

theorem fixL_at (n : ℕ) (x : IVec S16x256x1 32) (b : Fin 16) (r : Fin 256) (t : ℕ) (ht : t < 10000) (hx : x (ix3 b r 0) = BitVec.ofNat 32 t) : fixL (BitVec.ofNat 32 n) x (ix3 b r 0) = BitVec.ofNat 32 t := by
  have h : fixL (BitVec.ofNat 32 n) x (ix3 b r 0) = Scalar.select (IntOp.cmpi .slt (x (ix3 b r 0)) 0#32) (IntOp.addi (x (ix3 b r 0)) (BitVec.ofNat 32 n)) (x (ix3 b r 0)) := by
    pointwise [fixL]
  rw [h, hx, word_fix t n ht]

theorem bcL_at (x : IVec S16x256 32) (b : Fin 16) (r : Fin 256) : broadcastInDim S16x256x1 ![0, 1] bcast_S16x256_S16x256x1_0_1 x (ix3 b r 0) = x (ix2 b r) := by
  pointwise

theorem gatF_at (K : IVec S16x1000 1) (S : FVec Ideal S16x1000 .f32) (X : FVec Ideal S16x1000x4 .f32) (b : Fin 16) (o : Fin 256) (c : Fin 4) :
    gatF K S X (ix3 b o c) = X (ix3 b (pick (maskF K S) b o) c) := by
  have e2 : fixL 1000#32 (broadcastInDim S16x256x1 ![0, 1] bcast_S16x256_S16x256x1_0_1 (lastI K S)) (ix3 b o 0) = BitVec.ofNat 32 (pick (maskF K S) b o).val :=
    fixL_at 1000 _ b o _ (by omega) ((bcL_at _ b o).trans (lastI_at K S b o))
  unfold gatF
  refine (rows_taken (B := 16) (N := 1000) (R := 256) (C := 4) (by decide) gather_S16x1000x4_S16x256x1_S16x256x4_2_1_0_0_1_2_114_wf _ _ b o c).trans ?_
  refine congrArg (fun k => X (ix3 b k c)) (Fin.ext ?_)
  show min (fixL 1000#32 (broadcastInDim S16x256x1 ![0, 1] bcast_S16x256_S16x256x1_0_1 (lastI K S)) (ix3 b o 0)).toInt.toNat (1000 - 1) = _
  rw [e2, word_nat' _ (by omega)]
  omega

end Cert.ReferenceIdeal.Val

end
-- ==== Proof.PureLast.lean ====
/- The kept entries, selected last: they come first, in their order. -/
module

public import proofs.«01_k».proof.Proof.PureSort
public import proofs.«01_k».proof.Proof.PureNms

@[expose] public section

noncomputable section

namespace Cert.Pure

open Idealize.ShloMosaic Idealize.ShloMosaic.SortNet

section

variable {N : ℕ} (p : ℕ → Bool) (v : Fin N → EReal) (lo : EReal) (m : Fin N → EReal)

/-- The kept entry with `i` kept ones before it. -/
def nthKept (i : Fin (Nat.count (fun r => p r = true) N)) : Fin N :=
  ⟨(count_reached p i.val N i.isLt).choose, (count_reached p i.val N i.isLt).choose_spec.1⟩

theorem nthKept_mem (i : Fin (Nat.count (fun r => p r = true) N)) : p (nthKept p i).val = true := (count_reached p i.val N i.isLt).choose_spec.2.1

theorem nthKept_count (i : Fin (Nat.count (fun r => p r = true) N)) : Nat.count (fun r => p r = true) (nthKept p i).val = i.val := (count_reached p i.val N i.isLt).choose_spec.2.2

theorem nthKept_lt {i j : Fin (Nat.count (fun r => p r = true) N)} (h : i < j) : nthKept p i < nthKept p j := by
  by_contra hc
  have h1 : (nthKept p j).val ≤ (nthKept p i).val := by
    have := not_lt.mp hc
    exact this
  have h2 := Nat.count_monotone (fun r => p r = true) h1
  rw [nthKept_count, nthKept_count] at h2
  have h3 : i.val < j.val := h
  omega

theorem count_le_N : Nat.count (fun r => p r = true) N ≤ N := Nat.count_le _

theorem sorted_kept (hv : ∀ i j, i < j → v j ≤ v i) (hlo : ∀ i, lo < v i) (hm : ∀ i : Fin N, m i = if p i.val = true then v i else lo)
    (i : Fin (Nat.count (fun r => p r = true) N)) : sortedFrom (bef m) (i.castLE (count_le_N p)) = nthKept p i := by
  have hk : ∀ i, m (nthKept p i) = v (nthKept p i) := fun i => by rw [hm, if_pos (nthKept_mem p i)]
  refine (bef_strict m).sortedFrom_eq_of_prefix (count_le_N p) (nthKept p) ?_ ?_ ?_ i
  · intro a b hab
    apply Fin.ext
    rw [← nthKept_count p a, ← nthKept_count p b, hab]
  · intro a b hab
    rw [Bool.eq_false_iff]
    intro hb
    rw [bef_iff, hk, hk] at hb
    have hl := nthKept_lt p hab
    have hle := hv _ _ hl
    rcases hb with hb | hb
    · exact absurd hb (not_lt.mpr hle)
    · exact absurd hb.2 (not_lt.mpr hl.le)
  · intro a q hq
    have hp : ¬ p q.val = true := by
      intro hp
      have hc : Nat.count (fun r => p r = true) q.val < Nat.count (fun r => p r = true) N := count_lt_of_lt p q.isLt hp
      refine hq ⟨_, hc⟩ (Fin.ext (count_unique p (nthKept_mem p _) hp (nthKept_count p _)))
    rw [Bool.eq_false_iff]
    intro hb
    rw [bef_iff, hk, hm q, if_neg hp] at hb
    rcases hb with hb | hb
    · exact absurd hb (not_lt.mpr (hlo _).le)
    · exact absurd hb.1 (hlo _).ne

theorem last_kept (hv : ∀ i j, i < j → v j ≤ v i) (hlo : ∀ i, lo < v i) (hm : ∀ i : Fin N, m i = if p i.val = true then v i else lo)
    (o r : Fin N) (hp : p r.val = true) (hc : Nat.count (fun r => p r = true) r.val = o.val) : sortedFrom (bef m) o = r := by
  have hl : o.val < Nat.count (fun r => p r = true) N := hc ▸ count_lt_of_lt p r.isLt hp
  have h := sorted_kept p v lo m hv hlo hm ⟨o.val, hl⟩
  refine Eq.trans ?_ (h.trans (Fin.ext (count_unique p (nthKept_mem p _) hp ((nthKept_count p _).trans hc.symm))))
  rfl

theorem last_none (hv : ∀ i j, i < j → v j ≤ v i) (hlo : ∀ i, lo < v i) (hm : ∀ i : Fin N, m i = if p i.val = true then v i else lo)
    (o : Fin N) (hc : Nat.count (fun r => p r = true) N ≤ o.val) : ¬ p (sortedFrom (bef m) o).val = true := by
  intro hp
  have hl : Nat.count (fun r => p r = true) (sortedFrom (bef m) o).val < Nat.count (fun r => p r = true) N := count_lt_of_lt p (sortedFrom (bef m) o).isLt hp
  have h := last_kept p v lo m hv hlo hm ⟨_, lt_of_lt_of_le hl (count_le_N p)⟩ (sortedFrom (bef m) o) hp rfl
  have h2 := sortedFrom_injective (bef m) h
  have h3 : Nat.count (fun r => p r = true) (sortedFrom (bef m) o).val = o.val := congrArg Fin.val h2
  omega

end

end Cert.Pure

end
-- ==== Proof.RefVal.lean ====
/- The reference's two results, entry by entry. -/
module

public import proofs.«01_k».proof.Proof.RefPost
public import proofs.«01_k».proof.Proof.PureLast

@[expose] public section

set_option maxRecDepth 16384
set_option maxHeartbeats 1000000

noncomputable section

namespace Cert.ReferenceIdeal.Val

open Cert.ReferenceIdeal Cert.ReferenceIdeal.Gen Cert.ReferenceIdeal.Value Cert.Pure
open Idealize.ShloMosaic Idealize.ShloMosaic.TcCoe Idealize.ShloMosaic.Tactic Idealize.ShloMosaic.StableHlo
open Cert.KernelIdeal.Run (supOf over areaOf iouOf kpt)

section

variable (m : (ℓ : Loc nD τ sig) → Buf (Elt Ideal) ℓ) (c : Dev nD)

theorem atTrip_keep (r : Ref sig .tc) (h1 : r ∉ condOps_W) (h2 : r ∉ while0Ops0_W) :
    ∀ k, atK m k c (Proc.devRef .tc r) = entryContents preI m c (Proc.devRef .tc r)
  | 0 => rfl
  | k + 1 => by
    rw [show atK m (k + 1) c = afterL bodyI (after condOps (atK m k c)) from rfl]
    rw [show afterL bodyI (after condOps (atK m k c)) = after while0Ops0 (after condOps (atK m k c)) from rfl]
    rw [after_of_writes_sub while0Ops0 _ while0Ops0_writes h2, after_of_writes_sub condOps _ condOps_writes h1, atTrip_keep r h1 h2 k]

/-- What the buffers hold after the loop. -/
abbrev endC : Valuation τ sig (Elt Ideal) := after condOps (atK m 1000 c)

theorem end_71 : endC m c (Proc.devRef .tc main_v71) = selB (launchContents m c) := by
  rw [endC, after_of_writes_sub condOps _ condOps_writes (r := main_v71) (by decide), atTrip_keep m c main_v71 (by decide) (by decide)]
  exact entry_71 _

theorem end_72 : endC m c (Proc.devRef .tc main_v72) = selS (launchContents m c) := by
  rw [endC, after_of_writes_sub condOps _ condOps_writes (r := main_v72) (by decide), atTrip_keep m c main_v72 (by decide) (by decide)]
  exact entry_72 _

theorem end_74 (b : Fin 16) (r : Fin 1000) : (show IVec S16x1000 1 from endC m c (Proc.devRef .tc main_v74_3)) (ix2 b r) = BitVec.ofBool (kpt (tab (selB (launchContents m c))) b r.val) := by
  have h0 : endC m c (Proc.devRef .tc main_v74_3) = (STEP^[1000] (entryContents preI m c)) (Proc.devRef .tc main_v74_3) := by
    rw [endC, after_of_writes_sub condOps _ condOps_writes (r := main_v74_3) (by decide)]
    exact atK_agree m c 1000 main_v74_3 (by decide)
  have h := (loop_at (entryContents preI m c) (entry_74_2 _) (entry_74_3 _) 1000 le_rfl).2.2 b r
  rw [show entryContents preI m c (Proc.devRef .tc main_v74_0) = selB (launchContents m c) from entry_74_0 _, kp_of_le _ r.isLt.le] at h
  rw [h0]
  refine h.trans ?_
  rw [kpt, decide_eq_true r.isLt, Bool.true_and]

theorem fin_80 : finalContents condOps preI bodyI postI 1000 m c (Proc.devRef .tc main_v80) = outSF (lastV (endC m c (Proc.devRef .tc main_v74_3)) (selS (launchContents m c))) := by
  rw [← end_72]
  exact post_v80 (endC m c)

theorem fin_83 : finalContents condOps preI bodyI postI 1000 m c (Proc.devRef .tc main_v83) = outBF (lastV (endC m c (Proc.devRef .tc main_v74_3)) (selS (launchContents m c)))
    (gatF (endC m c (Proc.devRef .tc main_v74_3)) (selS (launchContents m c)) (selB (launchContents m c))) := by
  rw [← end_72, ← end_71]
  exact post_v83 (endC m c)

end

section

variable (K : IVec S16x1000 1) (S : FVec Ideal S16x1000 .f32) (X : FVec Ideal S16x1000x4 .f32) (b : Fin 16) (p : ℕ → Bool)
  (hK : ∀ r : Fin 1000, K (ix2 b r) = BitVec.ofBool (p r.val)) (hS : ∀ r : Fin 1000, ((-1 : ℝ) : EReal) ≤ S (ix2 b r))
  (hA : ∀ i j : Fin 1000, i < j → S (ix2 b j) ≤ S (ix2 b i))

include hK in
theorem mask_if (r : Fin 1000) : maskF K S (ix2 b r) = if p r.val = true then S (ix2 b r) else Ideal.ofBits .f32 0xCE6E6B28#32 := by
  rw [maskF_at, hK]
  cases p r.val
  · simp [Scalar.select]
  · simp [Scalar.select]

include hS in
theorem mask_lo (r : Fin 1000) : Ideal.ofBits .f32 0xCE6E6B28#32 < S (ix2 b r) := by
  rw [lo_f32]
  exact lt_of_lt_of_le (EReal.coe_lt_coe_iff.mpr (by norm_num)) (hS r)

include hK hS hA in
theorem pick_kept (o : Fin 256) (r : Fin 1000) (hp : p r.val = true) (hc : Nat.count (fun r => p r = true) r.val = o.val) : pick (maskF K S) b o = r :=
  last_kept p (fun i => S (ix2 b i)) _ (fun i => maskF K S (ix2 b i)) hA (mask_lo S b hS) (mask_if K S b p hK) (o.castLE (by decide)) r hp hc

include hK hS hA in
theorem last_val_kept (o : Fin 256) (r : Fin 1000) (hp : p r.val = true) (hc : Nat.count (fun r => p r = true) r.val = o.val) :
    lastV K S (ix2 b o) = S (ix2 b r) ∧ Ideal.ofBits .f32 0xCCBEBC20#32 < lastV K S (ix2 b o) := by
  have h : lastV K S (ix2 b o) = S (ix2 b r) := by
    rw [lastV_at, pick_kept K S b p hK hS hA o r hp hc, mask_if K S b p hK, if_pos hp]
  refine ⟨h, ?_⟩
  rw [h, mark_f32]
  exact lt_of_lt_of_le (EReal.coe_lt_coe_iff.mpr (by norm_num)) (hS r)

include hK hS hA in
theorem last_val_none (o : Fin 256) (hc : Nat.count (fun r => p r = true) 1000 ≤ o.val) : ¬ Ideal.ofBits .f32 0xCCBEBC20#32 < lastV K S (ix2 b o) := by
  have h := last_none p (fun i => S (ix2 b i)) _ (fun i => maskF K S (ix2 b i)) hA (mask_lo S b hS) (mask_if K S b p hK) (o.castLE (by decide)) hc
  rw [lastV_at, mask_if K S b p hK, if_neg h, mark_f32, lo_f32]
  exact not_lt.mpr (EReal.coe_le_coe_iff.mpr (by norm_num))

end

section

variable (m : (ℓ : Loc nD τ sig) → Buf (Elt Ideal) ℓ) (c : Dev nD)
  (hs : ∀ (b : Fin 16) (i : Fin 8649), ((-1 : ℝ) : EReal) ≤ scoreF (launchContents m c) (ix2 b i))

include hs in
theorem sel_ge (b : Fin 16) (r : Fin 1000) : ((-1 : ℝ) : EReal) ≤ selS (launchContents m c) (ix2 b r) := by
  rw [selS_at]; exact hs b _

theorem sel_anti (b : Fin 16) (i j : Fin 1000) (h : i < j) : selS (launchContents m c) (ix2 b j) ≤ selS (launchContents m c) (ix2 b i) := by
  rw [selS_at, selS_at]; exact ord_anti _ b i j h

/-- The first result. -/
abbrev resB : FVec Ideal S16x256x4 .f32 := finalContents condOps preI bodyI postI 1000 m c (Proc.devRef .tc main_v83)

/-- The second result. -/
abbrev resS : FVec Ideal S16x256 .f32 := finalContents condOps preI bodyI postI 1000 m c (Proc.devRef .tc main_v80)

include hs in
theorem ref_kept (b : Fin 16) (o : Fin 256) (r : Fin 1000) (hp : kpt (tab (selB (launchContents m c))) b r.val = true)
    (hc : Nat.count (fun r => kpt (tab (selB (launchContents m c))) b r = true) r.val = o.val) :
    resS m c (ix2 b o) = selS (launchContents m c) (ix2 b r) ∧ ∀ ch : Fin 4, resB m c (ix3 b o ch) = min 1 (max 0 (selB (launchContents m c) (ix3 b r ch))) := by
  have h := last_val_kept _ _ b _ (end_74 m c b) (sel_ge m c hs b) (sel_anti m c b) o r hp hc
  have hq := pick_kept _ _ b _ (end_74 m c b) (sel_ge m c hs b) (sel_anti m c b) o r hp hc
  constructor
  · rw [resS, fin_80, outSF_at, if_pos h.2]
    exact h.1
  · intro ch
    rw [resB, fin_83, outBF_at, if_pos h.2, gatF_at]
    exact congrArg (fun k => min 1 (max 0 (selB (launchContents m c) (ix3 b k ch)))) hq

include hs in
theorem ref_none (b : Fin 16) (o : Fin 256) (hc : Nat.count (fun r => kpt (tab (selB (launchContents m c))) b r = true) 1000 ≤ o.val) :
    resS m c (ix2 b o) = 0 ∧ ∀ ch : Fin 4, resB m c (ix3 b o ch) = 0 := by
  have h := last_val_none _ _ b _ (end_74 m c b) (sel_ge m c hs b) (sel_anti m c b) o hc
  constructor
  · rw [resS, fin_80, outSF_at, if_neg h]
  · intro ch
    rw [resB, fin_83, outBF_at, if_neg h]

end

end Cert.ReferenceIdeal.Val

end
-- ==== Proof.KernelRows.lean ====
/- The candidates of the kernel are the candidates of the reference. -/
module

public import proofs.«01_k».proof.Proof.KernelVal
public import proofs.«01_k».proof.Proof.RefVal

@[expose] public section

set_option maxRecDepth 16384

noncomputable section

namespace Cert.KernelIdeal.Run

open Cert.KernelIdeal Cert.KernelIdeal.Gen Cert.Pure
open Idealize.ShloMosaic Idealize.ShloMosaic.TcCoe Idealize.ShloMosaic.Tactic

/-- A decoded corner of one candidate, from the unpadded arrays. -/
def corner (X : S16x8649x4.Idx → EReal) (A : S8649x4.Idx → EReal) (ch : Fin 4) (b : Fin 16) (i : Fin 8649) : EReal :=
  match ch with
  | 0 => lowC (A (ix2 i 0)) (A (ix2 i 2)) (X (ix3 b i 0)) (X (ix3 b i 2))
  | 1 => lowC (A (ix2 i 1)) (A (ix2 i 3)) (X (ix3 b i 1)) (X (ix3 b i 3))
  | 2 => highC (A (ix2 i 0)) (A (ix2 i 2)) (X (ix3 b i 0)) (X (ix3 b i 2))
  | 3 => highC (A (ix2 i 1)) (A (ix2 i 3)) (X (ix3 b i 1)) (X (ix3 b i 3))

theorem fin_of_val {n : ℕ} (p : Fin n) (q : ℕ) (h : q = p.val) (hq : q < n) : p = ⟨q, hq⟩ := Fin.ext h.symm

/-- The first row is the scores. -/
theorem rowsOf_zero (D : S4x16x16384.Idx → EReal) (P : S16x16384.Idx → EReal) (A : S4x1x16384.Idx → EReal) (b : Fin 16) (i : Fin 16384) :
    rowsOf D P A 0 b i = P (ix2 b i) := rfl

/-- A row at an unpadded place. -/
theorem corner_rows (D : S4x16x16384.Idx → EReal) (S : S16x16384.Idx → EReal) (B : S4x1x16384.Idx → EReal) (X : FVec Ideal S16x8649x4 .f32) (A : FVec Ideal S8649x4 .f32)
    (h0 : ∀ (ch : Fin 4) (b : Fin 16) (i : Fin 16384) (h : i.val < 8649), D (ix3 ch b i) = X (ix3 b ⟨i.val, h⟩ ch))
    (h2 : ∀ (ch : Fin 4) (i : Fin 16384) (h : i.val < 8649), B (ix3 ch 0 i) = A (ix2 ⟨i.val, h⟩ ch))
    (ch : Fin 4) (b : Fin 16) (q : Fin 16384) (hq : q.val < 8649) : rowsOf D S B ch.succ b q = corner X A ch b ⟨q.val, hq⟩ := by
  fin_cases ch
  · show lowC (B (ix3 0 0 q)) (B (ix3 2 0 q)) (D (ix3 0 b q)) (D (ix3 2 b q)) = lowC (A (ix2 ⟨q.val, hq⟩ 0)) (A (ix2 ⟨q.val, hq⟩ 2)) (X (ix3 b ⟨q.val, hq⟩ 0)) (X (ix3 b ⟨q.val, hq⟩ 2))
    rw [h0 _ _ _ hq, h0 _ _ _ hq, h2 _ _ hq, h2 _ _ hq]
  · show lowC (B (ix3 1 0 q)) (B (ix3 3 0 q)) (D (ix3 1 b q)) (D (ix3 3 b q)) = lowC (A (ix2 ⟨q.val, hq⟩ 1)) (A (ix2 ⟨q.val, hq⟩ 3)) (X (ix3 b ⟨q.val, hq⟩ 1)) (X (ix3 b ⟨q.val, hq⟩ 3))
    rw [h0 _ _ _ hq, h0 _ _ _ hq, h2 _ _ hq, h2 _ _ hq]
  · show highC (B (ix3 0 0 q)) (B (ix3 2 0 q)) (D (ix3 0 b q)) (D (ix3 2 b q)) = highC (A (ix2 ⟨q.val, hq⟩ 0)) (A (ix2 ⟨q.val, hq⟩ 2)) (X (ix3 b ⟨q.val, hq⟩ 0)) (X (ix3 b ⟨q.val, hq⟩ 2))
    rw [h0 _ _ _ hq, h0 _ _ _ hq, h2 _ _ hq, h2 _ _ hq]
  · show highC (B (ix3 1 0 q)) (B (ix3 3 0 q)) (D (ix3 1 b q)) (D (ix3 3 b q)) = highC (A (ix2 ⟨q.val, hq⟩ 1)) (A (ix2 ⟨q.val, hq⟩ 3)) (X (ix3 b ⟨q.val, hq⟩ 1)) (X (ix3 b ⟨q.val, hq⟩ 3))
    rw [h0 _ _ _ hq, h0 _ _ _ hq, h2 _ _ hq, h2 _ _ hq]

/-- The first places of a sorted padded row, at any sizes. -/
theorem prefix_src (R k : ℕ) (hR : R ≤ 2 ^ 14) (hk : k ≤ R) (lo : EReal) (s : Fin R → EReal) (hs : ∀ i, lo ≤ s i) (p : Fin (2 ^ 14) → EReal)
    (hp : ∀ i : Fin (2 ^ 14), p i = if h : i.val < R then s ⟨i.val, h⟩ else lo) (r : Fin k) (q : Fin (2 ^ 14)) (hq : q.val = r.val) (w : Fin R) (hw : w.val = r.val) :
    (src p 105 q).val = (sortedFrom (bef s) w).val := by
  have h := prefix_real (M := 2 ^ 14) (R := R) (k := k) hR hk lo s hs p hp (src p 105) (src_bij p 105) (fun i j hij => src_sorted p i j hij) r
  have e1 : q = r.castLE (hk.trans hR) := Fin.ext hq
  have e2 : w = r.castLE hk := Fin.ext hw
  rw [e1, e2]
  exact h

section Rows
variable (arg0 : Memref sig .tc .vmem S4x16x16384 .f32) (arg1 : Memref sig .tc .vmem S16x16384 .f32) (arg2 : Memref sig .tc .vmem S4x1x16384 .f32)
  (x0 : BufTy.Contents (Elt Ideal) arg0.view.ty) (x1 : BufTy.Contents (Elt Ideal) arg1.view.ty) (x2 : BufTy.Contents (Elt Ideal) arg2.view.ty)
  (X : FVec Ideal S16x8649x4 .f32) (P : FVec Ideal S16x8649 .f32) (A : FVec Ideal S8649x4 .f32)
  (h0 : ∀ (ch : Fin 4) (b : Fin 16) (i : Fin 16384) (h : i.val < 8649), arg0.view.read (Elt Ideal) x0 (ix3 ch b i) = X (ix3 b ⟨i.val, h⟩ ch))
  (h1 : ∀ (b : Fin 16) (i : Fin 16384), arg1.view.read (Elt Ideal) x1 (ix2 b i) = if h : i.val < 8649 then P (ix2 b ⟨i.val, h⟩) else ((-1 : ℝ) : EReal))
  (h2 : ∀ (ch : Fin 4) (i : Fin 16384) (h : i.val < 8649), arg2.view.read (Elt Ideal) x2 (ix3 ch 0 i) = A (ix2 ⟨i.val, h⟩ ch))
  (hs : ∀ (b : Fin 16) (i : Fin 8649), ((-1 : ℝ) : EReal) ≤ P (ix2 b i))

include h1 in
theorem row0 (b : Fin 16) (i : Fin 16384) : rows arg0 arg1 arg2 x0 x1 x2 0 b i = if h : i.val < 8649 then P (ix2 b ⟨i.val, h⟩) else ((-1 : ℝ) : EReal) := by
  unfold rows
  rw [rowsOf_zero]
  exact h1 b i

include h1 hs in
/-- The first thousand places of the kernel's sort hold the reference's first thousand candidates. -/
theorem srcOf_val (b : Fin 16) (r : Fin 1000) (q : Fin 16384) (hq : q.val = r.val) :
    (srcOf arg0 arg1 arg2 x0 x1 x2 b q).val = (Cert.ReferenceIdeal.Val.ord P b r).val := by
  have hp := row0 arg0 arg1 arg2 x0 x1 x2 P h1 b
  unfold srcOf Cert.ReferenceIdeal.Val.ord
  generalize rows arg0 arg1 arg2 x0 x1 x2 0 b = p at hp ⊢
  exact prefix_src 8649 1000 (by decide) (by decide) ((-1 : ℝ) : EReal) (fun i => P (ix2 b i)) (hs b) p hp r q hq (r.castLE (by decide)) rfl

include h0 h1 h2 hs in
/-- A row of the sorted candidates. -/
theorem srow_real (b : Fin 16) (r : ℕ) (hr : r < 1000) (ch : Fin 4) :
    srow arg0 arg1 arg2 x0 x1 x2 ch.succ b r = corner X A ch b (Cert.ReferenceIdeal.Val.ord P b ⟨r, hr⟩) := by
  have hm : r % 16384 = r := Nat.mod_eq_of_lt (by omega)
  have hv := srcOf_val arg0 arg1 arg2 x0 x1 x2 P h1 hs b ⟨r, hr⟩ ⟨r % 16384, Nat.mod_lt _ (by decide)⟩ hm
  unfold srow
  generalize srcOf arg0 arg1 arg2 x0 x1 x2 b ⟨r % 16384, Nat.mod_lt _ (by decide)⟩ = q at hv ⊢
  generalize Cert.ReferenceIdeal.Val.ord P b ⟨r, hr⟩ = p at hv ⊢
  have hq : q.val < 8649 := lt_of_eq_of_lt hv p.isLt
  have hp : p = ⟨q.val, hq⟩ := fin_of_val p q.val hv hq
  subst hp
  exact corner_rows _ _ _ X A h0 h2 ch b q hq

include h1 hs in
/-- The sorted scores. -/
theorem sscore_real (b : Fin 16) (r : ℕ) (hr : r < 1000) :
    srow arg0 arg1 arg2 x0 x1 x2 0 b r = P (ix2 b (Cert.ReferenceIdeal.Val.ord P b ⟨r, hr⟩)) := by
  have hm : r % 16384 = r := Nat.mod_eq_of_lt (by omega)
  have hv := srcOf_val arg0 arg1 arg2 x0 x1 x2 P h1 hs b ⟨r, hr⟩ ⟨r % 16384, Nat.mod_lt _ (by decide)⟩ hm
  unfold srow
  generalize srcOf arg0 arg1 arg2 x0 x1 x2 b ⟨r % 16384, Nat.mod_lt _ (by decide)⟩ = q at hv ⊢
  generalize Cert.ReferenceIdeal.Val.ord P b ⟨r, hr⟩ = p at hv ⊢
  have hq : q.val < 8649 := lt_of_eq_of_lt hv p.isLt
  have hp : p = ⟨q.val, hq⟩ := fin_of_val p q.val hv hq
  subst hp
  exact (row0 arg0 arg1 arg2 x0 x1 x2 P h1 b q).trans (dif_pos hq)

/-- The reference's table of boxes, when its entries are the corners of the ordered candidates. -/
theorem bx_real (T : Cert.ReferenceIdeal.S16x1000x4.Idx → EReal) (hs1 : ∀ (b : Fin 16) (r : ℕ) (hr : r < 1000) (ch : Fin 4), srow arg0 arg1 arg2 x0 x1 x2 ch.succ b r = T (ix3 b ⟨r, hr⟩ ch))
    (b : Fin 16) (r : ℕ) (hr : r < 1000) (ch : Fin 7) (h4 : ch ≠ 4) (h5 : ch ≠ 5) :
    bx arg0 arg1 arg2 x0 x1 x2 ch b r = Cert.ReferenceIdeal.Val.tab T ch b r := by
  have hm : (⟨r % 1000, Nat.mod_lt _ (by decide)⟩ : Fin 1000) = ⟨r, hr⟩ := Fin.ext (Nat.mod_eq_of_lt hr)
  have e0 := hs1 b r hr 0
  have e1 := hs1 b r hr 1
  have e2 := hs1 b r hr 2
  have e3 := hs1 b r hr 3
  unfold bx
  generalize srow arg0 arg1 arg2 x0 x1 x2 = s at e0 e1 e2 e3 ⊢
  unfold boxRows Cert.ReferenceIdeal.Val.tab
  rw [hm]
  fin_cases ch
  · exact e0
  · exact e1
  · exact e2
  · exact e3
  · exact absurd rfl h4
  · exact absurd rfl h5
  · show areaOf (s 1 b r) (s 2 b r) (s 3 b r) (s 4 b r) = _
    rw [← e0, ← e1, ← e2, ← e3]
    rfl

/-- The kept candidates depend on the corners and areas of the first thousand rows. -/
theorem kpt_congr (B B' : Fin 7 → Fin 16 → ℕ → EReal) (h : ∀ (b : Fin 16) (r : ℕ), r < 1000 → ∀ ch : Fin 7, ch ≠ 4 → ch ≠ 5 → B ch b r = B' ch b r) (b : Fin 16) (r : ℕ) :
    kpt B b r = kpt B' b r := by
  unfold kpt
  by_cases hr : r < 1000
  · rw [kept_congr (supOf B b) (supOf B' b) 1000 ?_ r hr]
    intro i r hir hr
    have hi : i < 1000 := by omega
    unfold supOf
    rw [h b i hi 0 (by decide) (by decide), h b i hi 1 (by decide) (by decide), h b i hi 2 (by decide) (by decide), h b i hi 3 (by decide) (by decide), h b i hi 6 (by decide) (by decide),
      h b r hr 0 (by decide) (by decide), h b r hr 1 (by decide) (by decide), h b r hr 2 (by decide) (by decide), h b r hr 3 (by decide) (by decide), h b r hr 6 (by decide) (by decide)]
  · simp [hr]

end Rows

end Cert.KernelIdeal.Run

end
-- ==== Proof.KernelOut.lean ====
/- The kernel's result in terms of the reference's candidates. -/
module

public import proofs.«01_k».proof.Proof.KernelRows

@[expose] public section

set_option maxRecDepth 16384

noncomputable section

namespace Cert.KernelIdeal.Run

open Cert.KernelIdeal Cert.KernelIdeal.Gen Cert.Pure
open Idealize.ShloMosaic Idealize.ShloMosaic.TcCoe Idealize.ShloMosaic.Tactic

section Gen
variable (c : Dev nD) (arg0 : Memref sig .tc .vmem S4x16x16384 .f32) (harg0 : arg0.IsWhole) (arg1 : Memref sig .tc .vmem S16x16384 .f32) (harg1 : arg1.IsWhole) (arg2 : Memref sig .tc .vmem S4x1x16384 .f32) (harg2 : arg2.IsWhole) (arg3 : Memref sig .tc .vmem S16x8x256 .f32) (harg3 : arg3.IsWhole) (arg4 : Memref sig .tc .vmem S5x16x16384 .f32) (harg4 : arg4.IsWhole) (arg5 : Memref sig .tc .vmem S16x16384 .i32) (harg5 : arg5.IsWhole) (arg6 : Memref sig .tc .vmem S7x8x16x128 .f32) (harg6 : arg6.IsWhole)
  (x0 : BufTy.Contents (Elt Ideal) arg0.view.ty) (x1 : BufTy.Contents (Elt Ideal) arg1.view.ty) (x2 : BufTy.Contents (Elt Ideal) arg2.view.ty)
  (X : FVec Ideal S16x8649x4 .f32) (P : FVec Ideal S16x8649 .f32) (A : FVec Ideal S8649x4 .f32)
  (h0 : ∀ (ch : Fin 4) (b : Fin 16) (i : Fin 16384) (h : i.val < 8649), arg0.view.read (Elt Ideal) x0 (ix3 ch b i) = X (ix3 b ⟨i.val, h⟩ ch))
  (h1 : ∀ (b : Fin 16) (i : Fin 16384), arg1.view.read (Elt Ideal) x1 (ix2 b i) = if h : i.val < 8649 then P (ix2 b ⟨i.val, h⟩) else ((-1 : ℝ) : EReal))
  (h2 : ∀ (ch : Fin 4) (i : Fin 16384) (h : i.val < 8649), arg2.view.read (Elt Ideal) x2 (ix3 ch 0 i) = A (ix2 ⟨i.val, h⟩ ch))
  (hs : ∀ (b : Fin 16) (i : Fin 8649), ((-1 : ℝ) : EReal) ≤ P (ix2 b i))
  (T : Cert.ReferenceIdeal.S16x1000x4.Idx → EReal) (hT : ∀ (b : Fin 16) (r : ℕ) (hr : r < 1000) (ch : Fin 4), corner X A ch b (Cert.ReferenceIdeal.Val.ord P b ⟨r, hr⟩) = T (ix3 b ⟨r, hr⟩ ch))

include h0 h1 h2 hs hT in
theorem srow_tab (b : Fin 16) (r : ℕ) (hr : r < 1000) (ch : Fin 4) : srow arg0 arg1 arg2 x0 x1 x2 ch.succ b r = T (ix3 b ⟨r, hr⟩ ch) :=
  (srow_real arg0 arg1 arg2 x0 x1 x2 X P A h0 h1 h2 hs b r hr ch).trans (hT b r hr ch)

include h0 h1 h2 hs hT in
/-- The kernel keeps the candidates the reference keeps. -/
theorem kpt_tab : kpt (bx arg0 arg1 arg2 x0 x1 x2) = kpt (Cert.ReferenceIdeal.Val.tab T) := by
  funext b r
  exact kpt_congr _ _ (fun b r hr ch h4 h5 => bx_real arg0 arg1 arg2 x0 x1 x2 T (srow_tab arg0 arg1 arg2 x0 x1 x2 X P A h0 h1 h2 hs T hT) b r hr ch h4 h5) b r

include h0 h1 h2 hs hT in
/-- Past the kept candidates the kernel stores zero. -/
theorem pay_none (b : Fin 16) (ch : Fin 8) (o : Fin 256) (h : Nat.count (fun r => kpt (Cert.ReferenceIdeal.Val.tab T) b r = true) 1024 ≤ o.val) :
    outPay c arg0 harg0 arg1 harg1 arg2 harg2 arg3 harg3 arg4 harg4 arg5 harg5 arg6 harg6 x0 x1 x2 (ix3 b ch o) = 0 := by
  rw [← kpt_tab arg0 arg1 arg2 x0 x1 x2 X P A h0 h1 h2 hs T hT] at h
  exact out_none c arg0 harg0 arg1 harg1 arg2 harg2 arg3 harg3 arg4 harg4 arg5 harg5 arg6 harg6 x0 x1 x2 b ch o h

/-- The four corners among the stored rows. -/
theorem bx_corner (s : Fin 5 → Fin 16 → ℕ → EReal) (b : Fin 16) (r : ℕ) (ch : Fin 4) (h : 4 ≤ 5) (h' : 5 ≤ 7) : boxRows s ((ch.castLE h).castLE h') b r = s ch.succ b r := by
  fin_cases ch <;> rfl

include h0 h1 h2 hs hT in
/-- A kept candidate's clipped corners. -/
theorem pay_box (b : Fin 16) (ch : Fin 4) (o : Fin 256) (r : ℕ) (hr : r < 1000) (hk : kpt (Cert.ReferenceIdeal.Val.tab T) b r = true)
    (hc : Nat.count (fun i => kpt (Cert.ReferenceIdeal.Val.tab T) b i = true) r = o.val) :
    outPay c arg0 harg0 arg1 harg1 arg2 harg2 arg3 harg3 arg4 harg4 arg5 harg5 arg6 harg6 x0 x1 x2 (ix3 b (ch.castLE (by decide)) o) = min 1 (max 0 (T (ix3 b ⟨r, hr⟩ ch))) := by
  rw [← kpt_tab arg0 arg1 arg2 x0 x1 x2 X P A h0 h1 h2 hs T hT] at hk hc
  refine (out_kept c arg0 harg0 arg1 harg1 arg2 harg2 arg3 harg3 arg4 harg4 arg5 harg5 arg6 harg6 x0 x1 x2 b (ch.castLE (by decide)) o r hr hk hc).trans ?_
  rw [if_pos (show (ch.castLE (by decide) : Fin 5).val < 4 from ch.isLt)]
  refine congrArg (fun z => min 1 (max 0 z)) ?_
  exact (bx_corner _ b r ch _ _).trans (srow_tab arg0 arg1 arg2 x0 x1 x2 X P A h0 h1 h2 hs T hT b r hr ch)

include h0 h1 h2 hs hT in
/-- A kept candidate's score. -/
theorem pay_score (b : Fin 16) (o : Fin 256) (r : ℕ) (hr : r < 1000) (hk : kpt (Cert.ReferenceIdeal.Val.tab T) b r = true)
    (hc : Nat.count (fun i => kpt (Cert.ReferenceIdeal.Val.tab T) b i = true) r = o.val) :
    outPay c arg0 harg0 arg1 harg1 arg2 harg2 arg3 harg3 arg4 harg4 arg5 harg5 arg6 harg6 x0 x1 x2 (ix3 b 4 o) = P (ix2 b (Cert.ReferenceIdeal.Val.ord P b ⟨r, hr⟩)) := by
  rw [← kpt_tab arg0 arg1 arg2 x0 x1 x2 X P A h0 h1 h2 hs T hT] at hk hc
  refine (out_kept c arg0 harg0 arg1 harg1 arg2 harg2 arg3 harg3 arg4 harg4 arg5 harg5 arg6 harg6 x0 x1 x2 b 4 o r hr hk hc).trans ?_
  rw [if_neg (by decide)]
  exact sscore_real arg0 arg1 arg2 x0 x1 x2 P h1 hs b r hr

end Gen

end Cert.KernelIdeal.Run

end
-- ==== Proof.KernelPads.lean ====
/- The padded arguments of the kernel, at an index. -/
module

public import proofs.«01_k».proof.Proof.KernelVal
public import Idealize.ShloMosaic.Lib.KernelVsHost

@[expose] public section

set_option maxRecDepth 16384

noncomputable section

namespace Cert.KernelIdeal.Run

open Cert.KernelIdeal Cert.KernelIdeal.Gen Cert.Pure
open Idealize.ShloMosaic Idealize.ShloMosaic.TcCoe Idealize.ShloMosaic.Tactic

section Pads
variable (X : FVec Ideal S16x8649x4 .f32) (P : FVec Ideal S16x8649 .f32) (A : FVec Ideal S8649x4 .f32)

/-- The padded differences at a candidate. -/
theorem padX_at (z : FVec Ideal S_ .f32) (ch : Fin 4) (b : Fin 16) (i : Fin 16384) (h : i.val < 8649) :
    pad S4x16x16384 ![0, 0, 0] ![0, 0, 7735] ![0, 0, 0] (transpose S4x16x8649 [2, 0, 1] X transposes_S16x8649x4_S4x16x8649_2_0_1) z
      pads_S4x16x8649_S4x16x16384_000_000_077350 h_S_ (ix3 ch b i) = X (ix3 b ⟨i.val, h⟩ ch) := by
  refine (pad_apply_of_inside _ _ _ _ _ _ _ _ (ix3 ch b ⟨i.val, h⟩) ?_).trans ?_
  · intro a
    fin_cases a
    · show ch.val = 0 + ch.val * (0 + 1)
      omega
    · show b.val = 0 + b.val * (0 + 1)
      omega
    · show i.val = 0 + i.val * (0 + 1)
      omega
  · refine congrArg X ?_
    funext a; fin_cases a <;> rfl

/-- The padded anchors at a candidate. -/
theorem padA_at (z : FVec Ideal S_ .f32) (ch : Fin 4) (i : Fin 16384) (h : i.val < 8649) :
    pad S4x1x16384 ![0, 0, 0] ![0, 0, 7735] ![0, 0, 0] (broadcastInDim S4x1x8649 ![0, 2] bcast_S4x8649_S4x1x8649_0_2 (transpose S4x8649 [1, 0] A transposes_S8649x4_S4x8649_1_0)) z
      pads_S4x1x8649_S4x1x16384_000_000_077350 h_S_ (ix3 ch 0 i) = A (ix2 ⟨i.val, h⟩ ch) := by
  refine (pad_apply_of_inside _ _ _ _ _ _ _ _ (ix3 ch 0 ⟨i.val, h⟩) ?_).trans ?_
  · intro a
    fin_cases a
    · show ch.val = 0 + ch.val * (0 + 1)
      omega
    · rfl
    · show i.val = 0 + i.val * (0 + 1)
      omega
  · refine congrArg A ?_
    funext a; fin_cases a <;> rfl

/-- The padded scores. -/
theorem padP_at (z : FVec Ideal S_ .f32) (b : Fin 16) (i : Fin 16384) :
    pad S16x16384 ![0, 0] ![0, 7735] ![0, 0] P z pads_S16x8649_S16x16384_000_077350 h_S_ (ix2 b i)
      = if h : i.val < 8649 then P (ix2 b ⟨i.val, h⟩) else z (Shape.Idx.first h_S_) := by
  split
  · rename_i h
    refine pad_apply_of_inside _ _ _ _ _ _ _ _ (ix2 b ⟨i.val, h⟩) ?_
    intro a
    fin_cases a
    · show b.val = 0 + b.val * (0 + 1)
      omega
    · show i.val = 0 + i.val * (0 + 1)
      omega
  · rename_i h
    refine pad_apply_of_not_inside _ _ _ _ _ _ _ _ 1 ?_
    rintro ⟨_, _, h3⟩
    refine h ?_
    have h4 : (i.val - 0) / (0 + 1) < 8649 := h3
    omega

end Pads

end Cert.KernelIdeal.Run

end
-- ==== Proof.KernelFin.lean ====
/- The kernel's two results, from the arguments. -/
module

public import proofs.«01_k».proof.Proof.KernelOut
public import proofs.«01_k».proof.Proof.KernelPads

@[expose] public section

set_option maxRecDepth 16384

noncomputable section

namespace Cert.KernelIdeal.Run

open Cert.KernelIdeal Cert.KernelIdeal.Gen Cert.Pure
open Idealize.ShloMosaic Idealize.ShloMosaic.TcCoe Idealize.ShloMosaic.Tactic

variable (m : (ℓ : Loc nD τ sig) → Buf (Elt Ideal) ℓ) (c : Dev nD)

/-- The differences, by image and anchor. -/
abbrev Xk : FVec Ideal S16x8649x4 .f32 := shapeCast S16x8649x4 (m ((c : Thread nD τ).loc main_arg0)) shapeCasts_S16x31x31x36_S16x8649x4
/-- The scores, by image and anchor. -/
abbrev Pk : FVec Ideal S16x8649 .f32 := shapeCast S16x8649 (m ((c : Thread nD τ).loc main_arg1)) shapeCasts_S16x31x31x9_S16x8649
/-- The anchors. -/
abbrev Ak : FVec Ideal S8649x4 .f32 := m ((c : Thread nD τ).loc main_arg3)

theorem in0 (ch : Fin 4) (b : Fin 16) (i : Fin 16384) (h : i.val < 8649) :
    (win0_0.stage (cfg0.slots t0_0 0)).view.read (Elt Ideal) ((hstage0_0 0).unread (iblk m c 0 t0_0)) (ix3 ch b i) = Xk m c (ix3 b ⟨i.val, h⟩ ch) := by
  have e : (win0_0.stage (cfg0.slots t0_0 0)).view.read (Elt Ideal) ((hstage0_0 0).unread (iblk m c 0 t0_0)) = _ := ((hstage0_0 0).read_unread (iblk m c 0 t0_0)).trans ((iblk0 m c).trans (V_deltas m c))
  exact (congrFun e _).trans (padX_at _ _ ch b i h)

theorem in1 (b : Fin 16) (i : Fin 16384) :
    (win0_1.stage (cfg0.slots t0_0 1)).view.read (Elt Ideal) ((hstage0_1 0).unread (iblk m c 1 t0_0)) (ix2 b i) = if h : i.val < 8649 then Pk m c (ix2 b ⟨i.val, h⟩) else ((-1 : ℝ) : EReal) := by
  have e : (win0_1.stage (cfg0.slots t0_0 1)).view.read (Elt Ideal) ((hstage0_1 0).unread (iblk m c 1 t0_0)) = _ := ((hstage0_1 0).read_unread (iblk m c 1 t0_0)).trans ((iblk1 m c).trans (V_scores m c))
  refine (congrFun e _).trans ((padP_at _ _ b i).trans ?_)
  rw [show (constant (F := Ideal) S_ .f32 0xBF800000#32) (Shape.Idx.first h_S_) = ((-1 : ℝ) : EReal) from Cert.ReferenceIdeal.Val.neg_one_f32]

theorem in2 (ch : Fin 4) (i : Fin 16384) (h : i.val < 8649) :
    (win0_2.stage (cfg0.slots t0_0 2)).view.read (Elt Ideal) ((hstage0_2 0).unread (iblk m c 2 t0_0)) (ix3 ch 0 i) = Ak m c (ix2 ⟨i.val, h⟩ ch) := by
  have e : (win0_2.stage (cfg0.slots t0_0 2)).view.read (Elt Ideal) ((hstage0_2 0).unread (iblk m c 2 t0_0)) = _ := ((hstage0_2 0).read_unread (iblk m c 2 t0_0)).trans ((iblk2 m c).trans (V_anchors m c))
  exact (congrFun e _).trans (padA_at _ _ ch i h)

theorem boxes_of (Y : FVec Ideal S16x8x256 .f32) (b : Fin 16) (o : Fin 256) (ch : Fin 4) :
    transpose S16x256x4 [0, 2, 1] (extractStridedSlice S16x4x256 ![0, 0, 0] Y slices_S16x8x256_S16x4x256_0_0_0) transposes_S16x4x256_S16x256x4_0_2_1 (ix3 b o ch)
      = Y (ix3 b (ch.castLE (by decide)) o) := by
  refine congrArg Y ?_
  funext a; fin_cases a
  · refine Fin.ext ?_
    show 0 + b.val = b.val
    omega
  · refine Fin.ext ?_
    show 0 + ch.val = ch.val
    omega
  · refine Fin.ext ?_
    show 0 + o.val = o.val
    omega

theorem scores_of (Y : FVec Ideal S16x8x256 .f32) (b : Fin 16) (o : Fin 256) :
    shapeCast S16x256 (extractStridedSlice S16x1x256 ![0, 4, 0] Y slices_S16x8x256_S16x1x256_0_4_0) shapeCasts_S16x1x256_S16x256 (ix2 b o)
      = Y (ix3 b 4 o) := by
  refine Eq.trans (b := (extractStridedSlice S16x1x256 ![0, 4, 0] Y slices_S16x8x256_S16x1x256_0_4_0) (ix3 b 0 o)) ?_ ?_
  · generalize (extractStridedSlice S16x1x256 ![0, 4, 0] Y slices_S16x8x256_S16x1x256_0_4_0) = Z
    pointwise []
    try rfl
  · refine congrArg Y ?_
    funext a; fin_cases a
    · refine Fin.ext ?_
      show 0 + b.val = b.val
      omega
    · rfl
    · refine Fin.ext ?_
      show 0 + o.val = o.val
      omega

/-- The boxes the kernel leaves. -/
def boxK : FVec Ideal S16x256x4 .f32 := Pipeline.afterTail₀ cfgs (datsV m) 0 (V0 m) [hostOps1] c main_v0_0
/-- The scores the kernel leaves. -/
def scoreK : FVec Ideal S16x256 .f32 := Pipeline.afterTail₀ cfgs (datsV m) 0 (V0 m) [hostOps1] c main_v0_1

theorem boxK_at (b : Fin 16) (o : Fin 256) (ch : Fin 4) : boxK m c (ix3 b o ch) = outV m c t0_0 (ix3 b (ch.castLE (by decide)) o) :=
  (congrFun (tail_v0_0 m c) _).trans (boxes_of _ b o ch)

theorem scoreK_at (b : Fin 16) (o : Fin 256) : scoreK m c (ix2 b o) = outV m c t0_0 (ix3 b 4 o) :=
  (congrFun (tail_v0_1 m c) _).trans (scores_of _ b o)

variable (hs : ∀ (b : Fin 16) (i : Fin 8649), ((-1 : ℝ) : EReal) ≤ Pk m c (ix2 b i))
  (T : Cert.ReferenceIdeal.S16x1000x4.Idx → EReal) (hT : ∀ (b : Fin 16) (r : ℕ) (hr : r < 1000) (ch : Fin 4), corner (Xk m c) (Ak m c) ch b (Cert.ReferenceIdeal.Val.ord (Pk m c) b ⟨r, hr⟩) = T (ix3 b ⟨r, hr⟩ ch))

include hs hT in
theorem kernel_none (b : Fin 16) (o : Fin 256) (h : Nat.count (fun r => kpt (Cert.ReferenceIdeal.Val.tab T) b r = true) 1024 ≤ o.val) :
    scoreK m c (ix2 b o) = 0 ∧ ∀ ch : Fin 4, boxK m c (ix3 b o ch) = 0 := by
  refine ⟨(scoreK_at m c b o).trans ?_, fun ch => (boxK_at m c b o ch).trans ?_⟩
  · exact pay_none c (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (Memref.whole cc0_scratch0) (Memref.isWhole_whole cc0_scratch0) (Memref.whole cc0_scratch1) (Memref.isWhole_whole cc0_scratch1) (Memref.whole cc0_scratch2) (Memref.isWhole_whole cc0_scratch2) ((hstage0_0 0).unread (iblk m c 0 t0_0)) ((hstage0_1 0).unread (iblk m c 1 t0_0)) ((hstage0_2 0).unread (iblk m c 2 t0_0)) (Xk m c) (Pk m c) (Ak m c) (in0 m c) (in1 m c) (in2 m c) hs T hT b 4 o h
  · exact pay_none c (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (Memref.whole cc0_scratch0) (Memref.isWhole_whole cc0_scratch0) (Memref.whole cc0_scratch1) (Memref.isWhole_whole cc0_scratch1) (Memref.whole cc0_scratch2) (Memref.isWhole_whole cc0_scratch2) ((hstage0_0 0).unread (iblk m c 0 t0_0)) ((hstage0_1 0).unread (iblk m c 1 t0_0)) ((hstage0_2 0).unread (iblk m c 2 t0_0)) (Xk m c) (Pk m c) (Ak m c) (in0 m c) (in1 m c) (in2 m c) hs T hT b (ch.castLE (by decide)) o h

include hs hT in
theorem kernel_kept (b : Fin 16) (o : Fin 256) (r : ℕ) (hr : r < 1000) (hk : kpt (Cert.ReferenceIdeal.Val.tab T) b r = true)
    (hc : Nat.count (fun i => kpt (Cert.ReferenceIdeal.Val.tab T) b i = true) r = o.val) :
    scoreK m c (ix2 b o) = Pk m c (ix2 b (Cert.ReferenceIdeal.Val.ord (Pk m c) b ⟨r, hr⟩)) ∧ ∀ ch : Fin 4, boxK m c (ix3 b o ch) = min 1 (max 0 (T (ix3 b ⟨r, hr⟩ ch))) := by
  refine ⟨(scoreK_at m c b o).trans ?_, fun ch => (boxK_at m c b o ch).trans ?_⟩
  · exact pay_score c (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (Memref.whole cc0_scratch0) (Memref.isWhole_whole cc0_scratch0) (Memref.whole cc0_scratch1) (Memref.isWhole_whole cc0_scratch1) (Memref.whole cc0_scratch2) (Memref.isWhole_whole cc0_scratch2) ((hstage0_0 0).unread (iblk m c 0 t0_0)) ((hstage0_1 0).unread (iblk m c 1 t0_0)) ((hstage0_2 0).unread (iblk m c 2 t0_0)) (Xk m c) (Pk m c) (Ak m c) (in0 m c) (in1 m c) (in2 m c) hs T hT b o r hr hk hc
  · exact pay_box c (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (Memref.whole cc0_scratch0) (Memref.isWhole_whole cc0_scratch0) (Memref.whole cc0_scratch1) (Memref.isWhole_whole cc0_scratch1) (Memref.whole cc0_scratch2) (Memref.isWhole_whole cc0_scratch2) ((hstage0_0 0).unread (iblk m c 0 t0_0)) ((hstage0_1 0).unread (iblk m c 1 t0_0)) ((hstage0_2 0).unread (iblk m c 2 t0_0)) (Xk m c) (Pk m c) (Ak m c) (in0 m c) (in1 m c) (in2 m c) hs T hT b ch o r hr hk hc

end Cert.KernelIdeal.Run

end
-- ==== Proof.PreVal.lean ====
/- What the precondition says of the scores. -/
module

public import proofs.«01_k».proof.Proof.KernelFin
public import proofs.«01_k».proof.Pre_scores_at_least_minus_one
public import Idealize.ShloMosaic.Lib.ReduceAll

@[expose] public section

set_option maxRecDepth 16384

noncomputable section

namespace Cert.Pre_scores_at_least_minus_one.Val

open Cert.Pre_scores_at_least_minus_one
open Idealize.ShloMosaic Idealize.ShloMosaic.Tactic

/-- The side conditions of the precondition hold. -/
theorem facts : Cert.Pre_scores_at_least_minus_one.Facts := ⟨by decide, by decide, by decide⟩

instance : Subsingleton S_.Idx := ⟨fun a b => funext fun x => x.elim0⟩

variable [Cert.Pre_scores_at_least_minus_one.Facts]

/-- Every score is at least minus one. -/
theorem score_ge (a0 : FVec Ideal S16x31x31x36 .f32) (a1 : FVec Ideal S16x31x31x9 .f32) (a2 : IVec S16x15 32) (a3 : FVec Ideal S8649x4 .f32)
    (h : fn (F := Ideal) a0 a1 a2 a3 = fun _ => 1#1) (i : S16x31x31x9.Idx) : ((-1 : ℝ) : EReal) ≤ a1 i := by
  have h1 := Host.reduce_andi_all _ _ _ _ (fun x => x.elim0) (congrFun h (fun x => x.elim0)) i
  rw [← Cert.ReferenceIdeal.Val.neg_one_f32]
  by_contra hc
  have h2 : BitVec.ofBool (decide (Ideal.ofBits .f32 0xBF800000#32 ≤ a1 i)) = 1#1 := h1
  rw [decide_eq_false hc] at h2
  exact absurd h2 (by decide)

end Cert.Pre_scores_at_least_minus_one.Val

end
-- ==== Proof.Alg.lean ====
/- The kernel and the reference end with the same boxes and scores. -/
module

public import proofs.«01_k».proof.Defs
public import proofs.«01_k».proof.Proof.PreVal
public import proofs.«01_k».proof.Proof.RefFrame

@[expose] public section

set_option maxRecDepth 16384

noncomputable section

namespace Cert.ReferenceIdeal.Val

open Cert.ReferenceIdeal Cert.ReferenceIdeal.Gen Cert.ReferenceIdeal.Value Cert.Pure
open Idealize.ShloMosaic Idealize.ShloMosaic.TcCoe Idealize.ShloMosaic.Tactic Idealize.ShloMosaic.StableHlo
open Cert.KernelIdeal.Run (corner kpt)

/-- The reference's boxes are the decoded corners. -/
theorem stack_corner (X : FVec Ideal S16x8649x4 .f32) (A : FVec Ideal S8649x4 .f32) (b : Fin 16) (i : Fin 8649) (ch : Fin 4) :
    stackF (lowF0 X A) (lowF1 X A) (highF0 X A) (highF1 X A) (ix3 b i ch) = corner X A ch b i := by
  fin_cases ch
  · exact (stackF_0 _ _ _ _ b i).trans (lowF0_at X A b i)
  · exact (stackF_1 _ _ _ _ b i).trans (lowF1_at X A b i)
  · exact (stackF_2 _ _ _ _ b i).trans (highF0_at X A b i)
  · exact (stackF_3 _ _ _ _ b i).trans (highF1_at X A b i)

/-- A selected box is the corner of the ordered candidate. -/
theorem sel_corner (V : Valuation τ sig (Elt Ideal)) (X : FVec Ideal S16x8649x4 .f32) (P : FVec Ideal S16x8649 .f32) (A : FVec Ideal S8649x4 .f32)
    (hX : shapeCast S16x8649x4 (V (Proc.devRef .tc main_arg0)) shapeCasts_S16x31x31x36_S16x8649x4 = X) (hA : V (Proc.devRef .tc main_arg3) = A)
    (hP : scoreF V = P) (b : Fin 16) (r : Fin 1000) (ch : Fin 4) : corner X A ch b (ord P b r) = selB V (ix3 b r ch) := by
  subst hX hA hP
  exact ((selB_at V b r ch).trans (stack_corner _ _ b _ ch)).symm

end Cert.ReferenceIdeal.Val

namespace Cert.Agree

open Idealize.ShloMosaic Idealize.ShloMosaic.Tactic Cert.Pure
open Cert.KernelIdeal.Run (kpt boxK scoreK Xk Pk Ak kernel_kept kernel_none)
open Cert.ReferenceIdeal.Val (tab selB selS scoreF resB resS ref_kept ref_none)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (hP : scoreF (StableHlo.launchContents m' c) = Pk m c)
  (hs : ∀ (b : Fin 16) (i : Fin 8649), ((-1 : ℝ) : EReal) ≤ Pk m c (ix2 b i))
  (hT : ∀ (b : Fin 16) (r : ℕ) (hr : r < 1000) (ch : Fin 4), Cert.KernelIdeal.Run.corner (Xk m c) (Ak m c) ch b (Cert.ReferenceIdeal.Val.ord (Pk m c) b ⟨r, hr⟩) = selB (StableHlo.launchContents m' c) (ix3 b ⟨r, hr⟩ ch))

include hP hs hT in
/-- Entry by entry the two results agree. -/
theorem entries (b : Fin 16) (o : Fin 256) : resS m' c (ix2 b o) = scoreK m c (ix2 b o) ∧ ∀ ch : Fin 4, resB m' c (ix3 b o ch) = boxK m c (ix3 b o ch) := by
  have hs' : ∀ (b : Fin 16) (i : Fin 8649), ((-1 : ℝ) : EReal) ≤ scoreF (StableHlo.launchContents m' c) (ix2 b i) := by
    rw [hP]; exact hs
  by_cases h : ∃ r : ℕ, r < 1000 ∧ kpt (tab (selB (StableHlo.launchContents m' c))) b r = true ∧ Nat.count (fun i => kpt (tab (selB (StableHlo.launchContents m' c))) b i = true) r = o.val
  · obtain ⟨r, hr, hk, hc⟩ := h
    have hR := ref_kept m' c hs' b o ⟨r, hr⟩ hk hc
    have hK := kernel_kept m c hs _ hT b o r hr hk hc
    refine ⟨hR.1.trans (Eq.trans ?_ hK.1.symm), fun ch => (hR.2 ch).trans (hK.2 ch).symm⟩
    rw [Cert.ReferenceIdeal.Val.selS_at, hP]
  · have hcount : ∀ n, Nat.count (fun i => kpt (tab (selB (StableHlo.launchContents m' c))) b i = true) n ≤ o.val := by
      intro n
      by_contra hn
      obtain ⟨r, _, hk, hc⟩ := count_reached (kpt (tab (selB (StableHlo.launchContents m' c))) b) o.val n (not_le.mp hn)
      refine h ⟨r, ?_, hk, hc⟩
      have hk' := hk
      unfold kpt at hk'
      rw [Bool.and_eq_true] at hk'
      exact of_decide_eq_true hk'.1
    have hR := ref_none m' c hs' b o (hcount 1000)
    have hK := kernel_none m c hs _ hT b o (hcount 1024)
    exact ⟨hR.1.trans hK.1.symm, fun ch => (hR.2 ch).trans (hK.2 ch).symm⟩

include hP hs hT in
theorem scores : resS m' c = scoreK m c := by
  funext y
  obtain ⟨b, o, rfl⟩ : ∃ (b : Fin 16) (o : Fin 256), y = ix2 b o := ⟨y 0, y 1, by funext a; fin_cases a <;> rfl⟩
  exact (entries m m' c hP hs hT b o).1

include hP hs hT in
theorem boxes : resB m' c = boxK m c := by
  funext y
  obtain ⟨b, o, ch, rfl⟩ : ∃ (b : Fin 16) (o : Fin 256) (ch : Fin 4), y = ix3 b o ch := ⟨y 0, y 1, y 2, by funext a; fin_cases a <;> rfl⟩
  exact (entries m m' c hP hs hT b o).2 ch

end Cert.Agree

end
-- ==== Proof.AlgClaim.lean ====
/- The claim that the kernel and the reference agree. -/
module

public import proofs.«01_k».proof.Proof.Alg

@[expose] public section

set_option maxRecDepth 16384

noncomputable section

namespace Cert.Agree

open Idealize.ShloMosaic Idealize.ShloMosaic.Tactic Cert.Pure
open Cert.KernelIdeal.Run (kpt boxK scoreK Xk Pk Ak datsV runV)
open Cert.ReferenceIdeal.Val (tab selB selS scoreF resB resS)

/-- The kernel ends with its two results and its arguments unchanged. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v0_0) = boxK m c
      ∧ r.2.mem ((c.tc : Thread Cert.KernelIdeal.nD Cert.KernelIdeal.τ).loc Cert.KernelIdeal.main_v0_1) = scoreK m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run _ _ _).mono (fun _ h c =>
    ⟨(h.1 c).2 Cert.KernelIdeal.main_v0_0 (Pipeline.mem_restRefs_of Cert.KernelIdeal.main_v0_0 (by decide) (by decide)),
     (h.1 c).2 Cert.KernelIdeal.main_v0_1 (Pipeline.mem_restRefs_of Cert.KernelIdeal.main_v0_1 (by decide) (by decide)),
     ((h.1 c).2 Cert.KernelIdeal.main_arg0 (Pipeline.mem_restRefs_of Cert.KernelIdeal.main_arg0 (by decide) (by decide))).trans (Cert.KernelIdeal.Gen.W_main_arg0 m (datsV m) c),
     ((h.1 c).2 Cert.KernelIdeal.main_arg1 (Pipeline.mem_restRefs_of Cert.KernelIdeal.main_arg1 (by decide) (by decide))).trans (Cert.KernelIdeal.Gen.W_main_arg1 m (datsV m) c),
     ((h.1 c).2 Cert.KernelIdeal.main_arg2 (Pipeline.mem_restRefs_of Cert.KernelIdeal.main_arg2 (by decide) (by decide))).trans (Cert.KernelIdeal.Gen.W_main_arg2 m (datsV m) c),
     ((h.1 c).2 Cert.KernelIdeal.main_arg3 (Pipeline.mem_restRefs_of Cert.KernelIdeal.main_arg3 (by decide) (by decide))).trans (Cert.KernelIdeal.Gen.W_main_arg3 m (datsV m) c)⟩)
    (runV m g)

/-- The reference ends with its two results and its arguments unchanged. -/
theorem reference_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v83) = resB m' c
      ∧ r.2.mem ((c.tc : Thread Cert.ReferenceIdeal.nD Cert.ReferenceIdeal.τ).loc Cert.ReferenceIdeal.main_v80) = resS m' c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run _ _ _).mono (fun _ h c =>
    ⟨h c Cert.ReferenceIdeal.main_v83 (by decide), h c Cert.ReferenceIdeal.main_v80 (by decide),
     (h c Cert.ReferenceIdeal.main_arg0 (by decide)).trans (Cert.ReferenceIdeal.Run.arg0_keep m' c), (h c Cert.ReferenceIdeal.main_arg1 (by decide)).trans (Cert.ReferenceIdeal.Run.arg1_keep m' c),
     (h c Cert.ReferenceIdeal.main_arg2 (by decide)).trans (Cert.ReferenceIdeal.Run.arg2_keep m' c), (h c Cert.ReferenceIdeal.main_arg3 (by decide)).trans (Cert.ReferenceIdeal.Run.arg3_keep m' c)⟩)
    (Cert.ReferenceIdeal.Value.run_fold m' g')

/-- The kernel and the reference agree wherever the scores are at least minus one. -/
theorem agree : Cert.algebraic_KernelIdeal_ReferenceIdeal_pre_scores_at_least_minus_one (hKernelIdeal := Cert.KernelIdeal.Gen.facts) (hReferenceIdeal := Cert.ReferenceIdeal.Gen.facts)
    (hPre_scores_at_least_minus_one := Cert.Pre_scores_at_least_minus_one.Val.facts) := by
  intro m g m' g' hpre harg
  haveI := Cert.Pre_scores_at_least_minus_one.Val.facts
  have key : ∀ c : Dev Cert.KernelIdeal.nD, resB m' c = boxK m c ∧ resS m' c = scoreK m c := by
    intro c
    have hs : ∀ (b : Fin 16) (i : Fin 8649), ((-1 : ℝ) : EReal) ≤ Pk m c (ix2 b i) := fun b i =>
      Cert.Pre_scores_at_least_minus_one.Val.score_ge _ _ _ _ (hpre c) _
    have e0 : StableHlo.launchContents m' c (Proc.devRef .tc Cert.ReferenceIdeal.main_arg0) = _ := (StableHlo.launchContents_devRef m' c _).trans (harg c).1
    have e1 : StableHlo.launchContents m' c (Proc.devRef .tc Cert.ReferenceIdeal.main_arg1) = _ := (StableHlo.launchContents_devRef m' c _).trans (harg c).2.1
    have e3 : StableHlo.launchContents m' c (Proc.devRef .tc Cert.ReferenceIdeal.main_arg3) = _ := (StableHlo.launchContents_devRef m' c _).trans (harg c).2.2.2
    have hP : scoreF (StableHlo.launchContents m' c) = Pk m c := by
      unfold Cert.ReferenceIdeal.Val.scoreF
      rw [e1]
    have hT := fun (b : Fin 16) (r : ℕ) (hr : r < 1000) (ch : Fin 4) => Cert.ReferenceIdeal.Val.sel_corner (StableHlo.launchContents m' c) (Xk m c) (Pk m c) (Ak m c) (by rw [e0]) e3 hP b ⟨r, hr⟩ ch
    exact ⟨boxes m m' c hP hs hT, scores m m' c hP hs hT⟩
  refine ⟨fun c => boxK m c, fun c => scoreK m c, kernel_run m g, (θ_run _ _ _).mono (fun _ h c => ?_) (reference_run m' g')⟩
  exact ⟨(h c).1.trans (key c).1, (h c).2.1.trans (key c).2, (h c).2.2⟩

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.IdealFrame
public import proofs.«01_k».proof.Proof.RefFrame
public import proofs.«01_k».proof.Proof.AlgClaim

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_scores_at_least_minus_one.Val.facts,
  fun m g _ => Cert.Kernel.Run.frame m g,
  fun m g _ => Cert.KernelIdeal.Run.frame m g,
  fun m g _ => Cert.KernelIdeal.Run.frame m g,
  fun m g _ => Cert.ReferenceIdeal.Run.frame m g,
  fun m g _ => Cert.ReferenceIdeal.Run.frame m g,
  trivial,
  Cert.Agree.agree⟩

end Cert.Proof

end
